-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ring (m : (ℓ : Loc Cert.Ring.nD Cert.Ring.τ Cert.Ring.sig) → Buf (Elt Bits) ℓ) : Prop :=
  True

def Pre_RingIdeal (m : (ℓ : Loc Cert.RingIdeal.nD Cert.RingIdeal.τ Cert.RingIdeal.sig) → Buf (Elt Ideal) ℓ) : Prop :=
  True

def Pre_RingIdeal_finite_KernelIdeal [hPre_finite_KernelIdeal : Cert.Pre_finite_KernelIdeal.Facts] (m : (ℓ : Loc Cert.RingIdeal.nD Cert.RingIdeal.τ Cert.RingIdeal.sig) → Buf (Elt Ideal) ℓ) : Prop :=
  ∀ c : Dev Cert.RingIdeal.nD,
    (Cert.Pre_finite_KernelIdeal.fn (F := Ideal) (m ((c.tc : Thread Cert.RingIdeal.nD Cert.RingIdeal.τ).loc Cert.RingIdeal.main_arg0)) (m ((c.tc : Thread Cert.RingIdeal.nD Cert.RingIdeal.τ).loc Cert.RingIdeal.main_arg1)) (m ((c.tc : Thread Cert.RingIdeal.nD Cert.RingIdeal.τ).loc Cert.RingIdeal.main_arg2))).1 = (fun _ => 1#1)
    ∧ (Cert.Pre_finite_KernelIdeal.fn (F := Ideal) (m ((c.tc : Thread Cert.RingIdeal.nD Cert.RingIdeal.τ).loc Cert.RingIdeal.main_arg0)) (m ((c.tc : Thread Cert.RingIdeal.nD Cert.RingIdeal.τ).loc Cert.RingIdeal.main_arg1)) (m ((c.tc : Thread Cert.RingIdeal.nD Cert.RingIdeal.τ).loc Cert.RingIdeal.main_arg2))).2 = (fun _ => 1#1)

def Pre_WholeIdeal (m : (ℓ : Loc Cert.WholeIdeal.nD Cert.WholeIdeal.τ Cert.WholeIdeal.sig) → Buf (Elt Ideal) ℓ) : Prop :=
  True

def Pre_WholeIdeal_finite_WholeIdeal [hPre_finite_WholeIdeal : Cert.Pre_finite_WholeIdeal.Facts] (m : (ℓ : Loc Cert.WholeIdeal.nD Cert.WholeIdeal.τ Cert.WholeIdeal.sig) → Buf (Elt Ideal) ℓ) : Prop :=
  ∀ c : Dev Cert.WholeIdeal.nD,
    (Cert.Pre_finite_WholeIdeal.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2))).1 = (fun _ => 1#1)
    ∧ (Cert.Pre_finite_WholeIdeal.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ring [hRing : Cert.Ring.Facts] : Prop :=
  ∀ (m : (ℓ : Loc Cert.Ring.nD Cert.Ring.τ Cert.Ring.sig) → Buf (Elt Bits) ℓ) (g : Dev Cert.Ring.nD → PrngReg), Pre_Ring m →
    θ_run (Cert.Ring.defs (F := Bits)) (onTc (τ := Cert.Ring.τ) (Cert.Ring.main (F := Bits))) ⟨m, fun _ => 0, g⟩ (fun r => (∀ c : Dev Cert.Ring.nD,
      r.2.mem ((c.tc : Thread Cert.Ring.nD Cert.Ring.τ).loc Cert.Ring.main_arg0) = m ((c.tc : Thread Cert.Ring.nD Cert.Ring.τ).loc Cert.Ring.main_arg0)
      ∧ r.2.mem ((c.tc : Thread Cert.Ring.nD Cert.Ring.τ).loc Cert.Ring.main_arg1) = m ((c.tc : Thread Cert.Ring.nD Cert.Ring.τ).loc Cert.Ring.main_arg1)
      ∧ r.2.mem ((c.tc : Thread Cert.Ring.nD Cert.Ring.τ).loc Cert.Ring.main_arg2) = m ((c.tc : Thread Cert.Ring.nD Cert.Ring.τ).loc Cert.Ring.main_arg2))
      ∧ r.2.sem = fun _ => 0)

def quiescent_RingIdeal [hRingIdeal : Cert.RingIdeal.Facts] : Prop :=
  ∀ (m : (ℓ : Loc Cert.RingIdeal.nD Cert.RingIdeal.τ Cert.RingIdeal.sig) → Buf (Elt Ideal) ℓ) (g : Dev Cert.RingIdeal.nD → PrngReg), Pre_RingIdeal m →
    θ_run (Cert.RingIdeal.defs (F := Ideal)) (onTc (τ := Cert.RingIdeal.τ) (Cert.RingIdeal.main (F := Ideal))) ⟨m, fun _ => 0, g⟩ (fun r => (∀ c : Dev Cert.RingIdeal.nD,
      r.2.mem ((c.tc : Thread Cert.RingIdeal.nD Cert.RingIdeal.τ).loc Cert.RingIdeal.main_arg0) = m ((c.tc : Thread Cert.RingIdeal.nD Cert.RingIdeal.τ).loc Cert.RingIdeal.main_arg0)
      ∧ r.2.mem ((c.tc : Thread Cert.RingIdeal.nD Cert.RingIdeal.τ).loc Cert.RingIdeal.main_arg1) = m ((c.tc : Thread Cert.RingIdeal.nD Cert.RingIdeal.τ).loc Cert.RingIdeal.main_arg1)
      ∧ r.2.mem ((c.tc : Thread Cert.RingIdeal.nD Cert.RingIdeal.τ).loc Cert.RingIdeal.main_arg2) = m ((c.tc : Thread Cert.RingIdeal.nD Cert.RingIdeal.τ).loc Cert.RingIdeal.main_arg2))
      ∧ r.2.sem = fun _ => 0)

def quiescent_RingIdeal_pre_finite_KernelIdeal [hRingIdeal : Cert.RingIdeal.Facts] [hPre_finite_KernelIdeal : Cert.Pre_finite_KernelIdeal.Facts] : Prop :=
  ∀ (m : (ℓ : Loc Cert.RingIdeal.nD Cert.RingIdeal.τ Cert.RingIdeal.sig) → Buf (Elt Ideal) ℓ) (g : Dev Cert.RingIdeal.nD → PrngReg), Pre_RingIdeal_finite_KernelIdeal m →
    θ_run (Cert.RingIdeal.defs (F := Ideal)) (onTc (τ := Cert.RingIdeal.τ) (Cert.RingIdeal.main (F := Ideal))) ⟨m, fun _ => 0, g⟩ (fun r => (∀ c : Dev Cert.RingIdeal.nD,
      r.2.mem ((c.tc : Thread Cert.RingIdeal.nD Cert.RingIdeal.τ).loc Cert.RingIdeal.main_arg0) = m ((c.tc : Thread Cert.RingIdeal.nD Cert.RingIdeal.τ).loc Cert.RingIdeal.main_arg0)
      ∧ r.2.mem ((c.tc : Thread Cert.RingIdeal.nD Cert.RingIdeal.τ).loc Cert.RingIdeal.main_arg1) = m ((c.tc : Thread Cert.RingIdeal.nD Cert.RingIdeal.τ).loc Cert.RingIdeal.main_arg1)
      ∧ r.2.mem ((c.tc : Thread Cert.RingIdeal.nD Cert.RingIdeal.τ).loc Cert.RingIdeal.main_arg2) = m ((c.tc : Thread Cert.RingIdeal.nD Cert.RingIdeal.τ).loc Cert.RingIdeal.main_arg2))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeIdeal_pre_finite_WholeIdeal [hWholeIdeal : Cert.WholeIdeal.Facts] [hPre_finite_WholeIdeal : Cert.Pre_finite_WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_finite_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def preserves_Kernel_KernelIdeal : Prop :=
  IdealRules.named_const.Statement Cert.KernelIdeal.κ "s" .f32 0x3D3504F3#32 (((Real.sqrt 512)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![8192, 512]⟩ 0 2 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![8192, 512]⟩ 0 2 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 512]⟩ ⟨2, ![8192, 512]⟩ 0 2 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![8192, 512]⟩ 0 2 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def preserves_Ring_RingIdeal : Prop :=
  IdealRules.named_const.Statement Cert.RingIdeal.κ "s" .f32 0x3D3504F3#32 (((Real.sqrt 512)⁻¹ : ℝ) : EReal)

def algebraic_RingIdeal_WholeIdeal_pre_finite_KernelIdeal [hRingIdeal : Cert.RingIdeal.Facts] [hWholeIdeal : Cert.WholeIdeal.Facts] [hPre_finite_KernelIdeal : Cert.Pre_finite_KernelIdeal.Facts] : Prop :=
  ∀ (m : (ℓ : Loc Cert.RingIdeal.nD Cert.RingIdeal.τ Cert.RingIdeal.sig) → Buf (Elt Ideal) ℓ) (g : Dev Cert.RingIdeal.nD → PrngReg)
    (m' : (ℓ : Loc Cert.WholeIdeal.nD Cert.WholeIdeal.τ Cert.WholeIdeal.sig) → Buf (Elt Ideal) ℓ) (g' : Dev Cert.WholeIdeal.nD → PrngReg), Pre_RingIdeal_finite_KernelIdeal m →
    (∀ c : Dev Cert.RingIdeal.nD,
      m ((c.tc : Thread Cert.RingIdeal.nD Cert.RingIdeal.τ).loc Cert.RingIdeal.main_arg0) = Layout.block ⟨2, ![4096, 512]⟩ ⟨2, ![131072, 512]⟩ 0 32 c (m' (((0 : Dev Cert.WholeIdeal.nD).tc : Thread Cert.WholeIdeal.nD Cert.WholeIdeal.τ).loc Cert.WholeIdeal.main_arg0))
      ∧ m ((c.tc : Thread Cert.RingIdeal.nD Cert.RingIdeal.τ).loc Cert.RingIdeal.main_arg1) = Layout.block ⟨2, ![4096, 512]⟩ ⟨2, ![131072, 512]⟩ 0 32 c (m' (((0 : Dev Cert.WholeIdeal.nD).tc : Thread Cert.WholeIdeal.nD Cert.WholeIdeal.τ).loc Cert.WholeIdeal.main_arg1))
      ∧ m ((c.tc : Thread Cert.RingIdeal.nD Cert.RingIdeal.τ).loc Cert.RingIdeal.main_arg2) = Layout.block ⟨2, ![4096, 512]⟩ ⟨2, ![131072, 512]⟩ 0 32 c (m' (((0 : Dev Cert.WholeIdeal.nD).tc : Thread Cert.WholeIdeal.nD Cert.WholeIdeal.τ).loc Cert.WholeIdeal.main_arg2))) →
    ∃ (v0 : Buf (Elt Ideal) (((0 : Dev Cert.WholeIdeal.nD).tc : Thread Cert.WholeIdeal.nD Cert.WholeIdeal.τ).loc Cert.WholeIdeal.main_v17)),
      θ_run (Cert.RingIdeal.defs (F := Ideal)) (onTc (τ := Cert.RingIdeal.τ) (Cert.RingIdeal.main (F := Ideal))) ⟨m, fun _ => 0, g⟩ (fun r => ∀ c : Dev Cert.RingIdeal.nD,
          r.2.mem ((c.tc : Thread Cert.RingIdeal.nD Cert.RingIdeal.τ).loc Cert.RingIdeal.main_v1) = Layout.block ⟨2, ![4096, 512]⟩ ⟨2, ![131072, 512]⟩ 0 32 c v0
          ∧ r.2.mem ((c.tc : Thread Cert.RingIdeal.nD Cert.RingIdeal.τ).loc Cert.RingIdeal.main_arg0) = m ((c.tc : Thread Cert.RingIdeal.nD Cert.RingIdeal.τ).loc Cert.RingIdeal.main_arg0)
          ∧ r.2.mem ((c.tc : Thread Cert.RingIdeal.nD Cert.RingIdeal.τ).loc Cert.RingIdeal.main_arg1) = m ((c.tc : Thread Cert.RingIdeal.nD Cert.RingIdeal.τ).loc Cert.RingIdeal.main_arg1)
          ∧ r.2.mem ((c.tc : Thread Cert.RingIdeal.nD Cert.RingIdeal.τ).loc Cert.RingIdeal.main_arg2) = m ((c.tc : Thread Cert.RingIdeal.nD Cert.RingIdeal.τ).loc Cert.RingIdeal.main_arg2))
      ∧ θ_run (Cert.WholeIdeal.defs (F := Ideal)) (onTc (τ := Cert.WholeIdeal.τ) (Cert.WholeIdeal.main (F := Ideal))) ⟨m', fun _ => 0, g'⟩ (fun r =>
          r.2.mem (((0 : Dev Cert.WholeIdeal.nD).tc : Thread Cert.WholeIdeal.nD Cert.WholeIdeal.τ).loc Cert.WholeIdeal.main_v17) = v0
          ∧ r.2.mem (((0 : Dev Cert.WholeIdeal.nD).tc : Thread Cert.WholeIdeal.nD Cert.WholeIdeal.τ).loc Cert.WholeIdeal.main_arg0) = m' (((0 : Dev Cert.WholeIdeal.nD).tc : Thread Cert.WholeIdeal.nD Cert.WholeIdeal.τ).loc Cert.WholeIdeal.main_arg0)
          ∧ r.2.mem (((0 : Dev Cert.WholeIdeal.nD).tc : Thread Cert.WholeIdeal.nD Cert.WholeIdeal.τ).loc Cert.WholeIdeal.main_arg1) = m' (((0 : Dev Cert.WholeIdeal.nD).tc : Thread Cert.WholeIdeal.nD Cert.WholeIdeal.τ).loc Cert.WholeIdeal.main_arg1)
          ∧ r.2.mem (((0 : Dev Cert.WholeIdeal.nD).tc : Thread Cert.WholeIdeal.nD Cert.WholeIdeal.τ).loc Cert.WholeIdeal.main_arg2) = m' (((0 : Dev Cert.WholeIdeal.nD).tc : Thread Cert.WholeIdeal.nD Cert.WholeIdeal.τ).loc Cert.WholeIdeal.main_arg2))

def Claim : Prop :=
  ∃ (hKernel : Cert.Kernel.Facts) (hKernelIdeal : Cert.KernelIdeal.Facts) (hReferenceIdeal : Cert.ReferenceIdeal.Facts) (hRing : Cert.Ring.Facts) (hRingIdeal : Cert.RingIdeal.Facts) (hWholeIdeal : Cert.WholeIdeal.Facts) (hPre_finite_KernelIdeal : Cert.Pre_finite_KernelIdeal.Facts) (hPre_finite_ReferenceIdeal : Cert.Pre_finite_ReferenceIdeal.Facts) (hPre_finite_WholeIdeal : Cert.Pre_finite_WholeIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ quiescent_Ring (hRing := hRing)
    ∧ quiescent_RingIdeal (hRingIdeal := hRingIdeal)
    ∧ quiescent_RingIdeal_pre_finite_KernelIdeal (hRingIdeal := hRingIdeal) (hPre_finite_KernelIdeal := hPre_finite_KernelIdeal)
    ∧ quiescent_WholeIdeal (hWholeIdeal := hWholeIdeal)
    ∧ quiescent_WholeIdeal_pre_finite_WholeIdeal (hWholeIdeal := hWholeIdeal) (hPre_finite_WholeIdeal := hPre_finite_WholeIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
    ∧ preserves_Ring_RingIdeal
    ∧ algebraic_RingIdeal_WholeIdeal_pre_finite_KernelIdeal (hRingIdeal := hRingIdeal) (hWholeIdeal := hWholeIdeal) (hPre_finite_KernelIdeal := hPre_finite_KernelIdeal)
-- ==== Pre_finite_KernelIdeal.lean ====
abbrev S4096x512 : Shape := ⟨2, ![4096, 512]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)

variable [Facts]

def fn {F : FTy → Type} [FloatOps F] (main_arg0 : FVec F S4096x512 .bf16) (main_arg1 : FVec F S4096x512 .bf16) (main_arg2 : FVec F S4096x512 .bf16) : IVec S4096x512 1 × IVec S4096x512 1 :=
  let main_v0 : FVec F S4096x512 .f32 := (extf .f32 · bitsLt_bf16_f32) main_arg0
  let main_cst : FVec F S_ .f32 := constant S_ .f32 0xFF800000#32
  let main_v1 : FVec F S4096x512 .f32 := broadcastInDim S4096x512 ![] bcast_S_S4096x512 main_cst
  let main_v2 : IVec S4096x512 1 := cmpf .ogt main_v0 main_v1
  let main_v3 : FVec F S4096x512 .f32 := (extf .f32 · bitsLt_bf16_f32) main_arg0
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : IVec S4096x512 1 := andi main_v2 main_v5
  let main_v7 : FVec F S4096x512 .f32 := (extf .f32 · bitsLt_bf16_f32) main_arg1
  let main_cst_1 : FVec F S_ .f32 := constant S_ .f32 0xFF800000#32
  let main_v8 : FVec F S4096x512 .f32 := broadcastInDim S4096x512 ![] bcast_S_S4096x512 main_cst_1
  let main_v9 : IVec S4096x512 1 := cmpf .ogt main_v7 main_v8
  let main_v10 : FVec F S4096x512 .f32 := (extf .f32 · bitsLt_bf16_f32) main_arg1
  let main_cst_2 : FVec F S_ .f32 := constant S_ .f32 0x7F800000#32
  let main_v11 : FVec F S4096x512 .f32 := broadcastInDim S4096x512 ![] bcast_S_S4096x512 main_cst_2
  let main_v12 : IVec S4096x512 1 := cmpf .olt main_v10 main_v11
  let main_v13 : IVec S4096x512 1 := andi main_v9 main_v12
  (main_v6, main_v13)
-- ==== Pre_finite_ReferenceIdeal.lean ====
abbrev S8192x512 : Shape := ⟨2, ![8192, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)

variable [Facts]

def fn {F : FTy → Type} [FloatOps F] (main_arg0 : FVec F S8192x512 .bf16) (main_arg1 : FVec F S8192x512 .bf16) (main_arg2 : FVec F S8192x512 .bf16) : IVec S8192x512 1 × IVec S8192x512 1 :=
  let main_v0 : FVec F S8192x512 .f32 := (extf .f32 · bitsLt_bf16_f32) main_arg0
  let main_cst : FVec F S_ .f32 := constant S_ .f32 0xFF800000#32
  let main_v1 : FVec F S8192x512 .f32 := broadcastInDim S8192x512 ![] bcast_S_S8192x512 main_cst
  let main_v2 : IVec S8192x512 1 := cmpf .ogt main_v0 main_v1
  let main_v3 : FVec F S8192x512 .f32 := (extf .f32 · bitsLt_bf16_f32) main_arg0
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : IVec S8192x512 1 := andi main_v2 main_v5
  let main_v7 : FVec F S8192x512 .f32 := (extf .f32 · bitsLt_bf16_f32) main_arg1
  let main_cst_1 : FVec F S_ .f32 := constant S_ .f32 0xFF800000#32
  let main_v8 : FVec F S8192x512 .f32 := broadcastInDim S8192x512 ![] bcast_S_S8192x512 main_cst_1
  let main_v9 : IVec S8192x512 1 := cmpf .ogt main_v7 main_v8
  let main_v10 : FVec F S8192x512 .f32 := (extf .f32 · bitsLt_bf16_f32) main_arg1
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_v13 : IVec S8192x512 1 := andi main_v9 main_v12
  (main_v6, main_v13)
-- ==== Pre_finite_WholeIdeal.lean ====
abbrev S131072x512 : Shape := ⟨2, ![131072, 512]⟩
abbrev S_ : Shape := ⟨0, ![]⟩

class Facts : Prop where
  bitsLt_bf16_f32 : FTy.bits .bf16 < FTy.bits .f32
  bcast_S_S131072x512 : S_.BroadcastsInDim S131072x512 (![] : Fin 0 → Fin S131072x512.rank)

variable [Facts]

def fn {F : FTy → Type} [FloatOps F] (main_arg0 : FVec F S131072x512 .bf16) (main_arg1 : FVec F S131072x512 .bf16) (main_arg2 : FVec F S131072x512 .bf16) : IVec S131072x512 1 × IVec S131072x512 1 :=
  let main_v0 : FVec F S131072x512 .f32 := (extf .f32 · bitsLt_bf16_f32) main_arg0
  let main_cst : FVec F S_ .f32 := constant S_ .f32 0xFF800000#32
  let main_v1 : FVec F S131072x512 .f32 := broadcastInDim S131072x512 ![] bcast_S_S131072x512 main_cst
  let main_v2 : IVec S131072x512 1 := cmpf .ogt main_v0 main_v1
  let main_v3 : FVec F S131072x512 .f32 := (extf .f32 · bitsLt_bf16_f32) main_arg0
  let main_cst_0 : FVec F S_ .f32 := constant S_ .f32 0x7F800000#32
  let main_v4 : FVec F S131072x512 .f32 := broadcastInDim S131072x512 ![] bcast_S_S131072x512 main_cst_0
  let main_v5 : IVec S131072x512 1 := cmpf .olt main_v3 main_v4
  let main_v6 : IVec S131072x512 1 := andi main_v2 main_v5
  let main_v7 : FVec F S131072x512 .f32 := (extf .f32 · bitsLt_bf16_f32) main_arg1
  let main_cst_1 : FVec F S_ .f32 := constant S_ .f32 0xFF800000#32
  let main_v8 : FVec F S131072x512 .f32 := broadcastInDim S131072x512 ![] bcast_S_S131072x512 main_cst_1
  let main_v9 : IVec S131072x512 1 := cmpf .ogt main_v7 main_v8
  let main_v10 : FVec F S131072x512 .f32 := (extf .f32 · bitsLt_bf16_f32) main_arg1
  let main_cst_2 : FVec F S_ .f32 := constant S_ .f32 0x7F800000#32
  let main_v11 : FVec F S131072x512 .f32 := broadcastInDim S131072x512 ![] bcast_S_S131072x512 main_cst_2
  let main_v12 : IVec S131072x512 1 := cmpf .olt main_v10 main_v11
  let main_v13 : IVec S131072x512 1 := andi main_v9 main_v12
  (main_v6, main_v13)
-- ==== Kernel.lean ====
abbrev S4096x512 : Shape := ⟨2, ![4096, 512]⟩
abbrev S2x2x4096x512 : Shape := ⟨4, ![2, 2, 4096, 512]⟩
abbrev S4096x1 : Shape := ⟨2, ![4096, 1]⟩
abbrev S2 : Shape := ⟨1, ![2]⟩
abbrev S_ : Shape := ⟨0, ![]⟩
abbrev S1 : Shape := ⟨1, ![1]⟩
abbrev S1x1x4096x512 : Shape := ⟨4, ![1, 1, 4096, 512]⟩
abbrev S1x2x4096x512 : Shape := ⟨4, ![1, 2, 4096, 512]⟩
abbrev S2x4096x512 : Shape := ⟨3, ![2, 4096, 512]⟩
abbrev S256x512 : Shape := ⟨2, ![256, 512]⟩
abbrev S256x4096 : Shape := ⟨2, ![256, 4096]⟩
abbrev S256x1 : Shape := ⟨2, ![256, 1]⟩
abbrev S256 : Shape := ⟨1, ![256]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .local _ .vmem, ⟨0, _⟩ => ⟨S4096x512, .bf16⟩
  | .local _ .vmem, ⟨1, _⟩ => ⟨S4096x512, .f32⟩
  | .local _ .vmem, ⟨2, _⟩ => ⟨S2x2x4096x512, .bf16⟩
  | .local _ .vmem, ⟨3, _⟩ => ⟨S4096x1, .f32⟩
  | .local _ .vmem, ⟨4, _⟩ => ⟨S4096x1, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 2
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.subi v2 c1_i32_0
  let c2_i32_1 : BitVec 32 := 2#32
  let v4 : BitVec 32 := Scalar.addi v3 c2_i32_1
  let c2_i32_2 : BitVec 32 := 2#32
  let v5 : BitVec 32 := Scalar.remsi v4 c2_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_3 : BitVec 32 := 1#32
  let v6 : BitVec 32 := Scalar.addi v2 c1_i32_3
  let c2_i32_4 : BitVec 32 := 2#32
  let v7 : BitVec 32 := Scalar.remsi v6 c2_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_38 : BitVec 32 := 0#32
  let c2_i32_39 : BitVec 32 := 2#32
  let v39 : BitVec 32 := Scalar.addi c0_i32_38 c2_i32_39
  let c1_i32_40 : BitVec 32 := 1#32
  ⟨c0_i32_38, v39, c1_i32_40⟩
def k0_cond1 (k0_t1 : Fin k0_t1_loop.trips) : BitVec 1 :=
  let c0_i32_38 : BitVec 32 := 0#32
  let c1_i32_40 : BitVec 32 := 1#32
  let arg10 : BitVec 32 := Scf.iv c0_i32_38 c1_i32_40 k0_t1
  let c1_i32_50 : BitVec 32 := 1#32
  let v48 : BitVec 1 := Scalar.cmpi .slt arg10 c1_i32_50
  let v49 : BitVec 32 := Scalar.extui v48
  let c0_i32_51 : BitVec 32 := 0#32
  let v50 : BitVec 1 := Scalar.cmpi .ne v49 c0_i32_51
  v50

def k0_off1 (k0_t1 : Fin k0_t1_loop.trips) : Fin 1 → Nat :=
  let c0_i32_38 : BitVec 32 := 0#32
  let c1_i32_40 : BitVec 32 := 1#32
  let arg10 : BitVec 32 := Scf.iv c0_i32_38 c1_i32_40 k0_t1
  let c2_i32_48 : BitVec 32 := 2#32
  let v46 : BitVec 32 := Scalar.remsi arg10 c2_i32_48
  ![v46.toNat]
def k0_off2 (k0_t1 : Fin k0_t1_loop.trips) : Fin 1 → Nat :=
  let c1_i32_49 : BitVec 32 := 1#32
  let c0_i32_38 : BitVec 32 := 0#32
  let c1_i32_40 : BitVec 32 := 1#32
  let arg10 : BitVec 32 := Scf.iv c0_i32_38 c1_i32_40 k0_t1
  let c2_i32_48 : BitVec 32 := 2#32
  let v46 : BitVec 32 := Scalar.remsi arg10 c2_i32_48
  let v47 : BitVec 32 := Scalar.subi c1_i32_49 v46
  ![v47.toNat]
def k0_off3 (k0_t1 : Fin k0_t1_loop.trips) : Fin 4 → Nat :=
  let c1_i32_49 : BitVec 32 := 1#32
  let c0_i32_38 : BitVec 32 := 0#32
  let c1_i32_40 : BitVec 32 := 1#32
  let arg10 : BitVec 32 := Scf.iv c0_i32_38 c1_i32_40 k0_t1
  let c2_i32_48 : BitVec 32 := 2#32
  let v46 : BitVec 32 := Scalar.remsi arg10 c2_i32_48
  let v47 : BitVec 32 := Scalar.subi c1_i32_49 v46
  let c0_i32_64 : BitVec 32 := 0#32
  let c0_i32_65 : BitVec 32 := 0#32
  let c0_i32_66 : BitVec 32 := 0#32
  ![v47.toNat, 0, 0, 0]
def k0_off4 (k0_t1 : Fin k0_t1_loop.trips) : Fin 4 → Nat :=
  let c0_i32_38 : BitVec 32 := 0#32
  let c1_i32_40 : BitVec 32 := 1#32
  let arg10 : BitVec 32 := Scf.iv c0_i32_38 c1_i32_40 k0_t1
  let c2_i32_48 : BitVec 32 := 2#32
  let v46 : BitVec 32 := Scalar.remsi arg10 c2_i32_48
  let c0_i32_67 : BitVec 32 := 0#32
  let c0_i32_68 : BitVec 32 := 0#32
  let c0_i32_69 : BitVec 32 := 0#32
  ![v46.toNat, 0, 0, 0]
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_3 : BitVec 32 := 1#32
  let v6 : BitVec 32 := Scalar.addi v2 c1_i32_3
  let c2_i32_4 : BitVec 32 := 2#32
  let v7 : BitVec 32 := Scalar.remsi v6 c2_i32_4
  let c1_i32_62 : BitVec 32 := 1#32
  let v61 : BitVec 32 := Scalar.muli v7 c1_i32_62
  let v62 : BitVec 32 := Scalar.addi c0_i32_63 v61
  v62.toNat
def k0_off5 (k0_t1 : Fin k0_t1_loop.trips) : Fin 4 → Nat :=
  let c0_i32_38 : BitVec 32 := 0#32
  let c1_i32_40 : BitVec 32 := 1#32
  let arg10 : BitVec 32 := Scf.iv c0_i32_38 c1_i32_40 k0_t1
  let c2_i32_48 : BitVec 32 := 2#32
  let v46 : BitVec 32 := Scalar.remsi arg10 c2_i32_48
  let v51 : Index := Scalar.indexCast v46
  let c0_52 : Index := 0#32
  let c0_53 : Index := 0#32
  let c0_54 : Index := 0#32
  ![v51.toNat, 0, 0, 0]
def k0_off6 (k0_t1 : Fin k0_t1_loop.trips) : Fin 4 → Nat :=
  let c0_i32_38 : BitVec 32 := 0#32
  let c1_i32_40 : BitVec 32 := 1#32
  let arg10 : BitVec 32 := Scf.iv c0_i32_38 c1_i32_40 k0_t1
  let c2_i32_48 : BitVec 32 := 2#32
  let v46 : BitVec 32 := Scalar.remsi arg10 c2_i32_48
  let v54 : Index := Scalar.indexCast v46
  let c1 : Index := 1#32
  let c0_55 : Index := 0#32
  let c0_56 : Index := 0#32
  ![v54.toNat, 1, 0, 0]
@[reducible] def k0_t2_loop : Scf.Loop 32 :=
  let c0_i32_57 : BitVec 32 := 0#32
  let c16_i32 : BitVec 32 := 16#32
  let v57 : BitVec 32 := Scalar.addi c0_i32_57 c16_i32
  let c1_i32_58 : BitVec 32 := 1#32
  ⟨c0_i32_57, v57, c1_i32_58⟩
def k0_off7 (k0_t2 : Fin k0_t2_loop.trips) : Fin 2 → Nat :=
  let c0_i32_57 : BitVec 32 := 0#32
  let c1_i32_58 : BitVec 32 := 1#32
  let arg11 : BitVec 32 := Scf.iv c0_i32_57 c1_i32_58 k0_t2
  let c256_i32 : BitVec 32 := 256#32
  let v61 : BitVec 32 := Scalar.muli arg11 c256_i32
  let v62 : Index := Scalar.indexCast v61
  let c0_62 : Index := 0#32
  ![v62.toNat, 0]
def k0_off8 (k0_t2 : Fin k0_t2_loop.trips) : Fin 2 → Nat :=
  let c0_i32_57 : BitVec 32 := 0#32
  let c1_i32_58 : BitVec 32 := 1#32
  let arg11 : BitVec 32 := Scf.iv c0_i32_57 c1_i32_58 k0_t2
  let c256_i32 : BitVec 32 := 256#32
  let v61 : BitVec 32 := Scalar.muli arg11 c256_i32
  let v68 : Index := Scalar.indexCast v61
  let c0_65 : Index := 0#32
  ![v68.toNat, 0]
def k0_cond2 (k0_t1 : Fin k0_t1_loop.trips) : BitVec 1 :=
  let c0_i32_38 : BitVec 32 := 0#32
  let c1_i32_40 : BitVec 32 := 1#32
  let arg10 : BitVec 32 := Scf.iv c0_i32_38 c1_i32_40 k0_t1
  let c1_i32_60 : BitVec 32 := 1#32
  let v58 : BitVec 1 := Scalar.cmpi .slt arg10 c1_i32_60
  let v59 : BitVec 32 := Scalar.extui v58
  let c0_i32_61 : BitVec 32 := 0#32
  let v60 : BitVec 1 := Scalar.cmpi .ne v59 c0_i32_61
  v60

def k0_off9 (k0_t1 : Fin k0_t1_loop.trips) : Fin 1 → Nat :=
  let c0_i32_38 : BitVec 32 := 0#32
  let c1_i32_40 : BitVec 32 := 1#32
  let arg10 : BitVec 32 := Scf.iv c0_i32_38 c1_i32_40 k0_t1
  let c2_i32_48 : BitVec 32 := 2#32
  let v46 : BitVec 32 := Scalar.remsi arg10 c2_i32_48
  ![v46.toNat]
def k0_off10 (k0_t1 : Fin k0_t1_loop.trips) : Fin 4 → Nat :=
  let c0_i32_38 : BitVec 32 := 0#32
  let c1_i32_40 : BitVec 32 := 1#32
  let arg10 : BitVec 32 := Scf.iv c0_i32_38 c1_i32_40 k0_t1
  let c2_i32_48 : BitVec 32 := 2#32
  let v46 : BitVec 32 := Scalar.remsi arg10 c2_i32_48
  let c0_i32_63 : BitVec 32 := 0#32
  let c0_i32_64 : BitVec 32 := 0#32
  let c0_i32_65 : BitVec 32 := 0#32
  ![v46.toNat, 0, 0, 0]
def k0_off11 (k0_t1 : Fin k0_t1_loop.trips) : Fin 4 → Nat :=
  let c1_i32_49 : BitVec 32 := 1#32
  let c0_i32_38 : BitVec 32 := 0#32
  let c1_i32_40 : BitVec 32 := 1#32
  let arg10 : BitVec 32 := Scf.iv c0_i32_38 c1_i32_40 k0_t1
  let c2_i32_48 : BitVec 32 := 2#32
  let v46 : BitVec 32 := Scalar.remsi arg10 c2_i32_48
  let v47 : BitVec 32 := Scalar.subi c1_i32_49 v46
  let c0_i32_66 : BitVec 32 := 0#32
  let c0_i32_67 : BitVec 32 := 0#32
  let c0_i32_68 : BitVec 32 := 0#32
  ![v47.toNat, 0, 0, 0]
def k0_off12 (k0_t1 : Fin k0_t1_loop.trips) : Fin 1 → Nat :=
  let c1_i32_49 : BitVec 32 := 1#32
  let c0_i32_38 : BitVec 32 := 0#32
  let c1_i32_40 : BitVec 32 := 1#32
  let arg10 : BitVec 32 := Scf.iv c0_i32_38 c1_i32_40 k0_t1
  let c2_i32_48 : BitVec 32 := 2#32
  let v46 : BitVec 32 := Scalar.remsi arg10 c2_i32_48
  let v47 : BitVec 32 := Scalar.subi c1_i32_49 v46
  ![v47.toNat]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "s" => some (((Real.sqrt 512)⁻¹ : ℝ) : EReal)
  | _ => none
-- ==== ReferenceIdeal.lean ====
abbrev S8192x512 : Shape := ⟨2, ![8192, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S512x8192, .f32⟩
  | .hbm, ⟨7, _⟩ => ⟨S8192x8192, .f32⟩
  | .hbm, ⟨8, _⟩ => ⟨S_, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Ring.lean ====
abbrev S4096x512 : Shape := ⟨2, ![4096, 512]⟩
abbrev S2x2x4096x512 : Shape := ⟨4, ![2, 2, 4096, 512]⟩
abbrev S4096x1 : Shape := ⟨2, ![4096, 1]⟩
abbrev S2 : Shape := ⟨1, ![2]⟩
abbrev S_ : Shape := ⟨0, ![]⟩
abbrev S1 : Shape := ⟨1, ![1]⟩
abbrev S1x1x4096x512 : Shape := ⟨4, ![1, 1, 4096, 512]⟩
abbrev S1x2x4096x512 : Shape := ⟨4, ![1, 2, 4096, 512]⟩
abbrev S2x4096x512 : Shape := ⟨3, ![2, 4096, 512]⟩
abbrev S256x512 : Shape := ⟨2, ![256, 512]⟩
abbrev S256x4096 : Shape := ⟨2, ![256, 4096]⟩
abbrev S256x1 : Shape := ⟨2, ![256, 1]⟩
abbrev S256 : Shape := ⟨1, ![256]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .local _ .vmem, ⟨0, _⟩ => ⟨S4096x512, .bf16⟩
  | .local _ .vmem, ⟨1, _⟩ => ⟨S4096x512, .f32⟩
  | .local _ .vmem, ⟨2, _⟩ => ⟨S2x2x4096x512, .bf16⟩
  | .local _ .vmem, ⟨3, _⟩ => ⟨S4096x1, .f32⟩
  | .local _ .vmem, ⟨4, _⟩ => ⟨S4096x1, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 2 8 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_37 : BitVec 32 := 0#32
  let c32_i32_38 : BitVec 32 := 32#32
  let v39 : BitVec 32 := Scalar.addi c0_i32_37 c32_i32_38
  let c1_i32_39 : BitVec 32 := 1#32
  ⟨c0_i32_37, v39, c1_i32_39⟩
def k0_cond1 (k0_t1 : Fin k0_t1_loop.trips) : BitVec 1 :=
  let c0_i32_37 : BitVec 32 := 0#32
  let c1_i32_39 : BitVec 32 := 1#32
  let arg11 : BitVec 32 := Scf.iv c0_i32_37 c1_i32_39 k0_t1
  let c31_i32 : BitVec 32 := 31#32
  let v48 : BitVec 1 := Scalar.cmpi .slt arg11 c31_i32
  let v49 : BitVec 32 := Scalar.extui v48
  let c0_i32_49 : BitVec 32 := 0#32
  let v50 : BitVec 1 := Scalar.cmpi .ne v49 c0_i32_49
  v50

def k0_dev3 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_61 : BitVec 32 := 1#32
  let v61 : BitVec 32 := Scalar.muli v5 c1_i32_61
  let v62 : BitVec 32 := Scalar.addi c0_i32_62 v61
  v62.toNat
def k0_off1 (k0_t1 : Fin k0_t1_loop.trips) : Fin 1 → Nat :=
  let c0_i32_37 : BitVec 32 := 0#32
  let c1_i32_39 : BitVec 32 := 1#32
  let arg11 : BitVec 32 := Scf.iv c0_i32_37 c1_i32_39 k0_t1
  let c2_i32_47 : BitVec 32 := 2#32
  let v46 : BitVec 32 := Scalar.remsi arg11 c2_i32_47
  ![v46.toNat]
def k0_off2 (k0_t1 : Fin k0_t1_loop.trips) : Fin 1 → Nat :=
  let c1_i32_48 : BitVec 32 := 1#32
  let c0_i32_37 : BitVec 32 := 0#32
  let c1_i32_39 : BitVec 32 := 1#32
  let arg11 : BitVec 32 := Scf.iv c0_i32_37 c1_i32_39 k0_t1
  let c2_i32_47 : BitVec 32 := 2#32
  let v46 : BitVec 32 := Scalar.remsi arg11 c2_i32_47
  let v47 : BitVec 32 := Scalar.subi c1_i32_48 v46
  ![v47.toNat]
def k0_off3 (k0_t1 : Fin k0_t1_loop.trips) : Fin 4 → Nat :=
  let c1_i32_48 : BitVec 32 := 1#32
  let c0_i32_37 : BitVec 32 := 0#32
  let c1_i32_39 : BitVec 32 := 1#32
  let arg11 : BitVec 32 := Scf.iv c0_i32_37 c1_i32_39 k0_t1
  let c2_i32_47 : BitVec 32 := 2#32
  let v46 : BitVec 32 := Scalar.remsi arg11 c2_i32_47
  let v47 : BitVec 32 := Scalar.subi c1_i32_48 v46
  let c0_i32_67 : BitVec 32 := 0#32
  let c0_i32_68 : BitVec 32 := 0#32
  let c0_i32_69 : BitVec 32 := 0#32
  ![v47.toNat, 0, 0, 0]
def k0_off4 (k0_t1 : Fin k0_t1_loop.trips) : Fin 4 → Nat :=
  let c0_i32_37 : BitVec 32 := 0#32
  let c1_i32_39 : BitVec 32 := 1#32
  let arg11 : BitVec 32 := Scf.iv c0_i32_37 c1_i32_39 k0_t1
  let c2_i32_47 : BitVec 32 := 2#32
  let v46 : BitVec 32 := Scalar.remsi arg11 c2_i32_47
  let c0_i32_70 : BitVec 32 := 0#32
  let c0_i32_71 : BitVec 32 := 0#32
  let c0_i32_72 : BitVec 32 := 0#32
  ![v46.toNat, 0, 0, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_65 : BitVec 32 := 1#32
  let v63 : BitVec 32 := Scalar.muli v7 c1_i32_65
  let v64 : BitVec 32 := Scalar.addi c0_i32_66 v63
  v64.toNat
def k0_off5 (k0_t1 : Fin k0_t1_loop.trips) : Fin 4 → Nat :=
  let c0_i32_37 : BitVec 32 := 0#32
  let c1_i32_39 : BitVec 32 := 1#32
  let arg11 : BitVec 32 := Scf.iv c0_i32_37 c1_i32_39 k0_t1
  let c2_i32_47 : BitVec 32 := 2#32
  let v46 : BitVec 32 := Scalar.remsi arg11 c2_i32_47
  let v51 : Index := Scalar.indexCast v46
  let c0_50 : Index := 0#32
  let c0_51 : Index := 0#32
  let c0_52 : Index := 0#32
  ![v51.toNat, 0, 0, 0]
def k0_off6 (k0_t1 : Fin k0_t1_loop.trips) : Fin 4 → Nat :=
  let c0_i32_37 : BitVec 32 := 0#32
  let c1_i32_39 : BitVec 32 := 1#32
  let arg11 : BitVec 32 := Scf.iv c0_i32_37 c1_i32_39 k0_t1
  let c2_i32_47 : BitVec 32 := 2#32
  let v46 : BitVec 32 := Scalar.remsi arg11 c2_i32_47
  let v54 : Index := Scalar.indexCast v46
  let c1 : Index := 1#32
  let c0_53 : Index := 0#32
  let c0_54 : Index := 0#32
  ![v54.toNat, 1, 0, 0]
@[reducible] def k0_t2_loop : Scf.Loop 32 :=
  let c0_i32_55 : BitVec 32 := 0#32
  let c16_i32 : BitVec 32 := 16#32
  let v57 : BitVec 32 := Scalar.addi c0_i32_55 c16_i32
  let c1_i32_56 : BitVec 32 := 1#32
  ⟨c0_i32_55, v57, c1_i32_56⟩
def k0_off7 (k0_t2 : Fin k0_t2_loop.trips) : Fin 2 → Nat :=
  let c0_i32_55 : BitVec 32 := 0#32
  let c1_i32_56 : BitVec 32 := 1#32
  let arg12 : BitVec 32 := Scf.iv c0_i32_55 c1_i32_56 k0_t2
  let c256_i32 : BitVec 32 := 256#32
  let v61 : BitVec 32 := Scalar.muli arg12 c256_i32
  let v62 : Index := Scalar.indexCast v61
  let c0_60 : Index := 0#32
  ![v62.toNat, 0]
def k0_off8 (k0_t2 : Fin k0_t2_loop.trips) : Fin 2 → Nat :=
  let c0_i32_55 : BitVec 32 := 0#32
  let c1_i32_56 : BitVec 32 := 1#32
  let arg12 : BitVec 32 := Scf.iv c0_i32_55 c1_i32_56 k0_t2
  let c256_i32 : BitVec 32 := 256#32
  let v61 : BitVec 32 := Scalar.muli arg12 c256_i32
  let v68 : Index := Scalar.indexCast v61
  let c0_63 : Index := 0#32
  ![v68.toNat, 0]
def k0_cond2 (k0_t1 : Fin k0_t1_loop.trips) : BitVec 1 :=
  let c0_i32_37 : BitVec 32 := 0#32
  let c1_i32_39 : BitVec 32 := 1#32
  let arg11 : BitVec 32 := Scf.iv c0_i32_37 c1_i32_39 k0_t1
  let c31_i32_58 : BitVec 32 := 31#32
  let v58 : BitVec 1 := Scalar.cmpi .slt arg11 c31_i32_58
  let v59 : BitVec 32 := Scalar.extui v58
  let c0_i32_59 : BitVec 32 := 0#32
  let v60 : BitVec 1 := Scalar.cmpi .ne v59 c0_i32_59
  v60

def k0_off9 (k0_t1 : Fin k0_t1_loop.trips) : Fin 1 → Nat :=
  let c0_i32_37 : BitVec 32 := 0#32
  let c1_i32_39 : BitVec 32 := 1#32
  let arg11 : BitVec 32 := Scf.iv c0_i32_37 c1_i32_39 k0_t1
  let c2_i32_47 : BitVec 32 := 2#32
  let v46 : BitVec 32 := Scalar.remsi arg11 c2_i32_47
  ![v46.toNat]
def k0_off10 (k0_t1 : Fin k0_t1_loop.trips) : Fin 4 → Nat :=
  let c0_i32_37 : BitVec 32 := 0#32
  let c1_i32_39 : BitVec 32 := 1#32
  let arg11 : BitVec 32 := Scf.iv c0_i32_37 c1_i32_39 k0_t1
  let c2_i32_47 : BitVec 32 := 2#32
  let v46 : BitVec 32 := Scalar.remsi arg11 c2_i32_47
  let c0_i32_61 : BitVec 32 := 0#32
  let c0_i32_62 : BitVec 32 := 0#32
  let c0_i32_63 : BitVec 32 := 0#32
  ![v46.toNat, 0, 0, 0]
def k0_off11 (k0_t1 : Fin k0_t1_loop.trips) : Fin 4 → Nat :=
  let c1_i32_48 : BitVec 32 := 1#32
  let c0_i32_37 : BitVec 32 := 0#32
  let c1_i32_39 : BitVec 32 := 1#32
  let arg11 : BitVec 32 := Scf.iv c0_i32_37 c1_i32_39 k0_t1
  let c2_i32_47 : BitVec 32 := 2#32
  let v46 : BitVec 32 := Scalar.remsi arg11 c2_i32_47
  let v47 : BitVec 32 := Scalar.subi c1_i32_48 v46
  let c0_i32_64 : BitVec 32 := 0#32
  let c0_i32_65 : BitVec 32 := 0#32
  let c0_i32_66 : BitVec 32 := 0#32
  ![v47.toNat, 0, 0, 0]
def k0_off12 (k0_t1 : Fin k0_t1_loop.trips) : Fin 1 → Nat :=
  let c1_i32_48 : BitVec 32 := 1#32
  let c0_i32_37 : BitVec 32 := 0#32
  let c1_i32_39 : BitVec 32 := 1#32
  let arg11 : BitVec 32 := Scf.iv c0_i32_37 c1_i32_39 k0_t1
  let c2_i32_47 : BitVec 32 := 2#32
  let v46 : BitVec 32 := Scalar.remsi arg11 c2_i32_47
  let v47 : BitVec 32 := Scalar.subi c1_i32_48 v46
  ![v47.toNat]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RingIdeal.lean ====
variable {F : FTy → Type} [FloatOps F] [Named F]
def κ : String → Option EReal := fun
  | "s" => some (((Real.sqrt 512)⁻¹ : ℝ) : EReal)
  | _ => none
-- ==== WholeIdeal.lean ====
abbrev S131072x512 : Shape := ⟨2, ![131072, 512]⟩
abbrev S512x131072 : Shape := ⟨2, ![512, 131072]⟩
abbrev S131072x131072 : Shape := ⟨2, ![131072, 131072]⟩
abbrev S_ : Shape := ⟨0, ![]⟩
abbrev S131072 : Shape := ⟨1, ![131072]⟩
abbrev S131072x1 : Shape := ⟨2, ![131072, 1]⟩

abbrev nBuf : Space → Nat
  | .hbm => 24
  | .vmem => 0
  | .smem => 0
  | _ => 0

abbrev bufTy : (tb : Table) → Fin (tcTables nBuf tb) → BufTy
  | .hbm, ⟨0, _⟩ => ⟨S131072x512, .bf16⟩
  | .hbm, ⟨1, _⟩ => ⟨S131072x512, .bf16⟩
  | .hbm, ⟨2, _⟩ => ⟨S131072x512, .bf16⟩
  | .hbm, ⟨3, _⟩ => ⟨S131072x512, .f32⟩
  | .hbm, ⟨4, _⟩ => ⟨S131072x512, .f32⟩
  | .hbm, ⟨5, _⟩ => ⟨S131072x512, .f32⟩
  | .hbm, ⟨6, _⟩ => ⟨S512x131072, .f32⟩
  | .hbm, ⟨7, _⟩ => ⟨S131072x131072, .f32⟩
  | .hbm, ⟨8, _⟩ => ⟨S_, .f32⟩
  | .hbm, ⟨9, _⟩ => ⟨S_, .f32⟩
  | .hbm, ⟨10, _⟩ => ⟨S131072x131072, .f32⟩
  | .hbm, ⟨11, _⟩ => ⟨S131072x131072, .f32⟩
  | .hbm, ⟨12, _⟩ => ⟨S_, .f32⟩
  | .hbm, ⟨13, _⟩ => ⟨S131072, .f32⟩
  | .hbm, ⟨14, _⟩ => ⟨S131072x1, .f32⟩
  | .hbm, ⟨15, _⟩ => ⟨S131072x131072, .f32⟩
  | .hbm, ⟨16, _⟩ => ⟨S131072x131072, .f32⟩
  | .hbm, ⟨17, _⟩ => ⟨S131072x131072, .f32⟩
  | .hbm, ⟨18, _⟩ => ⟨S_, .f32⟩
  | .hbm, ⟨19, _⟩ => ⟨S131072, .f32⟩
  | .hbm, ⟨20, _⟩ => ⟨S131072x1, .f32⟩
  | .hbm, ⟨21, _⟩ => ⟨S131072x131072, .f32⟩
  | .hbm, ⟨22, _⟩ => ⟨S131072x131072, .f32⟩
  | .hbm, ⟨23, _⟩ => ⟨S131072x512, .f32⟩
  | _, _ => ⟨S131072x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Tile.lean ====
/-
# One hop of the kernel: the inner loop over query tiles

The inner loop goes over the 16 tiles of 256 query rows. A trip loads a tile of queries, the running maximum, the running
sum and the accumulator of those rows, folds the hop's keys and values in, and stores the three back. `tileStep` is what a
trip makes of the three buffers, `tiles` the first `n` trips, `hop` the whole loop.
-/
module

public import proofs.«01_k».proof.Proof.Gen.KernelIdeal
public import proofs.«01_k».proof.Proof.Gen.KernelIdeal.Skeleton
public import proofs.«01_k».proof.Proof.Gen.KernelIdeal.Loops
public import Idealize.ShloMosaic.Lib.Rounds
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline's copy (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The buffers -/

/-- The staged queries, the staged result (the accumulator), the running maximum, the running sum, the two slots of keys
    and values. -/
abbrev qM : Memref sig .tc .vmem S4096x512 .bf16 := Memref.whole cc0_stg0_0
abbrev oM : Memref sig .tc .vmem S4096x512 .f32 := Memref.whole cc0_stg1_0
abbrev mM : Memref sig .tc .vmem S4096x1 .f32 := Memref.whole cc0_scratch1
abbrev lM : Memref sig .tc .vmem S4096x1 .f32 := Memref.whole cc0_scratch2
abbrev cM : Memref sig .tc .vmem S2x2x4096x512 .bf16 := Memref.whole cc0_scratch0
abbrev kM : Memref sig .tc .hbm S4096x512 .bf16 := Memref.whole main_arg1
abbrev vM : Memref sig .tc .hbm S4096x512 .bf16 := Memref.whole main_arg2

variable (F) in
/-- The contents of the three buffers a hop updates: accumulator, running maximum, running sum. -/
structure St where
  o : (cc0_stg1_0 : Ref sig .tc).ty.Contents (Elt F)
  m : (cc0_scratch1 : Ref sig .tc).ty.Contents (Elt F)
  l : (cc0_scratch2 : Ref sig .tc).ty.Contents (Elt F)

/-- Rows of a tile, wide and one element wide. -/
abbrev rW (t : Fin k0_t2_loop.trips) : Rect S4096x512 := Rect.unit (s := S4096x512) (k0_off7 t) S256x512.size (k0_off7_inb t)
abbrev rN (t : Fin k0_t2_loop.trips) : Rect S4096x1 := Rect.unit (s := S4096x1) (k0_off8 t) S256x1.size (k0_off8_inb t)

variable (K V : Vec F S1x1x4096x512 .bf16) (q : (cc0_stg0_0 : Ref sig .tc).ty.Contents (Elt F))

abbrev ldQ (t : Fin k0_t2_loop.trips) : Vec F S256x512 .bf16 := qM.view.readAt (Elt F) (rW t).toLoadRect q
abbrev ldO (t : Fin k0_t2_loop.trips) (o : (cc0_stg1_0 : Ref sig .tc).ty.Contents (Elt F)) : Vec F S256x512 .f32 :=
  oM.view.readAt (Elt F) (rW t).toLoadRect o
abbrev ldM (t : Fin k0_t2_loop.trips) (m : (cc0_scratch1 : Ref sig .tc).ty.Contents (Elt F)) : Vec F S256x1 .f32 :=
  mM.view.readAt (Elt F) (rN t).toLoadRect m
abbrev ldL (t : Fin k0_t2_loop.trips) (l : (cc0_scratch2 : Ref sig .tc).ty.Contents (Elt F)) : Vec F S256x1 .f32 :=
  lM.view.readAt (Elt F) (rN t).toLoadRect l

/-- A tile's rows stored into the three buffers. -/
def putO (t : Fin k0_t2_loop.trips) (f : (cc0_stg1_0 : Ref sig .tc).ty.Contents (Elt F)) (w : FVec F S256x512 .f32) :
    (cc0_stg1_0 : Ref sig .tc).ty.Contents (Elt F) := (oM.access (rW t) : View sig .tc _ _ _).write (Elt F) f w Finset.univ
def putM (t : Fin k0_t2_loop.trips) (f : (cc0_scratch1 : Ref sig .tc).ty.Contents (Elt F)) (w : FVec F S256x1 .f32) :
    (cc0_scratch1 : Ref sig .tc).ty.Contents (Elt F) := (mM.access (rN t) : View sig .tc _ _ _).write (Elt F) f w Finset.univ
def putL (t : Fin k0_t2_loop.trips) (f : (cc0_scratch2 : Ref sig .tc).ty.Contents (Elt F)) (w : FVec F S256x1 .f32) :
    (cc0_scratch2 : Ref sig .tc).ty.Contents (Elt F) := (lM.access (rN t) : View sig .tc _ _ _).write (Elt F) f w Finset.univ

/-- What trip `t` makes of the three buffers. -/
def tileStep (t : Fin k0_t2_loop.trips) (s : St F) : St F where
  o := putO t s.o (k0_pay8 K V (ldQ q t) (ldM t s.m) (ldO t s.o))
  m := putM t s.m (k0_pay9 K (ldQ q t) (ldM t s.m))
  l := putL t s.l (k0_pay7 K (ldQ q t) (ldM t s.m) (ldL t s.l))

/-- The first `n` trips. -/
def tiles (s : St F) : ℕ → St F
  | 0 => s
  | n + 1 => if h : n < k0_t2_loop.trips then tileStep K V q ⟨n, h⟩ (tiles s n) else tiles s n

theorem tiles_succ (s : St F) (t : Fin k0_t2_loop.trips) : tiles K V q s (t.val + 1) = tileStep K V q t (tiles K V q s t.val) := by
  rw [tiles, dif_pos t.isLt]

/-- The whole inner loop. -/
def hop (s : St F) : St F := tiles K V q s (Scf.trips k0_t2_loop.lb k0_t2_loop.ub k0_t2_loop.st)

/-! ## The loop -/

/-- The three buffers held at `s`. -/
def stPts (c : Dev nD) (s : St F) : sProp 𝕄 :=
  iprop((((c : Thread nD τ).loc cc0_stg1_0) ↦{fullShare} s.o) ∗ (((c : Thread nD τ).loc cc0_scratch1) ↦{fullShare} s.m)
    ∗ (((c : Thread nD τ).loc cc0_scratch2) ↦{fullShare} s.l))

def qPts (c : Dev nD) : sProp 𝕄 := ((c : Thread nD τ).loc cc0_stg0_0) ↦{fullShare} q

/-- The inner loop as the kernel calls it. -/
abbrev t2Body : Fin k0_t2_loop.trips → Unit → Prog (TpuEff nD τ sig (Elt F) Λ₀ .tc) Unit :=
  k0_t2_body (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 K V

theorem trip_t2 (c : Dev nD) (t : Fin k0_t2_loop.trips) (u : Unit) (s : St F) :
    iprop(qPts q c ∗ stPts c s)
      ⊢ wp frame (wpE (defs₀ (F := F)) 𝒱₀ (c : Thread nD τ) none) Set.univ (t2Body K V t u)
          (fun _ => (iprop(qPts q c ∗ stPts c (tileStep K V q t s)) : sProp 𝕄)) := by
  unfold t2Body k0_t2_body
  simp only [Prog.lift, Prog.bind_op, Prog.bind_ret, Prog.pure_eq_ret]
  unfold qPts stPts tileStep putO putM putL
  iintro ⟨Hq, Ho, Hm, Hl⟩
  iapply (wp_load 𝒱₀ (c : Thread nD τ) none Set.univ (m := qM) (Finset.subset_univ _)) $$ Hq; iintro Hq
  iapply (wp_load 𝒱₀ (c : Thread nD τ) none Set.univ (m := mM) (Finset.subset_univ _)) $$ Hm; iintro Hm
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_store 𝒱₀ (c : Thread nD τ) none Set.univ (m := lM) (r := rN t) (Mk := Finset.univ) (Finset.subset_univ _)) $$ Hl; iintro Hl
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := rW t) (Mk := Finset.univ) (Finset.subset_univ _)) $$ Ho; iintro Ho
  iapply (wp_load 𝒱₀ (c : Thread nD τ) none Set.univ (m := mM) (Finset.subset_univ _)) $$ Hm; iintro Hm
  iapply (wp_store 𝒱₀ (c : Thread nD τ) none Set.univ (m := mM) (r := rN t) (Mk := Finset.univ) (Finset.subset_univ _)) $$ Hm; iintro Hm
  rw [wp_ret]; imodintro
  isplitl [Hq]; · iexact Hq
  isplitl [Ho]; · iexact Ho
  isplitl [Hm]; · iexact Hm
  iexact Hl

/-- The inner loop at the head of a program: the three buffers go from `s` to `hop … s`. -/
theorem wp_hop (c : Dev nD) (s : St F) {β : Type} {kk : Unit → Prog (TpuEff nD τ sig (Elt F) Λ₀ .tc) β} {Q : β → sProp 𝕄} :
    iprop(qPts q c ∗ stPts c s)
      ⊢ iprop((iprop(qPts q c ∗ stPts c (hop K V q s)) -∗ wp frame (wpE (defs₀ (F := F)) 𝒱₀ (c : Thread nD τ) none) Set.univ (kk ()) Q)
        -∗ wp frame (wpE (defs₀ (F := F)) 𝒱₀ (c : Thread nD τ) none) Set.univ
            (Scf.Loop.for k0_t2_loop k0_t2_ok () (t2Body K V) >>= kk) Q) := by
  have h := Scf.wp_for_bind (β := β) (kk := kk) (Q := Q) frame (wpE (defs₀ (F := F)) 𝒱₀ (c : Thread nD τ) none) Set.univ
    k0_t2_loop.lb k0_t2_loop.ub k0_t2_loop.st k0_t2_ok () (t2Body K V)
    (fun n _ => (iprop(qPts q c ∗ stPts c (tiles K V q s n)) : sProp 𝕄))
    (fun t u => by rw [tiles_succ K V q s t]; exact trip_t2 K V q c t u _)
  rw [show tiles K V q s 0 = s from rfl] at h
  iintro H Hk
  iapply h $$ H
  iintro %acc H
  iapply Hk; iexact H

end Cert.KernelIdeal.Ring

end
-- ==== Proof.Comm.lean ====
/-
# The two slots of keys and values

The scratch buffer holds two slots, each a block of keys and a block of values. `commOf K V` is the buffer's contents with
`K` and `V` in every slot; a slot is held at `commOf K V` on its own elements. Here: which elements the kernel's views are
of, and what a copy leaves and a load reads.
-/
module

public import proofs.«01_k».proof.Proof.Tile
public import Idealize.ShloMosaic.Lib.ValueLayout
public import Idealize.ShloMosaic.Lib.Pipeline.ValueKit.Geometry

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open Idealize.SL.Sem
open Idealize.ShloMosaic.ValueIdx

variable {F : FTy → Type} [FloatOps F] [Named F]

/-- A block of keys or values. -/
abbrev Blk (F : FTy → Type) : Type := S4096x512.Idx → Elt F .bf16

def commOf (K V : Blk F) : (cc0_scratch0 : Ref sig .tc).ty.Contents (Elt F) :=
  fun i : S2x2x4096x512.Idx => if (i 1).val = 0 then K (ix2 (i 2) (i 3)) else V (ix2 (i 2) (i 3))

/-- The elements of slot `s`, and of block `b` of slot `s`. -/
def slotSet (s : ℕ) : Finset (cc0_scratch0 : Ref sig .tc).ty.shape.Idx :=
  Finset.univ.filter fun i : S2x2x4096x512.Idx => (i 0).val = s
def blkSet (s b : ℕ) : Finset (cc0_scratch0 : Ref sig .tc).ty.shape.Idx :=
  Finset.univ.filter fun i : S2x2x4096x512.Idx => (i 0).val = s ∧ (i 1).val = b

/-- Slot and block as the kernel's copies name them, at any offsets. -/
abbrev slotM (off : Fin 4 → ℕ) (h : ∀ a, off a + S1x2x4096x512.size a ≤ S2x2x4096x512.size a) : Memref sig .tc .vmem S2x4096x512 .bf16 :=
  (cM.slice (Rect.unit (s := S2x2x4096x512) off S1x2x4096x512.size h) (fun _ => rfl)).squeeze S2x4096x512 squeezes_S1x2x4096x512_S2x4096x512
abbrev blkM (off : Fin 4 → ℕ) (h : ∀ a, off a + S1x1x4096x512.size a ≤ S2x2x4096x512.size a) : Memref sig .tc .vmem S4096x512 .bf16 :=
  (cM.slice (Rect.unit (s := S2x2x4096x512) off S1x1x4096x512.size h) (fun _ => rfl)).squeeze S4096x512 squeezes_S1x1x4096x512_S4096x512

theorem slotM_set (off h) (s : ℕ) (ho : off = ![s, 0, 0, 0]) : (slotM off h).view.set = slotSet s := by
  subst ho
  rw [Memref.set_view_squeeze]
  ext i
  refine (ValueKit.mem_set_slice_whole_iff cc0_scratch0 _ i Iff.rfl).trans ?_
  unfold slotSet
  rw [Rect.mem_set_unit, Finset.mem_filter]
  constructor
  · intro H
    refine ⟨Finset.mem_univ _, ?_⟩
    have := H (0 : Fin 4)
    simp at this
    show (i (0 : Fin 4)).val = s
    omega
  · rintro ⟨-, H⟩ a
    fin_cases a
    · show s ≤ (i (0 : Fin 4)).val ∧ (i (0 : Fin 4)).val < s + 1
      exact ⟨by show s ≤ _; exact H.symm.le, by rw [show (i (0 : Fin 4)).val = s from H]; omega⟩
    · exact ⟨Nat.zero_le _, by show (i (1 : Fin 4)).val < 0 + 2; have := (i (1 : Fin 4)).isLt; simpa using this⟩
    · exact ⟨Nat.zero_le _, by show (i (2 : Fin 4)).val < 0 + 4096; have := (i (2 : Fin 4)).isLt; simpa using this⟩
    · exact ⟨Nat.zero_le _, by show (i (3 : Fin 4)).val < 0 + 512; have := (i (3 : Fin 4)).isLt; simpa using this⟩

theorem blkM_set (off h) (s b : ℕ) (ho : off = ![s, b, 0, 0]) : (blkM off h).view.set = blkSet s b := by
  subst ho
  rw [Memref.set_view_squeeze]
  ext i
  refine (ValueKit.mem_set_slice_whole_iff cc0_scratch0 _ i Iff.rfl).trans ?_
  unfold blkSet
  rw [Rect.mem_set_unit, Finset.mem_filter]
  constructor
  · intro H
    have h0 := H (0 : Fin 4)
    have h1 := H (1 : Fin 4)
    simp at h0 h1
    refine ⟨Finset.mem_univ _, ?_, ?_⟩
    · show (i (0 : Fin 4)).val = s
      omega
    · show (i (1 : Fin 4)).val = b
      omega
  · rintro ⟨-, H0, H1⟩ a
    fin_cases a
    · exact ⟨by show s ≤ _; exact H0.symm.le, by show (i (0 : Fin 4)).val < s + 1; rw [show (i (0 : Fin 4)).val = s from H0]; omega⟩
    · exact ⟨by show b ≤ _; exact H1.symm.le, by show (i (1 : Fin 4)).val < b + 1; rw [show (i (1 : Fin 4)).val = b from H1]; omega⟩
    · exact ⟨Nat.zero_le _, by show (i (2 : Fin 4)).val < 0 + 4096; have := (i (2 : Fin 4)).isLt; simpa using this⟩
    · exact ⟨Nat.zero_le _, by show (i (3 : Fin 4)).val < 0 + 512; have := (i (3 : Fin 4)).isLt; simpa using this⟩

/-- The two slots are the whole buffer; the two blocks are a slot. -/
theorem slot_union : slotSet 0 ∪ slotSet 1 = Finset.univ := by
  ext i
  unfold slotSet
  simp only [Finset.mem_union, Finset.mem_filter, Finset.mem_univ, true_and, iff_true]
  have := (i (0 : Fin 4)).isLt
  have h2 : (i (0 : Fin 4)).val < 2 := by simpa using this
  show (i (0 : Fin 4)).val = 0 ∨ (i (0 : Fin 4)).val = 1
  omega
theorem slot_disj : Disjoint (slotSet 0) (slotSet 1) := by
  rw [Finset.disjoint_left]
  intro i h0 h1
  unfold slotSet at h0 h1
  rw [Finset.mem_filter] at h0 h1
  have := h0.2.symm.trans h1.2
  omega
theorem blk_union (s : ℕ) : blkSet s 0 ∪ blkSet s 1 = slotSet s := by
  ext i
  unfold slotSet blkSet
  simp only [Finset.mem_union, Finset.mem_filter, Finset.mem_univ, true_and]
  have := (i (1 : Fin 4)).isLt
  have h2 : (i (1 : Fin 4)).val < 2 := by simpa using this
  show (i (0 : Fin 4)).val = s ∧ (i (1 : Fin 4)).val = 0 ∨ (i (0 : Fin 4)).val = s ∧ (i (1 : Fin 4)).val = 1 ↔ (i (0 : Fin 4)).val = s
  omega
theorem blk_disj (s : ℕ) : Disjoint (blkSet s 0) (blkSet s 1) := by
  rw [Finset.disjoint_left]
  intro i h0 h1
  unfold blkSet at h0 h1
  rw [Finset.mem_filter] at h0 h1
  have := h0.2.2.symm.trans h1.2.2
  omega

/-! ## What a copy leaves -/

/-- Where a view of a slot or of a block puts an index. -/
theorem slot_emb (off h) (x : S2x4096x512.Idx) (a : Fin 4) :
    (((slotM off h).view.emb x : S2x2x4096x512.Idx) a).val
      = off a + ((Shape.reshapeEquiv squeezes_S1x2x4096x512_S2x4096x512.numel_eq x : S1x2x4096x512.Idx) a).val :=
  ValueKit.view_emb_slice_whole_unit_val cc0_scratch0 off S1x2x4096x512.size h _ a
theorem blk_emb (off h) (x : S4096x512.Idx) (a : Fin 4) :
    (((blkM off h).view.emb x : S2x2x4096x512.Idx) a).val
      = off a + ((Shape.reshapeEquiv squeezes_S1x1x4096x512_S4096x512.numel_eq x : S1x1x4096x512.Idx) a).val :=
  ValueKit.view_emb_slice_whole_unit_val cc0_scratch0 off S1x1x4096x512.size h _ a
theorem blk_reshape (x : S4096x512.Idx) :
    (Shape.reshapeEquiv squeezes_S1x1x4096x512_S4096x512.numel_eq x : S1x1x4096x512.Idx)
      = ix4 (⟨0, Nat.one_pos⟩ : Fin 1) (⟨0, Nat.one_pos⟩ : Fin 1) (x 0) (x 1) :=
  (congrArg (Shape.reshapeEquiv squeezes_S1x1x4096x512_S4096x512.numel_eq) (eq_ix2 x)).trans (reshapeEquiv_ix2_11ab _ _ _)

theorem commOf_congr (K V : Blk F) (i j : S2x2x4096x512.Idx) (h1 : i 1 = j 1) (h2 : i 2 = j 2) (h3 : i 3 = j 3) : commOf K V i = commOf K V j := by
  unfold commOf; rw [h1, h2, h3]

theorem commOf_at (K V : Blk F) (i : S2x2x4096x512.Idx) (b : ℕ) (x : S4096x512.Idx) (h1 : (i 1).val = b) (h2 : i 2 = x 0) (h3 : i 3 = x 1) :
    commOf K V i = (if b = 0 then K else V) x := by
  unfold commOf
  rw [h1]
  have e : (ix2 (i 2) (i 3) : S4096x512.Idx) = x := (congrArg₂ (fun a b => (ix2 a b : S4096x512.Idx)) h2 h3).trans (eq_ix2 x).symm
  split
  · exact congrArg K e
  · exact congrArg V e

theorem slot_copied (off off' h h') (f fd : (cc0_scratch0 : Ref sig .tc).ty.Contents (Elt F)) (x : S2x4096x512.Idx) :
    (slotM off' h').view.write (Elt F) fd ((slotM off h).view.read (Elt F) f) Finset.univ ((slotM off' h').view.emb x) = f ((slotM off h).view.emb x) :=
  (View.write_emb_of_mem _ _ (Finset.mem_univ x)).trans rfl

/-- A copy of one slot onto another leaves the destination slot at the same keys and values. -/
theorem copy_slot (K V : Blk F) (off off' h h') (s s' : ℕ) (ho : off = ![s, 0, 0, 0]) (ho' : off' = ![s', 0, 0, 0])
    (fd : (cc0_scratch0 : Ref sig .tc).ty.Contents (Elt F)) :
    ∀ i ∈ slotSet s', (slotM off' h').view.write (Elt F) fd ((slotM off h).view.read (Elt F) (commOf K V)) Finset.univ i = commOf K V i := by
  intro i hi
  rw [← slotM_set off' h' s' ho'] at hi
  obtain ⟨x, -, rfl⟩ := Finset.mem_map.mp hi
  refine (slot_copied off off' h h' (commOf K V) fd x).trans ?_
  have e (a : Fin 4) (ha : off a = off' a) : ((slotM off h).view.emb x : S2x2x4096x512.Idx) a = ((slotM off' h').view.emb x : S2x2x4096x512.Idx) a :=
    Fin.ext ((slot_emb off h x a).trans (Eq.trans (by rw [ha]) (slot_emb off' h' x a).symm))
  exact commOf_congr K V _ _ (e 1 (by rw [ho, ho']; rfl)) (e 2 (by rw [ho, ho']; rfl)) (e 3 (by rw [ho, ho']; rfl))

/-- A copy of the keys (`b = 0`) or the values (`b = 1`) into a slot leaves its block there at them. -/
theorem copy_blk (K V : Blk F) (off h) (s b : ℕ) (ho : off = ![s, b, 0, 0]) (fd : (cc0_scratch0 : Ref sig .tc).ty.Contents (Elt F))
    (w : Blk F) (hw : w = if b = 0 then K else V) :
    ∀ i ∈ blkSet s b, (blkM off h).view.write (Elt F) fd w Finset.univ i = commOf K V i := by
  intro i hi
  rw [← blkM_set off h s b ho] at hi
  obtain ⟨x, -, rfl⟩ := Finset.mem_map.mp hi
  refine (View.write_emb_of_mem _ _ (Finset.mem_univ x)).trans ?_
  refine Eq.trans ?_ (commOf_at K V _ b x ?_ ?_ ?_).symm
  · rw [← hw]; rfl
  · rw [blk_emb off h x 1, blk_reshape, ho]; rfl
  · exact Fin.ext (by rw [blk_emb off h x 2, blk_reshape, ho]; exact Nat.zero_add _)
  · exact Fin.ext (by rw [blk_emb off h x 3, blk_reshape, ho]; exact Nat.zero_add _)

/-! ## What a load reads -/

/-- A block as the kernel's loads return it. -/
def blkVec (w : Blk F) : Vec F S1x1x4096x512 .bf16 := fun x => w (ix2 (x 2) (x 3))

theorem blk_sub_slot (s b : ℕ) : blkSet s b ⊆ slotSet s := by
  intro i hi
  unfold blkSet at hi
  unfold slotSet
  rw [Finset.mem_filter] at hi ⊢
  exact ⟨hi.1, hi.2.1⟩

theorem load_sub (off h) (s b : ℕ) (ho : off = ![s, b, 0, 0]) :
    (cM.view.setOn (Rect.unit (s := S2x2x4096x512) off S1x1x4096x512.size h).toLoadRect.set) ⊆ slotSet s := by
  have e : (blkM off h).view.set = cM.view.setOn (Rect.unit (s := S2x2x4096x512) off S1x1x4096x512.size h).toLoadRect.set := by
    rw [Memref.set_view_squeeze]
    exact View.set_slice _ _
  rw [← e, blkM_set off h s b ho]
  exact blk_sub_slot s b

theorem load_emb (off h) (x : S1x1x4096x512.Idx) (a : Fin 4) :
    ((((View.whole cc0_scratch0).slice (Rect.unit (s := S2x2x4096x512) off S1x1x4096x512.size h)).emb x : S2x2x4096x512.Idx) a).val
      = off a + (x a).val :=
  ValueKit.view_emb_slice_whole_unit_val cc0_scratch0 off S1x1x4096x512.size h x a

theorem load_blk (K V : Blk F) (off h) (s b : ℕ) (ho : off = ![s, b, 0, 0]) :
    cM.view.readAt (Elt F) (Rect.unit (s := S2x2x4096x512) off S1x1x4096x512.size h).toLoadRect (commOf K V)
      = blkVec (if b = 0 then K else V) := by
  refine funext fun (x : S1x1x4096x512.Idx) => ?_
  have h0 : (x 1).val = 0 := Nat.lt_one_iff.mp (x 1).isLt
  have e1 := load_emb off h x 1
  have e2 := load_emb off h x 2
  have e3 := load_emb off h x 3
  have o1 : off 1 = b := by rw [ho]; rfl
  have o2 : off 2 = 0 := by rw [ho]; rfl
  have o3 : off 3 = 0 := by rw [ho]; rfl
  rw [o1, h0] at e1
  rw [o2, Nat.zero_add] at e2
  rw [o3, Nat.zero_add] at e3
  refine commOf_at K V (((View.whole cc0_scratch0).slice (Rect.unit (s := S2x2x4096x512) off S1x1x4096x512.size h)).emb x) b
    (ix2 (x 2) (x 3) : S4096x512.Idx) e1 (Fin.ext e2) (Fin.ext e3)

end Cert.KernelIdeal.Ring

end
-- ==== Proof.Sched.lean ====
/-
# The exchange: who waits for what

Each device has seven semaphores: the barrier, two for copies out, two for copies in, two for its own copies of keys and
values. Every one of them has one round. The barrier's round is two signals of the other device, the second of which hands
over that device's slot 1. The round of the sending semaphore 0 gives back the half share of slot 0 lent to the copy, that
of the receiving semaphore 1 gives slot 1 filled with the other device's keys and values, those of the two local ones give
the two blocks of slot 0 filled. The other two have no round.
-/
module

public import proofs.«01_k».proof.Proof.Comm
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at launch. -/
def mem₀ : MemSt nD τ sig (Elt F) := ⟨m, fun _ => 0, ρ⟩

/-! ## The two devices -/

set_option backward.proofsInPublic true in
/-- The other device: both neighbours. -/
def nx (c : Dev nD) : Dev nD := ⟨(c.val + 1) % 2, Nat.mod_lt _ (by decide)⟩
theorem nx_nx (c : Dev nD) : nx (nx c) = c := by revert c; decide
theorem dev1_nx (c : Dev nD) : (⟨k0_dev1 c, k0_dev1_lt c⟩ : Dev nD) = nx c := Fin.ext (k0_dev1_eq c)
theorem dev2_nx (c : Dev nD) : (⟨k0_dev2 c, k0_dev2_lt c⟩ : Dev nD) = nx c := Fin.ext (k0_dev2_eq c)
theorem dev3_nx (c : Dev nD) (t h) : (⟨k0_dev3 c, k0_dev3_lt c t h⟩ : Dev nD) = nx c := Fin.ext (k0_dev3_eq c)
def turn : Dev nD ≃ Dev nD := ⟨nx, nx, nx_nx, nx_nx⟩

/-- Whose keys and values device `c` folds in at hop `n`. -/
def whose (c : Dev nD) : ℕ → Dev nD
  | 0 => c
  | n + 1 => nx (whose c n)

/-! ## Semaphores and cells -/

abbrev barS : Sem sig := (SemArray.scalar (sig.barrier 0 rfl) : Sems sig S_).sem
/-- The two semaphores of an array. -/
abbrev el (a : DmaSems sig S2) (off : Fin 1 → ℕ) (h : ∀ i, off i + S1.size i ≤ S2.size i) : DmaSem sig :=
  ((a.slice (Rect.unit (s := S2) off S1.size h)).squeeze S_ squeezes_S1_S_).sem
abbrev snd0 : DmaSem sig := el cc0_scratch3 ![0] inb_S2_S1_0
abbrev snd1 : DmaSem sig := el cc0_scratch3 ![1] inb_S2_S1_1
abbrev rcv0 : DmaSem sig := el cc0_scratch4 ![0] inb_S2_S1_0
abbrev rcv1 : DmaSem sig := el cc0_scratch4 ![1] inb_S2_S1_1
abbrev loc0 : DmaSem sig := el cc0_scratch5 ![0] inb_S2_S1_0
abbrev loc1 : DmaSem sig := el cc0_scratch5 ![1] inb_S2_S1_1

abbrev osem : Fin 6 → SemLoc sig :=
  fun | 0 => .dma snd0 | 1 => .dma snd1 | 2 => .dma rcv0 | 3 => .dma rcv1 | 4 => .dma loc0 | 5 => .dma loc1
abbrev csem : Fin 7 → SemLoc sig :=
  fun | 0 => .reg barS | 1 => .dma snd0 | 2 => .dma snd1 | 3 => .dma rcv0 | 4 => .dma rcv1 | 5 => .dma loc0 | 6 => .dma loc1
abbrev cell (c : Dev nD) (k : Fin 7) : GSem nD τ sig := ((c : Thread nD τ), csem k)

/-- The number of a semaphore, 7 for one that is none of the seven. -/
def code (g : SemLoc sig) : Fin 8 :=
  if g = csem 0 then 0 else if g = csem 1 then 1 else if g = csem 2 then 2 else if g = csem 3 then 3
  else if g = csem 4 then 4 else if g = csem 5 then 5 else if g = csem 6 then 6 else 7
theorem code_csem : ∀ k : Fin 7, code (csem k) = k.castSucc := by decide

/-- What a copy of a slot, and of a block, credits. -/
abbrev NS : ℕ := Ref.dmaCredit (cc0_scratch0 : Ref sig .tc) S2x4096x512 .bf16
abbrev NB : ℕ := Ref.dmaCredit (cc0_scratch0 : Ref sig .tc) S4096x512 .bf16
theorem NS_pos : 0 < NS := sig.dmaCredit_pos _ _ _ _ _ (by decide)
theorem NB_pos : 0 < NB := sig.dmaCredit_pos _ _ _ _ _ (by decide)

/-! ## Contents -/

def kIn (c : Dev nD) : Blk F := m ((c : Thread nD τ).loc main_arg1)
def vIn (c : Dev nD) : Blk F := m ((c : Thread nD τ).loc main_arg2)
def qIn (c : Dev nD) : (cc0_stg0_0 : Ref sig .tc).ty.Contents (Elt F) :=
  (win0_0.blk (0 : Fin 1)).view.read (Elt F) ((mem₀ m ρ).mem ((c : Thread nD τ).loc main_arg0))
def kv (c : Dev nD) : (cc0_scratch0 : Ref sig .tc).ty.Contents (Elt F) := commOf (kIn m c) (vIn m c)

/-- Slot `s`, block `b` of slot `s`, and the two arguments in memory, held by device `c`. -/
def slotPts (c : Dev nD) (s : ℕ) (q : PosShare TreeShare) (f : (cc0_scratch0 : Ref sig .tc).ty.Contents (Elt F)) : sProp 𝕄 :=
  ((c : Thread nD τ).loc cc0_scratch0) ↦[slotSet s]{q} f
def blkPts (c : Dev nD) (b : ℕ) (f : (cc0_scratch0 : Ref sig .tc).ty.Contents (Elt F)) : sProp 𝕄 :=
  ((c : Thread nD τ).loc cc0_scratch0) ↦[blkSet 0 b]{fullShare} f
def kPts (c : Dev nD) : sProp 𝕄 := ((c : Thread nD τ).loc main_arg1) ↦{fullShare} kIn m c
def vPts (c : Dev nD) : sProp 𝕄 := ((c : Thread nD τ).loc main_arg2) ↦{fullShare} vIn m c

instance slotPts_storable (c : Dev nD) (s q f) : BI.Storable (upEmb : UEmb _ 𝕄) (slotPts (F := F) c s q f) := by unfold slotPts; infer_instance
instance blkPts_storable (c : Dev nD) (b f) : BI.Storable (upEmb : UEmb _ 𝕄) (blkPts (F := F) c b f) := by unfold blkPts; infer_instance
instance kPts_storable (c : Dev nD) : BI.Storable (upEmb : UEmb _ 𝕄) (kPts (F := F) m c) := by unfold kPts; infer_instance
instance vPts_storable (c : Dev nD) : BI.Storable (upEmb : UEmb _ 𝕄) (vPts (F := F) m c) := by unfold vPts; infer_instance

/-! ## The schedule -/

/-- What the rounds of device `c`'s semaphores hand over, by the semaphore's number. -/
def pay (c : Dev nD) : Fin 8 → Bool → sProp 𝕄
  | 0, true => iprop(∃ f, slotPts (nx c) 1 fullShare f)
  | 1, _ => slotPts c 0 fullShare.left (kv m c)
  | 4, _ => slotPts c 1 fullShare (kv m (nx c))
  | 5, _ => iprop(blkPts c 0 (kv m c) ∗ kPts m c)
  | 6, _ => iprop(blkPts c 1 (kv m c) ∗ vPts m c)
  | _, _ => iprop(emp)

def dutiesOf : Fin 8 → Finset Bool
  | 0 => Finset.univ
  | 1 | 4 | 5 | 6 => {false}
  | _ => ∅

def amountOf : Fin 8 → ℕ
  | 0 => 1
  | 5 | 6 => NB
  | _ => NS

instance pay_storable (c : Dev nD) (i d) : BI.Storable (upEmb : UEmb _ 𝕄) (pay (F := F) m c i d) := by
  unfold pay
  split <;> infer_instance

theorem amountOf_pos : ∀ i, 0 < amountOf i := by
  intro i
  unfold amountOf
  split
  · exact Nat.one_pos
  · exact NB_pos
  · exact NB_pos
  · exact NS_pos

def Rd : Rounds.Schedule (GSem nD τ sig) Bool 𝕄 where
  duties g r := if r = 0 ∧ g.1.2 = .tc then dutiesOf (code g.2) else ∅
  unitless _ := False
  amount g _ _ := amountOf (code g.2)
  payload g _ d := pay m g.1.1 (code g.2) d
  amount_pos g _ _ _ := amountOf_pos _

instance Rd_storable (g : GSem nD τ sig) (r : ℕ) (d : Bool) : BI.Storable (upEmb : UEmb _ 𝕄) ((Rd (F := F) m).payload g r d) :=
  pay_storable m _ _ d

theorem duties_cell (c : Dev nD) (k : Fin 7) : (Rd (F := F) m).duties (cell c k) 0 = dutiesOf k.castSucc := by
  dsimp only [Rd]
  rw [if_pos ⟨rfl, rfl⟩, code_csem]
theorem amount_cell (c : Dev nD) (k : Fin 7) (r : ℕ) (d : Bool) : (Rd (F := F) m).amount (cell c k) r d = amountOf k.castSucc := by
  dsimp only [Rd]
  rw [code_csem]
theorem payload_cell (c : Dev nD) (k : Fin 7) (d : Bool) : (Rd (F := F) m).payload (cell c k) 0 d = pay m c k.castSucc d := by
  dsimp only [Rd]
  rw [code_csem]
theorem duties_over (g : GSem nD τ sig) : ∀ r, 1 ≤ r → (Rd (F := F) m).duties g r = ∅ := fun r hr => by
  dsimp only [Rd]
  exact if_neg fun h => by omega
theorem duties_none (c : Dev nD) (k : Fin 7) (h : dutiesOf k.castSucc = ∅) : ∀ r, 0 ≤ r → (Rd (F := F) m).duties (cell c k) r = ∅ := fun r _ => by
  rcases Nat.eq_zero_or_pos r with rfl | hr
  · rw [duties_cell, h]
  · exact duties_over m _ r hr

/-- A cell whose round is one duty: what its wait expects and brings. -/
theorem expect_one (c : Dev nD) (k : Fin 7) (h : dutiesOf k.castSucc = {false}) : (Rd (F := F) m).expect (cell c k) 0 = amountOf k.castSucc := by
  unfold Schedule.expect Schedule.amountOf
  rw [duties_cell, h, Finset.sum_singleton, amount_cell]
theorem rest_one (c : Dev nD) (k : Fin 7) (h : dutiesOf k.castSucc = {false}) :
    bigSep ((Rd (F := F) m).duties (cell c k) 0 \ ∅) (fun d => (Rd (F := F) m).payload (cell c k) 0 d) = pay m c k.castSucc false := by
  rw [Finset.sdiff_empty, duties_cell, h, bigSep_singleton, payload_cell]
theorem expect_bar (c : Dev nD) : (Rd (F := F) m).expect (cell c 0) 0 = 2 := by
  unfold Schedule.expect Schedule.amountOf
  rw [duties_cell]
  show ∑ d : Bool, _ = 2
  rw [Finset.sum_congr rfl fun d _ => amount_cell m c 0 0 d, Finset.sum_const, Finset.card_univ, Fintype.card_bool, smul_eq_mul]
  rfl
theorem rest_bar (c : Dev nD) : bigSep ((Rd (F := F) m).duties (cell c 0) 0 \ ∅) (fun d => (Rd (F := F) m).payload (cell c 0) 0 d)
    = iprop(emp ∗ ∃ f, slotPts (nx c) 1 fullShare f) := by
  rw [Finset.sdiff_empty, duties_cell]
  show bigSep (Finset.univ : Finset Bool) _ = _
  rw [bigSep_univ_eq_bigSepL [false, true] (by decide) (by decide), bigSepL_cons_cons, bigSepL_singleton, payload_cell, payload_cell]
  rfl

/-! ## What each device owes, and the order of the waits -/

def O₁ (c : Dev nD) : CellTallies nD τ sig Unit := tallyAt (cell (nx c) 4) () NS + tallyAt (cell (nx c) 0) () 1
def O₀ (c : Dev nD) : CellTallies nD τ sig Unit := O₁ c + tallyAt (cell (nx c) 0) () 1

def L (g : GSem nD τ sig) : Finset Unit := if g.1.2 = .tc then {()} else ∅
def lev : Fin 8 → ℕ
  | 0 => 1
  | 4 => 2
  | _ => 0
def lv (g : GSem nD τ sig) (_ : Unit) : ℕ := lev (code g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 7) (u : Unit) : lv (cell c k) u = lev k.castSucc := by unfold lv; rw [code_csem]

theorem O₀_pos {c : Dev nD} {g : GSem nD τ sig} {u : Unit} (h : 0 < O₀ c g u) : g = cell (nx c) 4 ∨ g = cell (nx c) 0 := by
  unfold O₀ O₁ at h
  rw [Pi.add_apply, Finsupp.add_apply, Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h
theorem rcv_pos {c : Dev nD} {g : GSem nD τ sig} {u : Unit} (h : 0 < (tallyAt (cell (nx c) 4) () NS : CellTallies nD τ sig Unit) g u) : g = cell (nx c) 4 := by
  rw [tallyAt_apply] at h
  by_contra hn
  rw [if_neg (fun h' => hn h'.1)] at h
  exact Nat.lt_irrefl 0 h

/-- A wait on a semaphore of level 0, whatever is owed of `O₀`. -/
theorem mayWait_low (c : Dev nD) (g : SemLoc sig) (hg : lev (code g) = 0) (O : CellTallies nD τ sig Unit) (hO : O = O₀ c ∨ O = 0) :
    (levAts L lv : sProp 𝕄) ⊢ MayWait (c : Thread nD τ) g () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; exact hg.le)
      (fun g u hg => by
        rcases O₀_pos hg with rfl | rfl
        · rw [lv_cell]; decide
        · rw [lv_cell]; decide)
  · rw [MayWait_zero]; iintro -; iempintro

/-- A wait on a semaphore of level at most 1 while the copy into the other device is owed. -/
theorem mayWait_copy (c : Dev nD) (k : Fin 7) (hk : lev k.castSucc ≤ 1) :
    (levAts L lv : sProp 𝕄) ⊢ MayWait (c : Thread nD τ) (csem k) () (tallyAt (cell (nx c) 4) () NS) :=
  MayOwe.of_cut (L := L) (lev := lv) 1 (fun p hp => by rw [Finset.mem_singleton.mp hp, L_tc]; exact Finset.mem_singleton_self _)
    (fun g u hg => by rw [rcv_pos hg]; exact Finset.mem_singleton_self _)
    (fun p hp => by rw [Finset.mem_singleton.mp hp]; exact (lv_cell c k ()).le.trans hk)
    (fun g u hg => by rw [rcv_pos hg, lv_cell]; decide)

end Cert.KernelIdeal.Ring

end
-- ==== Proof.Hops.lean ====
/-
# The two hops

The first hop folds in the device's own keys and values from slot 0 while slot 0 is copied into the other device's slot 1,
the second the other device's from slot 1.
-/
module

public import proofs.«01_k».proof.Proof.Sched

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The value -/

/-- The three buffers before the first hop, and after `n` hops. -/
def init : St F := ⟨k0_pay11 (F := F), k0_pay1 (k0_pay12 (F := F)), k0_pay2 (F := F)⟩
def hops (c : Dev nD) : ℕ → St F
  | 0 => init
  | n + 1 => hop (blkVec (kIn m (whose c n))) (blkVec (vIn m (whose c n))) (qIn m ρ c) (hops c n)
def result (c : Dev nD) : (cc0_stg1_0 : Ref sig .tc).ty.Contents (Elt F) := k0_pay10 (hops m ρ c 2).o (hops m ρ c 2).l

/-! ## What a device starts from and ends with -/

variable (K : Dev nD × Fin 7 → ℕ)

/-- The invariants of the device's seven cells and of the two cells of the other device it credits, and that round 0 of the
    cells it pays is reached. -/
def invs (c : Dev nD) : sProp 𝕄 :=
  iprop(cellInv ER (Rd m) (K (c, 0)) (cell c 0) ∗ cellInv ER (Rd m) (K (c, 1)) (cell c 1) ∗ cellInv ER (Rd m) (K (c, 2)) (cell c 2)
    ∗ cellInv ER (Rd m) (K (c, 3)) (cell c 3) ∗ cellInv ER (Rd m) (K (c, 4)) (cell c 4) ∗ cellInv ER (Rd m) (K (c, 5)) (cell c 5)
    ∗ cellInv ER (Rd m) (K (c, 6)) (cell c 6)
    ∗ cellInv ER (Rd m) (K (nx c, 0)) (cell (nx c) 0) ∗ cellInv ER (Rd m) (K (nx c, 4)) (cell (nx c) 4)
    ∗ reached ER (cell (nx c) 0) 0 ∗ reached ER (cell (nx c) 4) 0 ∗ reached ER (cell c 1) 0 ∗ reached ER (cell c 5) 0 ∗ reached ER (cell c 6) 0)

instance invs_persistent (c : Dev nD) : BI.Persistent (invs (F := F) m K c) := by unfold invs; infer_instance

/-- The duties device `c` pays. -/
def payToks (c : Dev nD) : sProp 𝕄 :=
  iprop(dutyTok ER (cell (nx c) 0) 0 false ∗ dutyTok ER (cell (nx c) 0) 0 true ∗ dutyTok ER (cell (nx c) 4) 0 false
    ∗ dutyTok ER (cell c 1) 0 false ∗ dutyTok ER (cell c 5) 0 false ∗ dutyTok ER (cell c 6) 0 false)

/-- Its positions, all at round 0. -/
def poss (c : Dev nD) : sProp 𝕄 :=
  iprop(atPos ER (cell c 0) 0 ∅ 0 ∗ atPos ER (cell c 1) 0 ∅ 0 ∗ atPos ER (cell c 2) 0 ∅ 0 ∗ atPos ER (cell c 3) 0 ∅ 0
    ∗ atPos ER (cell c 4) 0 ∅ 0 ∗ atPos ER (cell c 5) 0 ∅ 0 ∗ atPos ER (cell c 6) 0 ∅ 0)

def ghost (c : Dev nD) : sProp 𝕄 := iprop(invs m K c ∗ poss c ∗ payToks c)

/-- What device `c`'s body starts from, its scratch buffers aside. -/
def start (c : Dev nD) : sProp 𝕄 :=
  iprop((∃ K, ghost m K c) ∗ cred (tallyAt (cell c 0) () 2) ∗ cred (tallyAt (cell c 4) () NS) ∗ levAts L lv ∗ kPts m c ∗ vPts m c)

/-- Its scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Its seven counters at zero. -/
def zeros (c : Dev nD) : sProp 𝕄 :=
  iprop(semVal (cell c 0) 0 ∗ semVal (cell c 1) 0 ∗ semVal (cell c 2) 0 ∗ semVal (cell c 3) 0 ∗ semVal (cell c 4) 0 ∗ semVal (cell c 5) 0
    ∗ semVal (cell c 6) 0)

def Φ₀ (c : Dev nD) : sProp 𝕄 := iprop(start m c ∗ scratch c)
def Φ₁ (c : Dev nD) : sProp 𝕄 := iprop(scratch c ∗ zeros c ∗ kPts m c ∗ vPts m c)

def dats (_ : Fin 1) (c : Dev nD) : Dat τ (Elt F) Unit ℕ UU ℕ cfg0 c where
  A w := (mem₀ m ρ).mem ((cfg0.win w).arr.view.loc (c : Thread nD τ))
  after w _ := match w with
    | ⟨0, _⟩ => qIn m ρ c
    | ⟨1, _⟩ => result m ρ c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev pt : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The copies -/

/-- The copy of slot 0 into the other device's slot 1. -/
theorem wp_send (c n : Dev nD) (hn : n = nx c) (sS sR : DmaSem sig) (hS : sS = snd0) (hR : sR = rcv1) (off off' h h')
    (ho : off = ![0, 0, 0, 0]) (ho' : off' = ![1, 0, 0, 0])
    {hsc : (slotM off' h' : Memref sig (Dev.tc n : Thread nD τ).2.kind .vmem S2x4096x512 .bf16).view.ref.isScScratch = false}
    {hsrc : (slotM off h).view.WordExact} {hdst : (slotM off' h').view.WordExact}
    {hsem : DmaTarget.Typed .vmem (.dma sR) (.remote (Dev.tc n : Thread nD τ) (slotM off' h') (.dma sS) hsc)}
    {α : Type} {Q : α → sProp 𝕄} {k : PUnit → Prog (TpuEff nD τ sig (Elt F) Λ₀ .tc) α}
    (fn : (cc0_scratch0 : Ref sig .tc).ty.Contents (Elt F)) (W : Waits sig Unit) :
    iprop(cellInv ER (Rd m) (K (c, 1)) (cell c 1) ∗ cellInv ER (Rd m) (K (nx c, 4)) (cell (nx c) 4)
        ∗ slotPts c 0 fullShare.left (kv m c) ∗ slotPts (nx c) 1 fullShare fn
        ∗ owes (c : Thread nD τ) (tallyAt (cell (nx c) 4) () NS) W
        ∗ dutyTok ER (cell c 1) 0 false ∗ reached ER (cell c 1) 0
        ∗ dutyTok ER (cell (nx c) 4) 0 false ∗ reached ER (cell (nx c) 4) 0)
      ⊢ iprop(((cred (tallyAt (cell c 1) () NS) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off h) (.remote (Dev.tc n : Thread nD τ) (slotM off' h') (.dma sS) hsc) (.dma sR) hsrc hdst hsem) k) Q) := by
  subst hn; subst hS; subst hR
  have e1 := slotM_set off h 0 ho
  have e2 := slotM_set off' h' 1 ho'
  have hc := copy_slot (kIn m c) (vIn m c) off off' h h' 0 1 ho ho' fn
  unfold slotPts
  rw [← e1, ← e2]
  exact Rounds.wp_send_pointsTo 𝒱₀ ER (Rd m) (c : Thread nD τ) none (κ₁ := K (c, 1)) (κ₂ := K (nx c, 4))
    (r₁ := 0) (r₂ := 0) (d₁ := false) (d₂ := false) (c' := (nx c : Thread nD τ)) (src := slotM off h)
    (dst := (slotM off' h' : Memref sig (nx c : Thread nD τ).2.kind .vmem S2x4096x512 .bf16)) (sS := .dma snd0) (sem := .dma rcv1) (fd := fn) (fs := kv m c) (q := fullShare.left)
    (by rw [duties_cell m c 1]; exact Finset.mem_singleton_self _) (by rw [duties_cell m (nx c) 4]; exact Finset.mem_singleton_self _)
    () () NS rfl (amount_cell m c 1 0 false) (amount_cell m (nx c) 4 0 false) 0 (by rw [zero_add]) (W := W)
    (by
      rw [payload_cell m c 1, e1]
      exact BI.Entails.refl _)
    (by
      rw [payload_cell m (nx c) 4, e2]
      show _ ⊢ slotPts (nx c) 1 fullShare (kv m (nx (nx c)))
      rw [nx_nx]
      exact Entails.of_eq (pointsTo_congr hc))

/-- The copies of the device's own keys (`b = 0`) and values (`b = 1`) into slot 0. -/
theorem wp_own (c : Dev nD) (b : ℕ) (k7 : Fin 7) (hk : dutiesOf k7.castSucc = {false}) (ha : amountOf k7.castSucc = NB)
    (M : Memref sig .tc .hbm S4096x512 .bf16) (f : Buf (Elt F) (M.view.loc (c : Thread nD τ)))
    (hw : M.view.read (Elt F) f = if b = 0 then kIn m c else vIn m c) (sm : DmaSem sig) (hs : csem k7 = .dma sm)
    (off : Fin 4 → ℕ) (h : ∀ a, off a + S1x1x4096x512.size a ≤ S2x2x4096x512.size a) (ho : off = ![0, b, 0, 0])
    (hp : pay m c k7.castSucc false = iprop(blkPts c b (kv m c) ∗ (M.view.loc (c : Thread nD τ) ↦[M.view.set]{fullShare} f)))
    {hsrc : M.view.WordExact} {hdst : (blkM off h).view.WordExact} {hsem : DmaTarget.Typed (nD := nD) (τ := τ) (sig := sig) (p := (c : Thread nD τ).2) .hbm (.dma sm) (.here (blkM off h))}
    {α : Type} {Q : α → sProp 𝕄} {k : PUnit → Prog (TpuEff nD τ sig (Elt F) Λ₀ .tc) α}
    (fd : (cc0_scratch0 : Ref sig .tc).ty.Contents (Elt F)) :
    iprop(cellInv ER (Rd m) (K (c, k7)) (cell c k7) ∗ (M.view.loc (c : Thread nD τ) ↦[M.view.set]{fullShare} f) ∗ blkPts c b fd
        ∗ dutyTok ER (cell c k7) 0 false ∗ reached ER (cell c k7) 0)
      ⊢ iprop((cred (tallyAt (cell c k7) () NB) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.here (blkM off h)) (.dma sm) hsrc hdst hsem) k) Q) := by
  have e1 := blkM_set off h 0 b ho
  have hc := copy_blk (kIn m c) (vIn m c) off h 0 b ho fd _ hw
  have hd := duties_cell (F := F) m c k7
  have hm := amount_cell (F := F) m c k7 0 false
  have hy := payload_cell (F := F) m c k7 false
  unfold blkPts at hp ⊢
  unfold cell at hd hm hy ⊢
  rw [hs] at hd hm hy ⊢
  rw [← e1]
  exact Rounds.wp_copy_pointsTo 𝒱₀ ER (Rd m) (c : Thread nD τ) none (κ := K (c, k7)) (src := M) (dst := blkM off h) (sem := .dma sm) (r := 0) (d := false) (fd := fd) (fs := f)
    (by rw [hd, hk]; exact Finset.mem_singleton_self _) () NB rfl (hm.trans ha)
    (by
      rw [hy, hp, e1]
      exact sep_mono_left (Entails.of_eq (pointsTo_congr hc)))

/-- The wait for the one duty of a cell's round. -/
theorem wp_one (c : Dev nD) (k7 : Fin 7) (hk : dutiesOf k7.castSucc = {false}) (sm : DmaSem sig) (hs : csem k7 = .dma sm)
    {sp sp' : Space} {s : Shape} {e : EltTy} {src : Memref sig .tc sp s e} {dst : Memref sig .tc sp' s e}
    {hsrc : src.view.WordExact} {hdst : dst.view.WordExact} (hN : dst.view.dmaCredit = amountOf k7.castSucc)
    {α : Type} {Q : α → sProp 𝕄} {k : PUnit → Prog (TpuEff nD τ sig (Elt F) Λ₀ .tc) α}
    (O : CellTallies nD τ sig Unit) (W : Waits sig Unit) :
    iprop(cellInv ER (Rd m) (K (c, k7)) (cell c k7) ∗ cred (tallyAt (cell c k7) () (amountOf k7.castSucc)) ∗ owes (c : Thread nD τ) O W
        ∗ MayWait (c : Thread nD τ) (csem k7) () O ∗ atPos ER (cell c k7) 0 ∅ 0)
      ⊢ iprop(((owes (c : Thread nD τ) O (insert (csem k7, ()) W) ∗ atPos ER (cell c k7) 1 ∅ 0 ∗ pay m c k7.castSucc false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  have hx := expect_one (F := F) m c k7 hk
  have hr := rest_one (F := F) m c k7 hk
  rw [← hN] at hx ⊢
  unfold cell at hx hr ⊢
  rw [hs] at hx hr ⊢
  iintro ⟨Hi, Hc, HO, Hm, Ha⟩ Hk
  iapply (Rounds.wp_wait_rest_token 𝒱₀ ER (Rd m) (c : Thread nD τ) none (κ := K (c, k7))
      (wpE_waitDma2_eq 𝒱₀ (c : Thread nD τ) none Set.univ) (Set.mem_univ _) () (O := O) (W := W) (R := 0) (m := 0) (T := ∅)
      ((Nat.zero_add _).trans hx.symm)) $$ [Hi Hc HO Hm Ha]
  · isplitl [Hi]; · iexact Hi
    isplitl [Hc]; · iexact Hc
    isplitl [HO]; · iexact HO
    isplitl [Hm]; · iexact Hm
    iexact Ha
  iintro ⟨HO, Ha, -, Hp⟩
  ihave Hp := (Entails.of_eq hr) $$ Hp
  iapply Hk
  isplitl [HO]; · iexact HO
  isplitl [Ha]; · iexact Ha
  iexact Hp

/-! ## The two hops -/

theorem el_congr (a : DmaSems sig S2) {off off' : Fin 1 → ℕ} {h h'} (e : off = off') : el a off h = el a off' h' := by subst e; rfl

/-- What holds before hop `n`. -/
def inHop (c : Dev nD) : ℕ → sProp 𝕄
  | 0 => iprop(invs m K c ∗ slotPts c 0 fullShare (kv m c) ∗ (∃ f, slotPts (nx c) 1 fullShare f)
      ∗ dutyTok ER (cell c 1) 0 false ∗ dutyTok ER (cell (nx c) 4) 0 false ∗ atPos ER (cell c 1) 0 ∅ 0 ∗ atPos ER (cell c 4) 0 ∅ 0
      ∗ cred (tallyAt (cell c 4) () NS) ∗ (∃ W, owes (c : Thread nD τ) (tallyAt (cell (nx c) 4) () NS) W)
      ∗ qPts (qIn m ρ c) c ∗ stPts c (hops m ρ c 0))
  | n + 1 => iprop(slotPts c 0 fullShare (kv m c) ∗ slotPts c 1 fullShare (kv m (nx c))
      ∗ atPos ER (cell c 1) 1 ∅ 0 ∗ atPos ER (cell c 4) 1 ∅ 0 ∗ (∃ W, owes (c : Thread nD τ) 0 W)
      ∗ qPts (qIn m ρ c) c ∗ stPts c (hops m ρ c (n + 1)))

/-- The outer loop's body as the kernel calls it. -/
abbrev t1Body (c : Dev nD) : Fin k0_t1_loop.trips → Unit → Prog (TpuEff nD τ sig (Elt F) Λ₀ .tc) Unit :=
  k0_t1_body (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c

theorem trip_first (c : Dev nD) (h0 : 0 < k0_t1_loop.trips) :
    inHop m ρ K c 0 ⊢ wp frame (wpE (defs₀ (F := F)) 𝒱₀ (c : Thread nD τ) none) Set.univ (t1Body c ⟨0, h0⟩ ()) (fun _ => inHop m ρ K c 1) := by
  unfold t1Body k0_t1_body
  rw [dif_pos (show k0_cond1 ⟨0, h0⟩ = 1#1 by revert h0; decide), dif_pos (show k0_cond2 ⟨0, h0⟩ = 1#1 by revert h0; decide)]
  simp only [Prog.lift, Prog.bind_op, Prog.bind_ret, Prog.pure_eq_ret]
  unfold inHop invs
  iintro ⟨⟨#I0, #I1, #I2, #I3, #I4, #I5, #I6, #J0, #J4, #R0, #R4, #R1, #R5, #R6⟩, Hs, ⟨%fn, Hn⟩, Ht1, Ht4, Ha1, Ha4, Hc4, ⟨%W, HO⟩, Hq, Hst⟩
  unfold slotPts
  ihave Hs := (pointsTo_share (PosShare.mem_left_op_right fullShare)).1 $$ Hs
  icases Hs with ⟨HsL, HsR⟩
  iapply (wp_send m K c _ (dev3_nx c ⟨0, h0⟩ (by revert h0; decide)) _ _ (el_congr cc0_scratch3 (k0_off1_eq ⟨0, h0⟩)) (el_congr cc0_scratch4 (k0_off2_eq ⟨0, h0⟩)) _ _ _ _
      (k0_off4_eq ⟨0, h0⟩) (k0_off3_eq ⟨0, h0⟩) fn W) $$ [HsL Hn HO Ht1 Ht4]
  · unfold slotPts
    isplitr; · iexact I1
    isplitr; · iexact J4
    isplitl [HsL]; · iexact HsL
    isplitl [Hn]; · iexact Hn
    isplitl [HO]; · iexact HO
    isplitl [Ht1]; · iexact Ht1
    isplitr; · iexact R1
    isplitl [Ht4]; · iexact Ht4
    iexact R4
  iintro ⟨Hc1, HO⟩
  iapply (wp_load 𝒱₀ (c : Thread nD τ) none Set.univ (m := cM) (load_sub (k0_off5 ⟨0, h0⟩) (k0_off5_inb ⟨0, h0⟩) 0 0 (k0_off5_eq ⟨0, h0⟩))) $$ HsR
  iintro HsR
  iapply (wp_load 𝒱₀ (c : Thread nD τ) none Set.univ (m := cM) (load_sub (k0_off6 ⟨0, h0⟩) (k0_off6_inb ⟨0, h0⟩) 0 1 (k0_off6_eq ⟨0, h0⟩))) $$ HsR
  iintro HsR
  rw [show cM.view.readAt (Elt F) (Rect.unit (s := S2x2x4096x512) (k0_off5 ⟨0, h0⟩) S1x1x4096x512.size (k0_off5_inb ⟨0, h0⟩)).toLoadRect (kv m c) = blkVec (kIn m c)
      from load_blk (kIn m c) (vIn m c) _ _ 0 0 (k0_off5_eq ⟨0, h0⟩),
    show cM.view.readAt (Elt F) (Rect.unit (s := S2x2x4096x512) (k0_off6 ⟨0, h0⟩) S1x1x4096x512.size (k0_off6_inb ⟨0, h0⟩)).toLoadRect (kv m c) = blkVec (vIn m c)
      from load_blk (kIn m c) (vIn m c) _ _ 0 1 (k0_off6_eq ⟨0, h0⟩)]
  iapply (wp_hop (blkVec (kIn m c)) (blkVec (vIn m c)) (qIn m ρ c) c (hops m ρ c 0)) $$ [Hq Hst]
  · isplitl [Hq]; · iexact Hq
    iexact Hst
  iintro ⟨Hq, Hst⟩
  iapply (wp_one m K c 1 rfl _ (congrArg SemLoc.dma (el_congr cc0_scratch3 (k0_off9_eq ⟨0, h0⟩))).symm rfl 0 W) $$ [Hc1 HO Ha1]
  · isplitr; · iexact I1
    isplitl [Hc1]; · iexact Hc1
    isplitl [HO]; · iexact HO
    isplitr; · rw [MayWait_zero]; iempintro
    iexact Ha1
  iintro ⟨HO, Ha1, HsL⟩
  iapply (wp_one m K c 4 rfl _ (congrArg SemLoc.dma (el_congr cc0_scratch4 (k0_off12_eq ⟨0, h0⟩))).symm rfl 0 (insert (csem 1, ()) W)) $$ [Hc4 HO Ha4]
  · isplitr; · iexact I4
    isplitl [Hc4]; · iexact Hc4
    isplitl [HO]; · iexact HO
    isplitr; · rw [MayWait_zero]; iempintro
    iexact Ha4
  iintro ⟨HO, Ha4, Hr⟩
  ihave HsL := (Entails.of_eq (show pay m c (Fin.castSucc 1) false = slotPts c 0 fullShare.left (kv m c) from rfl)) $$ HsL
  ihave Hr := (Entails.of_eq (show pay m c (Fin.castSucc 4) false = slotPts c 1 fullShare (kv m (nx c)) from rfl)) $$ Hr
  unfold slotPts
  rw [wp_ret]; imodintro
  isplitl [HsL HsR]
  · iapply (pointsTo_share (PosShare.mem_left_op_right fullShare)).2
    isplitl [HsL]; · iexact HsL
    iexact HsR
  isplitl [Hr]; · iexact Hr
  isplitl [Ha1]; · iexact Ha1
  isplitl [Ha4]; · iexact Ha4
  isplitl [HO]
  · iexists (insert (csem 4, ()) (insert (csem 1, ()) W)); iexact HO
  isplitl [Hq]; · iexact Hq
  iexact Hst

theorem trip_second (c : Dev nD) (h1 : 1 < k0_t1_loop.trips) :
    inHop m ρ K c 1 ⊢ wp frame (wpE (defs₀ (F := F)) 𝒱₀ (c : Thread nD τ) none) Set.univ (t1Body c ⟨1, h1⟩ ()) (fun _ => inHop m ρ K c 2) := by
  unfold t1Body k0_t1_body
  rw [dif_neg (show ¬ k0_cond1 ⟨1, h1⟩ = 1#1 by revert h1; decide), dif_neg (show ¬ k0_cond2 ⟨1, h1⟩ = 1#1 by revert h1; decide)]
  simp only [Prog.lift, Prog.bind_op, Prog.bind_ret, Prog.pure_eq_ret]
  unfold inHop
  iintro ⟨Hs, Hn, Ha1, Ha4, HO, Hq, Hst⟩
  unfold slotPts
  iapply (wp_load 𝒱₀ (c : Thread nD τ) none Set.univ (m := cM) (load_sub (k0_off5 ⟨1, h1⟩) (k0_off5_inb ⟨1, h1⟩) 1 0 (k0_off5_eq ⟨1, h1⟩))) $$ Hn
  iintro Hn
  iapply (wp_load 𝒱₀ (c : Thread nD τ) none Set.univ (m := cM) (load_sub (k0_off6 ⟨1, h1⟩) (k0_off6_inb ⟨1, h1⟩) 1 1 (k0_off6_eq ⟨1, h1⟩))) $$ Hn
  iintro Hn
  rw [show cM.view.readAt (Elt F) (Rect.unit (s := S2x2x4096x512) (k0_off5 ⟨1, h1⟩) S1x1x4096x512.size (k0_off5_inb ⟨1, h1⟩)).toLoadRect (kv m (nx c)) = blkVec (kIn m (nx c))
      from load_blk (kIn m (nx c)) (vIn m (nx c)) _ _ 1 0 (k0_off5_eq ⟨1, h1⟩),
    show cM.view.readAt (Elt F) (Rect.unit (s := S2x2x4096x512) (k0_off6 ⟨1, h1⟩) S1x1x4096x512.size (k0_off6_inb ⟨1, h1⟩)).toLoadRect (kv m (nx c)) = blkVec (vIn m (nx c))
      from load_blk (kIn m (nx c)) (vIn m (nx c)) _ _ 1 1 (k0_off6_eq ⟨1, h1⟩)]
  iapply (wp_hop (blkVec (kIn m (nx c))) (blkVec (vIn m (nx c))) (qIn m ρ c) c (hops m ρ c 1)) $$ [Hq Hst]
  · isplitl [Hq]; · iexact Hq
    iexact Hst
  iintro ⟨Hq, Hst⟩
  rw [wp_ret]; imodintro
  isplitl [Hs]; · iexact Hs
  isplitl [Hn]; · iexact Hn
  isplitl [Ha1]; · iexact Ha1
  isplitl [Ha4]; · iexact Ha4
  isplitl [HO]; · iexact HO
  isplitl [Hq]; · iexact Hq
  iexact Hst

/-- The outer loop. -/
theorem wp_hops (c : Dev nD) {β : Type} {kk : Unit → Prog (TpuEff nD τ sig (Elt F) Λ₀ .tc) β} {Q : β → sProp 𝕄} :
    inHop m ρ K c 0
      ⊢ iprop((inHop m ρ K c 2 -∗ wp frame (wpE (defs₀ (F := F)) 𝒱₀ (c : Thread nD τ) none) Set.univ (kk ()) Q)
        -∗ wp frame (wpE (defs₀ (F := F)) 𝒱₀ (c : Thread nD τ) none) Set.univ
            (Scf.Loop.for k0_t1_loop k0_t1_ok () (t1Body c) >>= kk) Q) := by
  have h := Scf.wp_for_bind (β := β) (kk := kk) (Q := Q) frame (wpE (defs₀ (F := F)) 𝒱₀ (c : Thread nD τ) none) Set.univ
    k0_t1_loop.lb k0_t1_loop.ub k0_t1_loop.st k0_t1_ok () (t1Body c)
    (fun n _ => inHop m ρ K c n)
    (fun t u => by
      obtain ⟨t, ht⟩ := t
      match t, ht with
      | 0, ht => exact trip_first m ρ K c ht
      | 1, ht => exact trip_second m ρ K c ht
      | n + 2, ht => exact absurd (Nat.lt_of_lt_of_le ht k0_t1_abs.2.1) (by omega))
  rw [show Scf.trips k0_t1_loop.lb k0_t1_loop.ub k0_t1_loop.st = 2 by decide] at h
  iintro H Hk
  iapply h $$ H
  iintro %acc H
  iapply Hk; iexact H

end Cert.KernelIdeal.Ring

end
-- ==== Proof.Body.lean ====
/-
# The kernel's body, effect by effect

The two signals, the wait on the barrier, the two copies of the device's own keys and values into slot 0, the two hops, the
division at the end.
-/
module

public import proofs.«01_k».proof.Proof.Hops

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 7 → ℕ)

def bodyPre (c : Dev nD) : sProp 𝕄 :=
  iprop((ghost m K c ∗ cred (tallyAt (cell c 0) () 2) ∗ cred (tallyAt (cell c 4) () NS) ∗ levAts L lv ∗ kPts m c ∗ vPts m c) ∗ scratch c
    ∗ (dats m ρ 0 c).owesAt () pt.castSucc
    ∗ (∃ d, stg c cc0_stg0_0 ((dats m ρ 0 c).before (0 : Fin 2) pt d))
    ∗ (∃ d, stg c cc0_stg1_0 ((dats m ρ 0 c).before (1 : Fin 2) pt d)))

def bodyPost (c : Dev nD) : sProp 𝕄 :=
  iprop(Φ₁ m c ∗ (dats m ρ 0 c).owesAt () pt.succ ∗ stg c cc0_stg0_0 (qIn m ρ c) ∗ stg c cc0_stg1_0 (result m ρ c))

theorem off00 : (![0, 0] : Fin 2 → Nat) = fun _ => 0 := funext fun a => by fin_cases a <;> rfl

abbrev rO : Rect S4096x512 := Rect.unit (s := S4096x512) ![0, 0] S4096x512.size inb_S4096x512_S4096x512_0_0
abbrev rS : Rect S4096x1 := Rect.unit (s := S4096x1) ![0, 0] S4096x1.size inb_S4096x1_S4096x1_0_0
theorem st_o (f w : (cc0_stg1_0 : Ref sig .tc).ty.Contents (Elt F)) : (oM.access rO : View sig .tc _ _ _).write (Elt F) f w Finset.univ = w :=
  Memref.write_access_unit_zero_univ (Elt F) cc0_stg1_0 off00 _ f w
theorem st_m (f w : (cc0_scratch1 : Ref sig .tc).ty.Contents (Elt F)) : (mM.access rS : View sig .tc _ _ _).write (Elt F) f w Finset.univ = w :=
  Memref.write_access_unit_zero_univ (Elt F) cc0_scratch1 off00 _ f w
theorem st_l (f w : (cc0_scratch2 : Ref sig .tc).ty.Contents (Elt F)) : (lM.access rS : View sig .tc _ _ _).write (Elt F) f w Finset.univ = w :=
  Memref.write_access_unit_zero_univ (Elt F) cc0_scratch2 off00 _ f w
theorem ld_o (f : (cc0_stg1_0 : Ref sig .tc).ty.Contents (Elt F)) : oM.view.readAt (Elt F) rO.toLoadRect f = f :=
  Memref.readAt_unit_zero (Elt F) cc0_stg1_0 off00 _ f
theorem ld_l (f : (cc0_scratch2 : Ref sig .tc).ty.Contents (Elt F)) : lM.view.readAt (Elt F) rS.toLoadRect f = f :=
  Memref.readAt_unit_zero (Elt F) cc0_scratch2 off00 _ f

/-- The whole of the slots' buffer, taken apart into slot 0's two blocks and slot 1. -/
theorem comm_split (c : Dev nD) (f : (cc0_scratch0 : Ref sig .tc).ty.Contents (Elt F)) :
    (((c : Thread nD τ).loc cc0_scratch0) ↦{fullShare} f : sProp 𝕄) ⊢ iprop(blkPts c 0 f ∗ blkPts c 1 f ∗ slotPts c 1 fullShare f) := by
  unfold blkPts slotPts
  iintro H
  ihave H := (Entails.of_eq (show (((c : Thread nD τ).loc cc0_scratch0) ↦{fullShare} f : sProp 𝕄)
    = (((c : Thread nD τ).loc cc0_scratch0) ↦[slotSet 0 ∪ slotSet 1]{fullShare} f) by rw [slot_union])) $$ H
  ihave H := (pointsTo_union slot_disj).1 $$ H
  icases H with ⟨H0, H1⟩
  ihave H0 := (Entails.of_eq (show (((c : Thread nD τ).loc cc0_scratch0) ↦[slotSet 0]{fullShare} f : sProp 𝕄)
    = (((c : Thread nD τ).loc cc0_scratch0) ↦[blkSet 0 0 ∪ blkSet 0 1]{fullShare} f) by rw [blk_union])) $$ H0
  ihave H0 := (pointsTo_union (blk_disj 0)).1 $$ H0
  icases H0 with ⟨Ha, Hb⟩
  isplitl [Ha]; · iexact Ha
  isplitl [Hb]; · iexact Hb
  iexact H1
theorem slot_join (c : Dev nD) (f : (cc0_scratch0 : Ref sig .tc).ty.Contents (Elt F)) :
    iprop(blkPts c 0 f ∗ blkPts c 1 f) ⊢ (slotPts c 0 fullShare f : sProp 𝕄) := by
  unfold blkPts slotPts
  exact (pointsTo_union (blk_disj 0)).2.trans (Entails.of_eq (by rw [blk_union]))
theorem comm_join (c : Dev nD) (f g : (cc0_scratch0 : Ref sig .tc).ty.Contents (Elt F)) :
    iprop(slotPts c 0 fullShare f ∗ slotPts c 1 fullShare g)
      ⊢ (iprop(∃ f : Buf (Elt F) ((c : Thread nD τ).loc cc0_scratch0), ((c : Thread nD τ).loc cc0_scratch0) ↦{fullShare} f) : sProp 𝕄) := by
  unfold slotPts
  refine (pointsTo_join slot_disj).trans ?_
  rw [slot_union]
  iintro H
  iexists _
  iexact H

/-- Slot 1 as the second signal hands it over. -/
theorem slot_offer (c : Dev nD) (f : (cc0_scratch0 : Ref sig .tc).ty.Contents (Elt F)) :
    slotPts c 1 fullShare f ⊢ pay m (nx c) (Fin.castSucc 0) true := by
  show _ ⊢ iprop(∃ f, slotPts (nx (nx c)) 1 fullShare f)
  rw [nx_nx]
  iintro H
  iexists f; iexact H

theorem before_q (c : Dev nD) (d) : (dats m ρ 0 c).before (0 : Fin 2) pt d = qIn m ρ c := by
  unfold Dat.before; rw [if_pos (fetch0_0 pt)]; rfl

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost poss payToks scratch
  iintro ⟨⟨⟨⟨#HI, ⟨Ha0, Ha1, Ha2, Ha3, Ha4, Ha5, Ha6⟩, Htf, Htt, Ht4, Ht1, Ht5, Ht6⟩, Hc0, Hc4, #Hlev, Hk, Hv⟩, ⟨⟨%fc, Hcomm⟩, ⟨%fm, Hm⟩, ⟨%fl, Hl⟩⟩,
    Ho, ⟨%d0, %g0, %hg0, Hq⟩, ⟨%d1, %g1, %hg1, Hout⟩⟩, Hkt⟩
  have hx : g0 = qIn m ρ c := hg0.trans (before_q m ρ c d0)
  subst hx
  unfold Dat.owesAt Pipeline.owesWithin
  icases Ho with ⟨%W, %hW, HO⟩
  rw [show (dats m ρ 0 c).owed pt.castSucc = O₀ c from rfl]
  simp only [dev1_nx c, dev2_nx c]
  ihave Hsp := (comm_split c fc) $$ Hcomm
  icases Hsp with ⟨Hb0, Hb1, Hs1⟩
  unfold invs
  icases HI with ⟨#I0, #I1, #I2, #I3, #I4, #I5, #I6, #J0, #J4, #R0, #R4, #R1, #R5, #R6⟩
  -- the first signal
  iapply (Rounds.wp_signal 𝒱₀ ER (Rd m) (c : Thread nD τ) none (dst := (nx c : Thread nD τ)) (κ := K (nx c, 0)) (r := 0)
      (d := false) (by rw [duties_cell m (nx c) 0]; exact Finset.mem_univ _) ((amount_cell m (nx c) 0 0 false).trans (by decide)) () (O₁ c) rfl)
    $$ [HO Htf]
  · isplitr; · iexact J0
    isplitl [HO]; · iexact HO
    isplitl [Htf]; · iexact Htf
    isplitr; · rw [payload_cell m (nx c) 0 false]; iempintro
    iexact R0
  iintro HO
  -- the second, with slot 1
  unfold O₁
  iapply (Rounds.wp_signal 𝒱₀ ER (Rd m) (c : Thread nD τ) none (dst := (nx c : Thread nD τ)) (κ := K (nx c, 0)) (r := 0)
      (d := true) (by rw [duties_cell m (nx c) 0]; exact Finset.mem_univ _) ((amount_cell m (nx c) 0 0 true).trans (by decide)) ()
      (tallyAt (cell (nx c) 4) () NS) rfl)
    $$ [HO Htt Hs1]
  · isplitr; · iexact J0
    isplitl [HO]; · iexact HO
    isplitl [Htt]; · iexact Htt
    isplitl [Hs1]
    · rw [payload_cell m (nx c) 0 true]
      iapply (slot_offer m c fc); iexact Hs1
    · iexact R0
  iintro HO
  -- the wait on the barrier
  iapply (Rounds.wp_wait_rest_token 𝒱₀ ER (Rd m) (c : Thread nD τ) none (κ := K (c, 0))
      (wpE_semWait_eq 𝒱₀ (c : Thread nD τ) none Set.univ) (Set.mem_univ _) () (O := tallyAt (cell (nx c) 4) () NS) (W := W) (R := 0) (m := 0) (T := ∅)
      (by rw [expect_bar m c]; decide)) $$ [Hc0 HO Ha0]
  · isplitr; · iexact I0
    isplitl [Hc0]; · iexact Hc0
    isplitl [HO]; · iexact HO
    isplitr; · iapply (mayWait_copy c 0 (by decide)); iexact Hlev
    iexact Ha0
  iintro ⟨HO, Ha0, -, Hp⟩
  ihave Hp := (Entails.of_eq (rest_bar m c)) $$ Hp
  icases Hp with ⟨-, Hn⟩
  -- the device's own keys and values into slot 0
  unfold kPts vPts
  iapply (wp_own m K c 0 5 rfl rfl (Memref.whole main_arg1) (kIn m c) rfl _ rfl _ _ rfl (by rw [View.set_whole]; rfl) fc) $$ [Hk Hb0 Ht5]
  · isplitr; · iexact I5
    isplitl [Hk]; · rw [View.set_whole]; iexact Hk
    isplitl [Hb0]; · iexact Hb0
    isplitl [Ht5]; · iexact Ht5
    iexact R5
  iintro Hc5
  iapply (wp_own m K c 1 6 rfl rfl (Memref.whole main_arg2) (vIn m c) rfl _ rfl _ _ rfl (by rw [View.set_whole]; rfl) fc) $$ [Hv Hb1 Ht6]
  · isplitr; · iexact I6
    isplitl [Hv]; · rw [View.set_whole]; iexact Hv
    isplitl [Hb1]; · iexact Hb1
    isplitl [Ht6]; · iexact Ht6
    iexact R6
  iintro Hc6
  -- the three buffers at their first contents
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [st_o]
  iapply (wp_load 𝒱₀ (c : Thread nD τ) none Set.univ (m := mM) (Finset.subset_univ _)) $$ Hm; iintro Hm
  iapply (wp_store 𝒱₀ (c : Thread nD τ) none Set.univ (m := mM) (r := rS) (Mk := Finset.univ) (Finset.subset_univ _)) $$ Hm; iintro Hm
  rw [st_m]
  iapply (wp_load 𝒱₀ (c : Thread nD τ) none Set.univ (m := lM) (Finset.subset_univ _)) $$ Hl; iintro Hl
  iapply (wp_store 𝒱₀ (c : Thread nD τ) none Set.univ (m := lM) (r := rS) (Mk := Finset.univ) (Finset.subset_univ _)) $$ Hl; iintro Hl
  rw [st_l]
  -- slot 0 is filled
  iapply (wp_one m K c 5 rfl _ rfl rfl (tallyAt (cell (nx c) 4) () NS) (insert (SemLoc.reg barS, ()) W)) $$ [Hc5 HO Ha5]
  · isplitr; · iexact I5
    isplitl [Hc5]; · iexact Hc5
    isplitl [HO]; · iexact HO
    isplitr; · iapply (mayWait_copy c 5 (by decide)); iexact Hlev
    iexact Ha5
  iintro ⟨HO, Ha5, Hp5⟩
  iapply (wp_one m K c 6 rfl _ rfl rfl (tallyAt (cell (nx c) 4) () NS) (insert (csem 5, ()) (insert (SemLoc.reg barS, ()) W))) $$ [Hc6 HO Ha6]
  · isplitr; · iexact I6
    isplitl [Hc6]; · iexact Hc6
    isplitl [HO]; · iexact HO
    isplitr; · iapply (mayWait_copy c 6 (by decide)); iexact Hlev
    iexact Ha6
  iintro ⟨HO, Ha6, Hp6⟩
  ihave Hp5 := (Entails.of_eq (show pay m c (Fin.castSucc 5) false = iprop(blkPts c 0 (kv m c) ∗ kPts m c) from rfl)) $$ Hp5
  ihave Hp6 := (Entails.of_eq (show pay m c (Fin.castSucc 6) false = iprop(blkPts c 1 (kv m c) ∗ vPts m c) from rfl)) $$ Hp6
  icases Hp5 with ⟨Hb0, Hk⟩
  icases Hp6 with ⟨Hb1, Hv⟩
  ihave Hs0 := (slot_join c (kv m c)) $$ [Hb0 Hb1]
  · isplitl [Hb0] <;> iassumption
  -- the hops
  iapply (wp_hops m ρ K c) $$ [Hs0 Hn Ht1 Ht4 Ha1 Ha4 Hc4 HO Hq Hout Hm Hl]
  · unfold inHop invs
    isplitr
    · iframe I0 I1 I2 I3 I4 I5 I6 J0 J4 R0 R4 R1 R5 R6
    isplitl [Hs0]; · iexact Hs0
    isplitl [Hn]; · iexact Hn
    isplitl [Ht1]; · iexact Ht1
    isplitl [Ht4]; · iexact Ht4
    isplitl [Ha1]; · iexact Ha1
    isplitl [Ha4]; · iexact Ha4
    isplitl [Hc4]; · iexact Hc4
    isplitl [HO]; · iexists _; iexact HO
    isplitl [Hq]; · unfold qPts; iexact Hq
    unfold stPts hops init
    isplitl [Hout]; · iexact Hout
    isplitl [Hm]; · iexact Hm
    iexact Hl
  unfold inHop
  iintro ⟨Hs0, Hs1, Ha1, Ha4, ⟨%W', HO⟩, Hq, Hst⟩
  unfold stPts qPts
  icases Hst with ⟨Hout, Hm, Hl⟩
  -- the division
  iapply (wp_load 𝒱₀ (c : Thread nD τ) none Set.univ (m := oM) (Finset.subset_univ _)) $$ Hout; iintro Hout
  iapply (wp_load 𝒱₀ (c : Thread nD τ) none Set.univ (m := lM) (Finset.subset_univ _)) $$ Hl; iintro Hl
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [st_o, ld_o, ld_l]
  -- the cells close
  imod (Rounds.cell_close ER (Rd m) (Set.mem_univ (K (c, 0))) (fun h => h) (R := 0 + 1) (duties_over m (cell c 0))) $$ [Ha0] with Hz0
  · isplitr; · iexact I0
    iexact Ha0
  imod (Rounds.cell_close ER (Rd m) (Set.mem_univ (K (c, 1))) (fun h => h) (R := 1) (duties_over m (cell c 1))) $$ [Ha1] with Hz1
  · isplitr; · iexact I1
    iexact Ha1
  imod (Rounds.cell_close ER (Rd m) (Set.mem_univ (K (c, 2))) (fun h => h) (R := 0) (duties_none m c 2 rfl)) $$ [Ha2] with Hz2
  · isplitr; · iexact I2
    iexact Ha2
  imod (Rounds.cell_close ER (Rd m) (Set.mem_univ (K (c, 3))) (fun h => h) (R := 0) (duties_none m c 3 rfl)) $$ [Ha3] with Hz3
  · isplitr; · iexact I3
    iexact Ha3
  imod (Rounds.cell_close ER (Rd m) (Set.mem_univ (K (c, 4))) (fun h => h) (R := 1) (duties_over m (cell c 4))) $$ [Ha4] with Hz4
  · isplitr; · iexact I4
    iexact Ha4
  imod (Rounds.cell_close ER (Rd m) (Set.mem_univ (K (c, 5))) (fun h => h) (R := 1) (duties_over m (cell c 5))) $$ [Ha5] with Hz5
  · isplitr; · iexact I5
    iexact Ha5
  imod (Rounds.cell_close ER (Rd m) (Set.mem_univ (K (c, 6))) (fun h => h) (R := 1) (duties_over m (cell c 6))) $$ [Ha6] with Hz6
  · isplitr; · iexact I6
    iexact Ha6
  rw [wp_ret]; imodintro
  iapply Hkt
  unfold bodyPost Φ₁ scratch zeros Dat.owesAt Pipeline.owesWithin
  rw [show (dats m ρ 0 c).owed pt.succ = 0 from rfl]
  isplitl [Hs0 Hs1 Hm Hl Hz0 Hz1 Hz2 Hz3 Hz4 Hz5 Hz6 Hk Hv]
  · isplitl [Hs0 Hs1 Hm Hl]
    · isplitl [Hs0 Hs1]
      · iapply (comm_join c)
        isplitl [Hs0] <;> iassumption
      isplitl [Hm]
      · iexists _; iexact Hm
      iexists _; iexact Hl
    isplitl [Hz0 Hz1 Hz2 Hz3 Hz4 Hz5 Hz6]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      iexact Hz6
    isplitl [Hk]; · iexact Hk
    iexact Hv
  isplitl [HO]
  · iexists W'
    isplitr; · ipureintro; exact fun _ _ => Or.inl trivial
    iexact HO
  isplitl [Hq]
  · iexists _; isplitr; · (ipureintro; rfl)
    iexact Hq
  iexists _; isplitr; · (ipureintro; rfl)
  iexact Hout

def bodyPre' (c : Dev nD) : sProp 𝕄 :=
  iprop(Φ₀ m c ∗ (dats m ρ 0 c).owesAt () pt.castSucc
    ∗ (∃ d, stg c cc0_stg0_0 ((dats m ρ 0 c).before (0 : Fin 2) pt d))
    ∗ (∃ d, stg c cc0_stg1_0 ((dats m ρ 0 c).before (1 : Fin 2) pt d)))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- The library's obligation of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre' m ρ c ⊢ wp frame (wpE (defs₀ (F := F)) 𝒱₀ c none) Set.univ
    (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5)
    (fun _ => bodyPost m ρ c)
  unfold bodyPre' Φ₀ start
  iintro ⟨⟨⟨⟨%K, Hg⟩, Hrest⟩, Hscr⟩, Ho, Hq, Hout⟩
  iapply (sound_body m ρ K c fun _ => bodyPost m ρ c)
  unfold bodyPre
  isplitr []
  · isplitl [Hg Hrest]
    · isplitl [Hg]; · iexact Hg
      iexact Hrest
    isplitl [Hscr]; · iexact Hscr
    isplitl [Ho]; · iexact Ho
    isplitl [Hq] <;> iassumption
  · iintro H; iexact H

end Cert.KernelIdeal.Ring

end
-- ==== Proof.Run.lean ====
/-
# The run

From any memory with every counter at zero, the two devices run to the end: the result array of each holds what its two hops
compute, the arguments are unchanged and every counter is at zero again.
-/
module

public import proofs.«01_k».proof.Proof.Body
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Cells and tokens -/

theorem own_facts : Pipeline.OwnSemFacts cfg0.spec osem := by decide

theorem share_full (c : Dev nD) (w : Fin cfg0.W) : (dats m ρ 0 c).share w = fullShare := by unfold Dat.share; split <;> rfl

theorem csem_inj {k k' : Fin 7} (h : csem k = csem k') : k = k' := by
  have := congrArg code h
  rw [code_csem, code_csem] at this
  exact Fin.castSucc_injective _ this

abbrev at7 (x : Dev nD × Fin 7) : GSem nD τ sig := cell x.1 x.2
theorem at7_inj : Function.Injective at7 := by
  rintro ⟨c, k⟩ ⟨c', k'⟩ h
  obtain rfl : c = c' := congrArg (fun g : GSem nD τ sig => g.1.1) h
  obtain rfl : k = k' := csem_inj (congrArg Prod.snd h)
  rfl
def allCells : Finset (GSem nD τ sig) := Finset.univ.map ⟨at7, at7_inj⟩

/-- The six duties of a device's semaphores: the number of the semaphore, and the duty's name. -/
def duty6 : Fin 6 → Fin 7 × Bool
  | 0 => (0, false) | 1 => (0, true) | 2 => (4, false) | 3 => (1, false) | 4 => (5, false) | 5 => (6, false)
theorem duty6_inj : Function.Injective duty6 := by decide
abbrev tok6 (x : Dev nD × Fin 6) : GSem nD τ sig × ℕ × Bool := (cell x.1 (duty6 x.2).1, 0, (duty6 x.2).2)
theorem tok6_inj : Function.Injective tok6 := by
  rintro ⟨c, j⟩ ⟨c', j'⟩ h
  obtain rfl : c = c' := congrArg (fun g : GSem nD τ sig × ℕ × Bool => g.1.1.1) h
  have h1 : (duty6 j).1 = (duty6 j').1 := csem_inj (congrArg (fun g : GSem nD τ sig × ℕ × Bool => g.1.2) h)
  have h2 : (duty6 j).2 = (duty6 j').2 := congrArg (fun g : GSem nD τ sig × ℕ × Bool => g.2.2) h
  obtain rfl : j = j' := duty6_inj (Prod.ext h1 h2)
  rfl
def allToks : Finset (GSem nD τ sig × ℕ × Bool) := Finset.univ.map ⟨tok6, tok6_inj⟩

def u₀ : UU :=
  (initOf (Pipeline.cells cfgs cellOf_inj) (Pipeline.launchToks cfgs cellOf_inj), initOf allCells allToks)

/-- The tokens of device `c`'s own duties. -/
def toks (c : Dev nD) : sProp 𝕄 :=
  iprop(dutyTok ER (cell c 0) 0 false ∗ dutyTok ER (cell c 0) 0 true ∗ dutyTok ER (cell c 4) 0 false
    ∗ dutyTok ER (cell c 1) 0 false ∗ dutyTok ER (cell c 5) 0 false ∗ dutyTok ER (cell c 6) 0 false)

/-- What a device is dealt at launch, and what becomes of it once the invariants are in place. -/
def dealt (c : Dev nD) : sProp 𝕄 :=
  iprop((bigSep Finset.univ fun k : Fin 7 => roundState ER (Rd m) (at7 (c, k)) 0)
    ∗ (bigSep Finset.univ fun k : Fin 7 => iprop(atPos ER (at7 (c, k)) 0 ∅ 0 ∗ reached ER (at7 (c, k)) 0)) ∗ toks c)
def placed (c : Dev nD) : sProp 𝕄 := iprop(∃ K, ghost m K c)

theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem deal : BI.own (ER (initOf allCells allToks)) ⊢ (|==> bigSep Finset.univ (dealt (F := F) m) : sProp 𝕄) := by
  have hX (Φ : GSem nD τ sig → sProp 𝕄) : bigSep allCells Φ = bigSep Finset.univ fun c : Dev nD => bigSep Finset.univ fun k : Fin 7 => Φ (at7 (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [sep6]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The counters at launch, and the invariants -/

theorem own_six (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0) := by
  rw [Pipeline.ownSems0_eq_of_list c osem [0, 1, 2, 3, 4, 5] (by decide) (by decide)]; rfl
theorem unscoped_one (c : Dev nD) : (unscopedSems0 c : sProp 𝕄) = semVal (cell c 0) 0 := by
  unfold unscopedSems0; rw [bigSep_eq_bigSepL_of_eq [SemLoc.reg barS] (by decide) (by decide)]; rfl

theorem zeros_split (c : Dev nD) : (zeros c : sProp 𝕄)
    ⊢ iprop(unscopedSems0 c ∗ Pipeline.ownSems0 (Ix := Unit) (Name := ℕ) (U := UU) (Lvl := ℕ) (Val := Elt F) (τ := τ) osem c) := by
  rw [own_six, unscoped_one]; exact .rfl
theorem zeros_join (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (at7 (c, k)) 0 : sProp 𝕄) := by
  rw [own_six, unscoped_one, sep7]; exact sep_comm.1

theorem invs_alloc (c : Dev nD) :
    iprop((bigSep Finset.univ fun k : Fin 7 => semVal (at7 (c, k)) 0) ∗ bigSep Finset.univ fun k : Fin 7 => roundState ER (Rd m) (at7 (c, k)) 0)
      ⊢ (|={Set.univ}=> bigSep Finset.univ fun k => iprop(∃ κ : ℕ, cellInv ER (Rd m) κ (at7 (c, k))) : sProp 𝕄) := by
  rw [← bigSep_sep']
  exact (bigSep_mono fun k _ => (Rounds.body_intro ER (Rd m) (at7 (c, k))).trans inv_alloc).trans (bigSep_fupd _ _)

theorem place (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (Rd m) κ (at7 (c, k))))
          ∗ (bigSep Finset.univ fun k => iprop(atPos ER (at7 (c, k)) 0 ∅ 0 ∗ reached ER (at7 (c, k)) 0)) ∗ toks c) := by
  unfold dealt
  iintro ⟨Hos, Hus, Hst, Hat, Htok⟩
  ihave Hv := (zeros_join (F := F) c) $$ [Hos Hus]
  · isplitl [Hos] <;> iassumption
  imod (invs_alloc m c) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun x : Dev nD × Fin 7 => cellInv ER (Rd m) (K x) (at7 x))
    ∗ bigSep Finset.univ fun x : Dev nD × Fin 7 => reached ER (at7 x) 0)

instance records_pers (K : Dev nD × Fin 7 → ℕ) : BI.Persistent (records (F := F) m K) := by unfold records; infer_instance

theorem inv_at (K : Dev nD × Fin 7 → ℕ) (c : Dev nD) (k : Fin 7) : (records m K : sProp 𝕄) ⊢ cellInv ER (Rd m) (K (c, k)) (cell c k) := by
  have h : (bigSep Finset.univ fun x : Dev nD × Fin 7 => (cellInv ER (Rd m) (K x) (at7 x) : sProp 𝕄)) ⊢ cellInv ER (Rd m) (K (c, k)) (cell c k) :=
    bigSep_elim (Finset.mem_univ (c, k))
  unfold records
  iintro ⟨#HI, -⟩
  iapply h
  iexact HI
theorem reached_at (K : Dev nD × Fin 7 → ℕ) (c : Dev nD) (k : Fin 7) : (records m K : sProp 𝕄) ⊢ reached ER (cell c k) 0 := by
  have h : (bigSep Finset.univ fun x : Dev nD × Fin 7 => (reached ER (at7 x) 0 : sProp 𝕄)) ⊢ reached ER (cell c k) 0 :=
    bigSep_elim (Finset.mem_univ (c, k))
  unfold records
  iintro ⟨-, #HR⟩
  iapply h
  iexact HR

theorem invs_at (K : Dev nD × Fin 7 → ℕ) (c : Dev nD) : (records m K : sProp 𝕄) ⊢ invs m K c := by
  unfold invs
  iintro #H
  isplitr; · iapply (inv_at m K c 0); iexact H
  isplitr; · iapply (inv_at m K c 1); iexact H
  isplitr; · iapply (inv_at m K c 2); iexact H
  isplitr; · iapply (inv_at m K c 3); iexact H
  isplitr; · iapply (inv_at m K c 4); iexact H
  isplitr; · iapply (inv_at m K c 5); iexact H
  isplitr; · iapply (inv_at m K c 6); iexact H
  isplitr; · iapply (inv_at m K (nx c) 0); iexact H
  isplitr; · iapply (inv_at m K (nx c) 4); iexact H
  isplitr; · iapply (reached_at m K (nx c) 0); iexact H
  isplitr; · iapply (reached_at m K (nx c) 4); iexact H
  isplitr; · iapply (reached_at m K c 1); iexact H
  isplitr; · iapply (reached_at m K c 5); iexact H
  iapply (reached_at m K c 6); iexact H

/-- What is a device's alone: its positions and the tokens of the duties it pays. -/
def alone (c : Dev nD) : sProp 𝕄 := iprop((bigSep Finset.univ fun k : Fin 7 => atPos ER (at7 (c, k)) 0 ∅ 0) ∗ payToks c)

theorem ghost_intro (K : Dev nD × Fin 7 → ℕ) (c : Dev nD) : iprop(records m K ∗ alone c) ⊢ placed (F := F) m c := by
  unfold alone placed ghost poss
  rw [sep7]
  iintro ⟨#HR, Hat, Htok⟩
  iexists K
  isplitr; · iapply (invs_at m K c); iexact HR
  isplitl [Hat]; · iexact Hat
  iexact Htok

/-- The tokens of the barrier and of the receiving semaphore go to the other device, which pays them. -/
theorem toks_swap : (bigSep Finset.univ fun c : Dev nD => (toks c : sProp 𝕄)) ⊢ bigSep Finset.univ fun c : Dev nD => payToks c := by
  unfold toks payToks
  rw [bigSep_sep', bigSep_sep', bigSep_sep', bigSep_sep', bigSep_sep']
  rw [bigSep_sep', bigSep_sep', bigSep_sep', bigSep_sep', bigSep_sep']
  rw [bigSep_univ_equiv turn (fun c : Dev nD => (dutyTok ER (cell c 0) 0 false : sProp 𝕄)),
    bigSep_univ_equiv turn (fun c : Dev nD => (dutyTok ER (cell c 0) 0 true : sProp 𝕄)),
    bigSep_univ_equiv turn (fun c : Dev nD => (dutyTok ER (cell c 4) 0 false : sProp 𝕄))]
  exact .rfl

theorem with_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (at7 (c, k))))
          ∗ (bigSep Finset.univ fun k => iprop(atPos ER (at7 (c, k)) 0 ∅ 0 ∗ reached ER (at7 (c, k)) 0)) ∗ toks c) : sProp 𝕄)
      ⊢ bigSep Finset.univ (placed (F := F) m) := by
  rw [bigSep_sep', bigSep_sep', ← bigSep_univ_prod (fun x : Dev nD × Fin 7 => iprop(∃ κ : ℕ, cellInv ER (Rd m) κ (at7 x))),
    bigSep_congr (s := Finset.univ) (fun (c : Dev nD) _ => bigSep_sep' Finset.univ (fun k : Fin 7 => (atPos ER (at7 (c, k)) 0 ∅ 0 : sProp 𝕄)) (fun k => reached ER (at7 (c, k)) 0)),
    bigSep_sep', ← bigSep_univ_prod (fun x : Dev nD × Fin 7 => (reached ER (at7 x) 0 : sProp 𝕄))]
  iintro ⟨HI, ⟨Hat, #HR⟩, Htok⟩
  ihave HK := (BI.bigSep_exists_pi Finset.univ (fun (x : Dev nD × Fin 7) (κ : ℕ) => (cellInv ER (Rd m) κ (at7 x) : sProp 𝕄))) $$ HI
  icases HK with ⟨%K, #HI⟩
  ihave Htk := (toks_swap (F := F)) $$ Htok
  iapply (with_pers (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (at7 (c, k)) 0 ∅ 0 : sProp 𝕄)) payToks).symm).trans
      (bigSep_mono fun c _ => show _ ⊢ alone c from .rfl))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (placed (F := F) m) :=
  ((bigSep_mono fun c _ => place m c).trans (bigSep_fupd _ _)).trans (BI.fupd_mono (regroup m))

/-! ## The credit at launch -/

theorem cell_iff (a b : Dev nD) (k : Fin 7) : Iff (cell a k = cell b k) (a = b) :=
  ⟨fun h => congrArg (fun g : GSem nD τ sig => g.1.1) h, fun h => h ▸ rfl⟩
theorem cell_ne (a b : Dev nD) (k k' : Fin 7) (h : k ≠ k') : cell a k ≠ cell b k' :=
  fun h' => h (csem_inj (congrArg Prod.snd h'))
theorem nx_iff (c d : Dev nD) : Iff (c = nx d) (d = nx c) :=
  ⟨fun h => by rw [h, nx_nx], fun h => by rw [h, nx_nx]⟩

theorem owed_bar (d c : Dev nD) : O₀ d (cell c 0) () = if d = nx c then 2 else 0 := by
  unfold O₀ O₁
  rw [Pi.add_apply, Finsupp.add_apply, Pi.add_apply, Finsupp.add_apply, tallyAt_ne_cell (cell_ne c (nx d) 0 4 (by decide)),
    tallyAt_apply, Finsupp.zero_apply, Nat.zero_add]
  by_cases h : d = nx c
  · rw [if_pos h, if_pos ⟨(cell_iff _ _ _).mpr ((nx_iff _ _).mpr h), rfl⟩]
  · rw [if_neg h, if_neg fun h' => h ((nx_iff _ _).mp ((cell_iff _ _ _).mp h'.1))]
theorem owed_rcv (d c : Dev nD) : O₀ d (cell c 4) () = if d = nx c then NS else 0 := by
  unfold O₀ O₁
  rw [Pi.add_apply, Finsupp.add_apply, Pi.add_apply, Finsupp.add_apply, tallyAt_ne_cell (cell_ne c (nx d) 4 0 (by decide)),
    tallyAt_apply, Finsupp.zero_apply, Nat.add_zero, Nat.add_zero]
  by_cases h : d = nx c
  · rw [if_pos h, if_pos ⟨(cell_iff _ _ _).mpr ((nx_iff _ _).mpr h), rfl⟩]
  · rw [if_neg h, if_neg fun h' => h ((nx_iff _ _).mp ((cell_iff _ _ _).mp h'.1))]

theorem launch_bar (c : Dev nD) :
    tallyOn (cell c 0) (launchCredit (Pipeline.owing O₀) 0 (cell c 0)) = (tallyAt (cell c 0) () 2 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nx c) fun _ => 2, if_pos (Finset.mem_univ _)]
theorem launch_rcv (c : Dev nD) :
    tallyOn (cell c 4) (launchCredit (Pipeline.owing O₀) 0 (cell c 4)) = (tallyAt (cell c 4) () NS : CellTallies nD τ sig Unit) := by
  unfold tallyAt; refine congrArg _ (Finsupp.ext fun u => ?_); cases u
  rw [Pipeline.launchCredit_owing, Finsupp.single_eq_same, Finset.sum_congr rfl fun d _ => owed_rcv d c,
    Finset.sum_ite_eq' Finset.univ (nx c) fun _ => NS, if_pos (Finset.mem_univ _)]

theorem creds (c : Dev nD) :
    (Pipeline.launchCred O₀ c : sProp 𝕄) ⊢ iprop(cred (tallyAt (cell c 0) () 2) ∗ cred (tallyAt (cell c 4) () NS)) := by
  unfold Pipeline.launchCred
  rw [bigSep_univ_at _ (csem 0), launch_bar]
  refine sep_mono_right ?_
  rw [← launch_rcv]
  exact bigSep_elim (Finset.mem_erase.mpr ⟨fun h => absurd (csem_inj h) (by decide), Finset.mem_univ _⟩)

/-! ## Into the body and out of it -/

theorem rest_args (c : Dev nD) :
    (Pipeline.unscopedRestP (Ix := Unit) (Name := ℕ) (U := UU) (Lvl := ℕ) Pipeline.Prefetch.none cfg0.spec c (fun b => m ((c : Thread nD τ).loc b)) : sProp 𝕄)
      = iprop(kPts m c ∗ vPts m c) := by
  rw [Pipeline.unscopedRestP_eq_of_list cfg0.spec c Pipeline.Prefetch.none _ [main_arg1, main_arg2] (by decide) (by decide)]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ placed m c)
      ⊢ |={Set.univ}=> iprop(start m c ∗ (emp : sProp 𝕄)) := by
  rw [rest_args]
  iintro ⟨⟨Hk, Hv⟩, Hlev, Hcr, -, HG⟩
  ihave Hc := (creds (F := F) c) $$ Hcr
  icases Hc with ⟨H1, HN⟩
  imodintro
  unfold start placed
  isplitl
  · isplitl [HG]; · iexact HG
    isplitl [H1]; · iexact H1
    isplitl [HN]; · iexact HN
    isplitl [Hlev]; · iexact Hlev
    isplitl [Hk]; · iexact Hk
    iexact Hv
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device ends with besides its scratch. -/
def ends (c : Dev nD) : sProp 𝕄 := iprop(unscopedSems0 c ∗ kPts m c ∗ vPts m c)

theorem phi_out (c : Dev nD) :
    (dats m ρ 0 c).Φ (Fin.last cfg0.N) ⊢ iprop(ends m c ∗ Pipeline.ownSems0 osem c ∗ Pipeline.scopedRest cfg0.spec c) := by
  rw [show (dats m ρ 0 c).Φ (Fin.last cfg0.N) = Φ₁ m c from rfl, scopedRest0_eq]
  unfold Φ₁ ends
  iintro ⟨Hr, Hz, Hk, Hv⟩
  ihave Hz' := (zeros_split (F := F) c) $$ Hz
  icases Hz' with ⟨Hu, Ho⟩
  isplitl [Hu Hk Hv]
  · isplitl [Hu]; · iexact Hu
    isplitl [Hk]; · iexact Hk
    iexact Hv
  isplitl [Ho]; · iexact Ho
  unfold scratch
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-- What the final memory says of a device: its unscoped counters at zero, keys and values unchanged. -/
def Kept (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_arg2) = m ((c : Thread nD τ).loc main_arg2)

theorem kept (c : Dev nD) (s' : Phys nD τ sig (Elt F)) :
    iprop(ends m c ∗ emp ∗ SI s') ⊢ (|={Set.univ}=> iprop(⌜Kept m c s'.mem⌝ ∗ SI s') : sProp 𝕄) := by
  unfold ends kPts vPts kIn vIn
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hk, Buf.eq_of_forall_mem_univ hv⟩
  · iexact HSI

/-! ## The run -/

def finalA (c : Dev nD) (w : Fin cfg0.W) : Buf (Elt F) ((cfg0.win w).arr.view.loc (c : Thread nD τ)) := (dats m ρ 0 c).arrAt w cfg0.N

def Ends (s : MemSt nD τ sig (Elt F)) : Prop :=
  ∀ c : Dev nD, (∀ w : Fin cfg0.W, s.mem ((cfg0.win w).arr.view.loc (c : Thread nD τ)) = finalA m ρ c w) ∧ Kept m c s

set_option maxRecDepth 8000 in
/-- Every weakly fair execution of the program ends, with the arrays as computed, keys and values unchanged and every
    counter at zero. -/
theorem run_main : θ_run (defs (F := F)) (onTc (τ := τ) (main (F := F))) (mem₀ m ρ) (fun r => Ends m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt m) (G' := placed m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := ends m) (Z := fun _ => iprop(emp))
    (hX := start_intro m ρ) (hin := phi_in m ρ) (hout := phi_out m ρ)
    (QY := fun c s => Kept m c s)
    (hY := kept m)
    (hQ := fun _ h hs => ⟨fun c => ⟨(h c).1, (h c).2.2⟩, sem_eq_zero hs fun c => (h c).2.2.1⟩)

/-- The queries' array after the run is as before. -/
theorem finalA_q (c : Dev nD) : finalA m ρ c (0 : Fin 2) = (mem₀ m ρ).mem (win0_0.arr.view.loc (c : Thread nD τ)) :=
  (dats (F := F) m ρ 0 c).arrAt_in (0 : Fin 2) rfl _

end Cert.KernelIdeal.Ring

end
-- ==== Proof.Kept.lean ====
/-
# The frame claims of the kernel
-/
module

public import proofs.«01_k».proof.Defs
public import proofs.«01_k».proof.Proof.Run
public import proofs.«01_k».proof.Proof.Gen.Kernel
public import Idealize.ShloMosaic.Lib.StableHlo.RunHlo
public import proofs.«01_k».proof.Proof.Gen.Pre_finite_KernelIdeal

@[expose] public section

noncomputable section

namespace Cert.KernelIdeal.Ring

open Cert.KernelIdeal Cert.KernelIdeal.Gen

open Idealize.ShloMosaic
open Idealize.ShloMosaic.TcCoe
open Idealize.SL.Sem

section
variable {F : FTy → Type} [FloatOps F] [Named F]

/-- The arguments are unchanged on every device. -/
def ArgsKept (m : (ℓ : Loc nD τ sig) → Buf (Elt F) ℓ) (s : MemSt nD τ sig (Elt F)) : Prop :=
  ∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)

theorem Ends.kept {m : (ℓ : Loc nD τ sig) → Buf (Elt F) ℓ} {ρ : Dev nD → PrngReg} {s : MemSt nD τ sig (Elt F)} (h : Ends m ρ s) : ArgsKept m s :=
  fun c => ⟨((h c).1 (0 : Fin 2)).trans (finalA_q m ρ c), (h c).2.2.1, (h c).2.2.2⟩

theorem frame (m : (ℓ : Loc nD τ sig) → Buf (Elt F) ℓ) (ρ : Dev nD → PrngReg) :
    θ_run (defs (F := F)) (onTc (τ := τ) (main (F := F))) ⟨m, fun _ => 0, ρ⟩ (fun r => ArgsKept m r.2 ∧ r.2.sem = fun _ => 0) :=
  θ_run_mono (run_main m ρ) fun _ h => ⟨h.1.kept, h.2⟩
end

theorem frame_ideal : Cert.quiescent_KernelIdeal := fun m ρ _ => frame m ρ
theorem frame_ideal_finite : Cert.quiescent_KernelIdeal_pre_finite_KernelIdeal := fun m ρ _ => frame m ρ

/-- Over machine floats the named constant is the number the program writes. -/
abbrev written : Named Bits := ⟨fun _ _ _ b => Scalar.ofBits _ b⟩

theorem body_bits : @Cert.Kernel.cc0_body Bits _ _ = @Cert.KernelIdeal.cc0_body Bits _ written _ := by
  unfold Cert.Kernel.cc0_body Cert.KernelIdeal.cc0_body
  rfl
theorem table_bits : @Cert.Kernel.defs₀ Bits _ _ = @Cert.KernelIdeal.defs₀ Bits _ written _ := by
  unfold Cert.Kernel.defs₀ Cert.KernelIdeal.defs₀
  refine congrArg Defs.onTc (funext fun x => funext fun y => ?_)
  match x, y with
  | 0, (t, s) =>
    show @Cert.Kernel.cc0_body Bits _ _ _ _ _ _ _ _ _ _ _ _ _ _ _ _ _ _ _ = _
    rw [body_bits]
  | ⟨n + 1, h⟩, _ => exact absurd h (by omega)
theorem defs_bits : @Cert.Kernel.defs Bits _ _ = @Cert.KernelIdeal.defs Bits _ written _ := by
  unfold Cert.Kernel.defs Cert.KernelIdeal.defs
  rw [table_bits]
  rfl

theorem frame_bits : Cert.quiescent_Kernel := fun m ρ _ => by
  have h := @frame Bits _ written m ρ
  rw [← defs_bits] at h
  exact h

end Cert.KernelIdeal.Ring

end
-- ==== Proof.RefRun.lean ====
/-
# The reference program's run

The reference is a straight line of host operations on one device. Its result is `refOut` of its three arguments; the
arguments stay as they were and no semaphore is used.
-/
module

public import proofs.«01_k».proof.Defs
public import proofs.«01_k».proof.Proof.Gen.ReferenceIdeal
public import proofs.«01_k».proof.Proof.Gen.Pre_finite_ReferenceIdeal
public import Idealize.ShloMosaic.Lib.StableHlo.RunHlo
public import Idealize.ShloMosaic.Lib.StableHlo.RunRead
public import Idealize.ShloMosaic.Lib.Quiescent

@[expose] public section

noncomputable section

namespace Cert.ReferenceIdeal.Line

open Cert.ReferenceIdeal Cert.ReferenceIdeal.Gen

open Idealize.ShloMosaic
open Idealize.ShloMosaic.TcCoe Idealize.ShloMosaic.StableHlo
open Idealize.SL.Sem

variable {F : FTy → Type} [FloatOps F]

/-- The scaled scores of every query row against every key row. -/
def refScore (x y : FVec F S8192x512 .bf16) : FVec F S8192x8192 .f32 :=
  Host.divf
    (Host.dotGeneral dot_S8192x512_S512x8192_S8192x8192_1_0_0_1_n_n none (extf .f32 x bitsLt_bf16_f32)
      (transpose S512x8192 [1, 0] (extf .f32 y bitsLt_bf16_f32) transposes_S8192x512_S512x8192_1_0))
    (broadcastInDim S8192x8192 ![] bcast_S_S8192x8192 (Host.sqrt (constant S_ .f32 0x44000000#32)))

/-- A column stretched over the rows' columns. -/
def stretch (x : FVec F S8192 .f32) : FVec F S8192x8192 .f32 :=
  broadcastInDim S8192x8192 ![0, 1] bcast_S8192x1_S8192x8192_0_1 (broadcastInDim S8192x1 ![0] bcast_S8192_S8192x1_0 x)

/-- The exponentials of the scores, each less its row's largest. -/
def refExp (s : FVec F S8192x8192 .f32) : FVec F S8192x8192 .f32 :=
  Host.exp (subf s (stretch (Host.reduce FloatOps.maximumf s (constant S_ .f32 0xFF800000#32) reducesTo_S8192x8192_S8192_d1 h_S_)))

/-- Each row divided by its sum. -/
def refNorm (e : FVec F S8192x8192 .f32) : FVec F S8192x8192 .f32 :=
  Host.divf e (stretch (Host.reduceAdd e (constant S_ .f32 0x00000000#32) reducesTo_S8192x8192_S8192_d1 h_S_))

def refOut (x y z : FVec F S8192x512 .bf16) : FVec F S8192x512 .f32 :=
  Host.dotGeneral dot_S8192x8192_S8192x512_S8192x512_1_0_0_1_n_n none (refNorm (refExp (refScore x y))) (extf .f32 z bitsLt_bf16_f32)

theorem run (m : (ℓ : Loc nD τ sig) → Buf (Elt F) ℓ) (ρ : Dev nD → PrngReg) :
    θ_run defs (onTc (τ := τ) main) ⟨m, fun _ => 0, ρ⟩ fun r =>
      ∀ d : Dev nD,
        r.2.mem ((d.tc : Thread nD τ).loc main_v17)
            = refOut (m ((d.tc : Thread nD τ).loc main_arg0)) (m ((d.tc : Thread nD τ).loc main_arg1)) (m ((d.tc : Thread nD τ).loc main_arg2))
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2) := by
  refine θ_run_mono (run_hlo defs main (by unfold main; hlo_seq) (by decide) (by decide) ?_ ?_ m ρ) ?_
  · simp only [List.Forall, nullary_bufs_sub, unary_bufs_sub, binary_bufs_sub, and_self]
  · exact List.forall_iff_forall_mem.mp (forall_fresh_of_map rfl)
  · intro r h d
    refine ⟨(h d main_v17).trans ?_, (h d main_arg0).trans ?_, (h d main_arg1).trans ?_, (h d main_arg2).trans ?_⟩
    · after_results_simp; rfl
    all_goals after_results_simp

theorem no_sems (s : MemSt nD τ sig (Elt F)) : s.sem = fun _ => 0 := sem_eq_zero_of_no_sems (by decide) s

theorem frame : Cert.quiescent_ReferenceIdeal := fun m ρ _ =>
  θ_run_mono (run (F := Ideal) m ρ) fun r h => ⟨fun c => (h c).2, no_sems r.2⟩

theorem frame_finite : Cert.quiescent_ReferenceIdeal_pre_finite_ReferenceIdeal := fun m ρ _ =>
  θ_run_mono (run (F := Ideal) m ρ) fun r h => ⟨fun c => (h c).2, no_sems r.2⟩

end Cert.ReferenceIdeal.Line

end
-- ==== Proof.Reads.lean ====
/-
# The kernel's vector values read at an index

Over the ideal numbers a vector operation of the kernel is a plain formula at each index. Here every value a trip of the
inner loop stores, and the values the kernel starts and ends with, is read at one index.
-/
module

public import proofs.«01_k».proof.Proof.Comm
public import Idealize.ShloMosaic.Lib.MatmulPlain
public import Idealize.ShloMosaic.Lib.ValueLayoutCasts
public import Idealize.ShloMosaic.Lib.IdealHost

@[expose] public section

noncomputable section

namespace Cert.KernelIdeal.Ring

open Cert.KernelIdeal Cert.KernelIdeal.Gen

open Idealize.ShloMosaic
open Idealize.ShloMosaic.ValueIdx
open scoped BigOperators

/-- The scale the kernel multiplies the scores by. -/
theorem scale_named : Named.named (F := Ideal) Cert.KernelIdeal.κ "s" (φ := .f32) 0x3D3504F3#32 = (((Real.sqrt 512)⁻¹ : ℝ) : EReal) :=
  IdealRules.named_const.ideal_named_scalar _ _ _ _ rfl

/-- A column broadcast over many reads, at `(p, c)`, the column at `p`. -/
theorem col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `i` of a matrix reduced along its columns, with column `k` put back. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The block a hop's load returns, cast to a matrix, is the block. -/
theorem blkVec_cast (K : Blk Ideal) (c : Fin 4096) (d : Fin 512) :
    shapeCast S4096x512 (blkVec K) shapeCasts_S1x1x4096x512_S4096x512 (ix2 c d) = K (ix2 c d) := by
  refine (shapeCast_apply (blkVec K) _ (ix2 c d) (ix4 (0 : Fin 1) (0 : Fin 1) c d) ?_).trans ?_
  · rw [Shape.rowMajor_val_four, Shape.rowMajor_val_two]
    show ((0 * 1 + 0) * 4096 + c.val) * 512 + d.val = c.val * 512 + d.val
    omega
  · rfl

theorem pay3_at (K : Blk Ideal) (Q : Vec Ideal S256x512 .bf16) (i : Fin 256) (c : Fin 4096) :
    k0_pay3 (blkVec K) Q (ix2 i c) = (∑ d : Fin 512, Q (ix2 i d) * K (ix2 c d)) * (((Real.sqrt 512)⁻¹ : ℝ) : EReal) := by
  have h := Ideal.matmul_transposedRhs_apply (M := 256) (K := 512) (N := 4096) (φ₁ := .bf16) (φ₂ := .bf16) none
    (shapeCast S256x512 Q shapeCasts_S256x512_S256x512) (shapeCast S4096x512 (blkVec K) shapeCasts_S1x1x4096x512_S4096x512)
    (constant S256x4096 .f32 0x00000000#32) i c
  have hq : shapeCast S256x512 Q shapeCasts_S256x512_S256x512 = Q := shapeCast_self Q _
  refine congrArg₂ (fun a b : EReal => a * b) (h.trans ?_) scale_named
  refine Eq.trans (congrArg₂ (fun a b : EReal => a + b) Ideal.ofBits_zero_f32 (Finset.sum_congr rfl fun d _ => ?_)) (zero_add _)
  exact congrArg₂ (fun a b : EReal => a * b) (congrFun hq (ix2 i d)) (blkVec_cast K c d)

variable (K : Vec Ideal S1x1x4096x512 .bf16) (Q : Vec Ideal S256x512 .bf16) (M L : Vec Ideal S256x1 .f32)

theorem pay4_at (i : Fin 256) :
    k0_pay4 K Q M (ix2 i (0 : Fin 1)) = max (M (ix2 i (0 : Fin 1)))
      ((Finset.univ : Finset (Fin 4096)).fold max (FloatOps.ofBits (F := Ideal) .f32 0xFF800000#32) fun c => k0_pay3 K Q (ix2 i c)) := by
  refine congrArg (fun b : EReal => max (M (ix2 i (0 : Fin 1))) b) ((shapeCast_a_a1_apply _ _ i (0 : Fin 1)).trans ?_)
  refine (Ideal.multiReduction_maximumf_single _ _ _ _ _ (ix1 i)).trans ?_
  refine congrArg (fun f => (Finset.univ : Finset (Fin 4096)).fold max (FloatOps.ofBits (F := Ideal) .f32 0xFF800000#32) f) (funext fun c => ?_)
  exact congrArg (k0_pay3 K Q) (lift_row _ i c)

theorem pay5_at (i : Fin 256) :
    k0_pay5 K Q M (ix2 i (0 : Fin 1)) = FloatOps.exp (F := Ideal) (φ := .f32) (FloatOps.subf (F := Ideal) (φ := .f32) (M (ix2 i (0 : Fin 1))) (k0_pay4 K Q M (ix2 i (0 : Fin 1)))) := rfl

theorem pay6_at (i : Fin 256) (c : Fin 4096) :
    k0_pay6 K Q M (ix2 i c) = FloatOps.exp (F := Ideal) (φ := .f32) (FloatOps.subf (F := Ideal) (φ := .f32) (k0_pay3 K Q (ix2 i c)) (k0_pay4 K Q M (ix2 i (0 : Fin 1)))) :=
  congrArg (fun b => FloatOps.exp (F := Ideal) (φ := .f32) (FloatOps.subf (F := Ideal) (φ := .f32) (k0_pay3 K Q (ix2 i c)) b)) (col_apply _ _ i c)

theorem pay7_at (i : Fin 256) :
    k0_pay7 K Q M L (ix2 i (0 : Fin 1)) = ((L (ix2 i (0 : Fin 1)) * k0_pay5 K Q M (ix2 i (0 : Fin 1)) + ∑ c : Fin 4096, k0_pay6 K Q M (ix2 i c) : EReal)) := by
  refine (congrFun (shapeCast_self (s := S256x1) (addf (mulf L (k0_pay5 K Q M)) (shapeCast S256x1
    (multiReduction .add [1] S256 (k0_pay6 K Q M) 0x00000000#32 reduces_S256x4096_S256 (.inl rfl) rfl) shapeCasts_S256_S256x1))
    shapeCasts_S256x1_S256x1) (ix2 i (0 : Fin 1))).trans ?_
  refine congrArg (fun b : EReal => L (ix2 i (0 : Fin 1)) * k0_pay5 K Q M (ix2 i (0 : Fin 1)) + b) ((shapeCast_a_a1_apply _ _ i (0 : Fin 1)).trans ?_)
  refine (Ideal.multiReduction_add_single _ _ _ _ _ (ix1 i)).trans ?_
  exact Finset.sum_congr rfl fun c _ => congrArg (k0_pay6 K Q M) (lift_row _ i c)

theorem pay8_at (V : Blk Ideal) (O : Vec Ideal S256x512 .f32) (i : Fin 256) (d : Fin 512) :
    k0_pay8 K (blkVec V) Q M O (ix2 i d)
      = ((O (ix2 i d) * k0_pay5 K Q M (ix2 i (0 : Fin 1)) + ∑ c : Fin 4096, k0_pay6 K Q M (ix2 i c) * V (ix2 c d) : EReal)) := by
  have h := Ideal.matmul_plain_apply (M := 256) (K := 4096) (N := 512) (φ₁ := .bf16) (φ₂ := .bf16) none
    (truncf .bf16 (k0_pay6 K Q M) bitsLt_bf16_f32) (shapeCast S4096x512 (blkVec V) shapeCasts_S1x1x4096x512_S4096x512)
    (constant S256x512 .f32 0x00000000#32) i d
  refine congrArg₂ (fun a b : EReal => a + b) (congrArg₂ (fun a b : EReal => a * b) (congrFun (shapeCast_self O _) _) (col_apply _ _ i d)) (h.trans ?_)
  refine Eq.trans (congrArg₂ (fun a b : EReal => a + b) Ideal.ofBits_zero_f32 (Finset.sum_congr rfl fun c _ => ?_)) (zero_add _)
  exact congrArg (fun b : EReal => k0_pay6 K Q M (ix2 i c) * b) (blkVec_cast V c d)

theorem pay9_at (i : Fin 256) : k0_pay9 K Q M (ix2 i (0 : Fin 1)) = k0_pay4 K Q M (ix2 i (0 : Fin 1)) :=
  congrFun (shapeCast_self (s := S256x1) (k0_pay4 K Q M) shapeCasts_S256x1_S256x1) (ix2 i (0 : Fin 1))

theorem pay10_at (O : Vec Ideal S4096x512 .f32) (S : Vec Ideal S4096x1 .f32) (r : Fin 4096) (d : Fin 512) :
    k0_pay10 O S (ix2 r d) = FloatOps.divf (F := Ideal) (φ := .f32) (O (ix2 r d)) (S (ix2 r (0 : Fin 1))) :=
  congrArg₂ (fun a b => FloatOps.divf (F := Ideal) (φ := .f32) a b) (congrFun (shapeCast_self O _) _) (col_apply _ _ r d)

theorem pay11_at (r : Fin 4096) (d : Fin 512) : k0_pay11 (F := Ideal) (ix2 r d) = ((0 : ℝ) : EReal) := Ideal.ofBits_zero_f32
theorem pay2_at (r : Fin 4096) : k0_pay2 (F := Ideal) (ix2 r (0 : Fin 1)) = ((0 : ℝ) : EReal) :=
  (congrFun (shapeCast_self (s := S4096x1) (broadcast S4096x1 (Scalar.ofBits (F := Ideal) .f32 0x00000000#32)) shapeCasts_S4096x1_S4096x1)
    (ix2 r (0 : Fin 1))).trans Ideal.ofBits_zero_f32
theorem pay12_at (r : Fin 4096) : ∃ x : ℝ, k0_pay1 (k0_pay12 (F := Ideal)) (ix2 r (0 : Fin 1)) = (x : EReal) := by
  refine ⟨-(((2 : ℝ) ^ 76) * 13234890), (congrFun (shapeCast_self (s := S4096x1) (k0_pay12 (F := Ideal)) shapeCasts_S4096x1_S4096x1)
    (ix2 r (0 : Fin 1))).trans ?_⟩
  show Ideal.ofBits .f32 0xF149F2CA#32 = _
  simp [Ideal.ofBits, Ideal.ieee, -EReal.coe_mul]
  norm_num

end Cert.KernelIdeal.Ring

end
-- ==== Proof.Rows.lean ====
/-
# What a trip reads and writes, row by row

A trip of the inner loop reads and writes 256 rows. Rows of the tile are rows `256 t + i`; the others stay as they are.
-/
module

public import proofs.«01_k».proof.Proof.Reads

@[expose] public section

noncomputable section

namespace Cert.KernelIdeal.Ring

open Cert.KernelIdeal Cert.KernelIdeal.Gen

open Idealize.ShloMosaic
open Idealize.ShloMosaic.TcCoe
open Idealize.SL.Sem
open Idealize.ShloMosaic.ValueIdx

theorem off7_eq (t : Fin k0_t2_loop.trips) : k0_off7 t = ![256 * t.val, 0] := by revert t; decide
theorem off8_eq (t : Fin k0_t2_loop.trips) : k0_off8 t = ![256 * t.val, 0] := by revert t; decide
theorem trips_eq : k0_t2_loop.trips = 16 := by decide

/-- Row `i` of tile `t`. -/
def row (t : Fin k0_t2_loop.trips) (i : Fin 256) : Fin 4096 :=
  ⟨256 * t.val + i.val, by have := t.isLt; have e := trips_eq; have := i.isLt; omega⟩

theorem emb_o (t : Fin k0_t2_loop.trips) (i : Fin 256) (d : Fin 512) :
    ((oM.access (rW t)).emb (ix2 i d) : S4096x512.Idx) = ix2 (row t i) d := by
  have h := ValueKit.view_emb_slice_whole_unit_val cc0_stg1_0 (k0_off7 t) S256x512.size (k0_off7_inb t) (ix2 i d)
  funext a
  refine Fin.ext ((h a).trans ?_)
  match a with
  | ⟨0, _⟩ => exact congrArg (· + i.val) (congrFun (off7_eq t) 0)
  | ⟨1, _⟩ => exact (congrArg (· + d.val) (congrFun (off7_eq t) 1)).trans (Nat.zero_add _)

theorem emb_q (t : Fin k0_t2_loop.trips) (i : Fin 256) (d : Fin 512) :
    ((qM.access (rW t)).emb (ix2 i d) : S4096x512.Idx) = ix2 (row t i) d := by
  have h := ValueKit.view_emb_slice_whole_unit_val cc0_stg0_0 (k0_off7 t) S256x512.size (k0_off7_inb t) (ix2 i d)
  funext a
  refine Fin.ext ((h a).trans ?_)
  match a with
  | ⟨0, _⟩ => exact congrArg (· + i.val) (congrFun (off7_eq t) 0)
  | ⟨1, _⟩ => exact (congrArg (· + d.val) (congrFun (off7_eq t) 1)).trans (Nat.zero_add _)

theorem emb_m (t : Fin k0_t2_loop.trips) (i : Fin 256) (d : Fin 1) :
    ((mM.access (rN t)).emb (ix2 i d) : S4096x1.Idx) = ix2 (row t i) d := by
  have h := ValueKit.view_emb_slice_whole_unit_val cc0_scratch1 (k0_off8 t) S256x1.size (k0_off8_inb t) (ix2 i d)
  funext a
  refine Fin.ext ((h a).trans ?_)
  match a with
  | ⟨0, _⟩ => exact congrArg (· + i.val) (congrFun (off8_eq t) 0)
  | ⟨1, _⟩ => exact (congrArg (· + d.val) (congrFun (off8_eq t) 1)).trans (Nat.zero_add _)

theorem emb_l (t : Fin k0_t2_loop.trips) (i : Fin 256) (d : Fin 1) :
    ((lM.access (rN t)).emb (ix2 i d) : S4096x1.Idx) = ix2 (row t i) d := by
  have h := ValueKit.view_emb_slice_whole_unit_val cc0_scratch2 (k0_off8 t) S256x1.size (k0_off8_inb t) (ix2 i d)
  funext a
  refine Fin.ext ((h a).trans ?_)
  match a with
  | ⟨0, _⟩ => exact congrArg (· + i.val) (congrFun (off8_eq t) 0)
  | ⟨1, _⟩ => exact (congrArg (· + d.val) (congrFun (off8_eq t) 1)).trans (Nat.zero_add _)

/-! ## Loads -/

variable (q : (cc0_stg0_0 : Ref sig .tc).ty.Contents (Elt Ideal)) (s : St Ideal) (t : Fin k0_t2_loop.trips)

theorem ldQ_at (i : Fin 256) (d : Fin 512) : ldQ q t (ix2 i d) = q (ix2 (row t i) d : S4096x512.Idx) :=
  congrArg q (emb_q t i d)
theorem ldO_at (i : Fin 256) (d : Fin 512) : ldO t s.o (ix2 i d) = s.o (ix2 (row t i) d : S4096x512.Idx) :=
  congrArg s.o (emb_o t i d)
theorem ldM_at (i : Fin 256) (d : Fin 1) : ldM t s.m (ix2 i d) = s.m (ix2 (row t i) d : S4096x1.Idx) :=
  congrArg s.m (emb_m t i d)
theorem ldL_at (i : Fin 256) (d : Fin 1) : ldL t s.l (ix2 i d) = s.l (ix2 (row t i) d : S4096x1.Idx) :=
  congrArg s.l (emb_l t i d)

/-! ## Stores -/

theorem o_write (f : (cc0_stg1_0 : Ref sig .tc).ty.Contents (Elt Ideal)) (w : FVec Ideal S256x512 .f32) (i : Fin 256) (d : Fin 512) :
    putO t f w (ix2 (row t i) d : S4096x512.Idx) = w (ix2 i d) :=
  (congrArg (putO t f w) (emb_o t i d).symm).trans
    (View.write_emb_of_mem _ _ (Finset.mem_univ _))
theorem o_keep (f : (cc0_stg1_0 : Ref sig .tc).ty.Contents (Elt Ideal)) (w : FVec Ideal S256x512 .f32) (r : Fin 4096) (h : ∀ i, r ≠ row t i) (d : Fin 512) :
    putO t f w (ix2 r d : S4096x512.Idx) = f (ix2 r d : S4096x512.Idx) := by
  refine View.write_of_not_mem _ _ _ ?_
  intro hm
  obtain ⟨x, -, hx⟩ := Finset.mem_map.mp hm
  obtain ⟨i, e, rfl⟩ : ∃ i e, x = (ix2 i e : S256x512.Idx) := ⟨_, _, eq_ix2 x⟩
  exact h i (congrFun (((emb_o t i e).symm.trans hx).symm) 0)
theorem m_write (f : (cc0_scratch1 : Ref sig .tc).ty.Contents (Elt Ideal)) (w : FVec Ideal S256x1 .f32) (i : Fin 256) (d : Fin 1) :
    putM t f w (ix2 (row t i) d : S4096x1.Idx) = w (ix2 i d) :=
  (congrArg (putM t f w) (emb_m t i d).symm).trans
    (View.write_emb_of_mem _ _ (Finset.mem_univ _))
theorem m_keep (f : (cc0_scratch1 : Ref sig .tc).ty.Contents (Elt Ideal)) (w : FVec Ideal S256x1 .f32) (r : Fin 4096) (h : ∀ i, r ≠ row t i) (d : Fin 1) :
    putM t f w (ix2 r d : S4096x1.Idx) = f (ix2 r d : S4096x1.Idx) := by
  refine View.write_of_not_mem _ _ _ ?_
  intro hm
  obtain ⟨x, -, hx⟩ := Finset.mem_map.mp hm
  obtain ⟨i, e, rfl⟩ : ∃ i e, x = (ix2 i e : S256x1.Idx) := ⟨_, _, eq_ix2 x⟩
  exact h i (congrFun (((emb_m t i e).symm.trans hx).symm) 0)
theorem l_write (f : (cc0_scratch2 : Ref sig .tc).ty.Contents (Elt Ideal)) (w : FVec Ideal S256x1 .f32) (i : Fin 256) (d : Fin 1) :
    putL t f w (ix2 (row t i) d : S4096x1.Idx) = w (ix2 i d) :=
  (congrArg (putL t f w) (emb_l t i d).symm).trans
    (View.write_emb_of_mem _ _ (Finset.mem_univ _))
theorem l_keep (f : (cc0_scratch2 : Ref sig .tc).ty.Contents (Elt Ideal)) (w : FVec Ideal S256x1 .f32) (r : Fin 4096) (h : ∀ i, r ≠ row t i) (d : Fin 1) :
    putL t f w (ix2 r d : S4096x1.Idx) = f (ix2 r d : S4096x1.Idx) := by
  refine View.write_of_not_mem _ _ _ ?_
  intro hm
  obtain ⟨x, -, hx⟩ := Finset.mem_map.mp hm
  obtain ⟨i, e, rfl⟩ : ∃ i e, x = (ix2 i e : S256x1.Idx) := ⟨_, _, eq_ix2 x⟩
  exact h i (congrFun (((emb_l t i e).symm.trans hx).symm) 0)

variable (K V : Vec Ideal S1x1x4096x512 .bf16)

theorem o_step : (tileStep K V q t s).o = putO t s.o (k0_pay8 K V (ldQ q t) (ldM t s.m) (ldO t s.o)) := by
  unfold tileStep; dsimp only
theorem m_step : (tileStep K V q t s).m = putM t s.m (k0_pay9 K (ldQ q t) (ldM t s.m)) := by
  unfold tileStep; dsimp only
theorem l_step : (tileStep K V q t s).l = putL t s.l (k0_pay7 K (ldQ q t) (ldM t s.m) (ldL t s.l)) := by
  unfold tileStep; dsimp only

theorem o_in (i : Fin 256) (d : Fin 512) :
    (tileStep K V q t s).o (ix2 (row t i) d : S4096x512.Idx) = k0_pay8 K V (ldQ q t) (ldM t s.m) (ldO t s.o) (ix2 i d) := by
  rw [o_step]; exact o_write t s.o (k0_pay8 K V (ldQ q t) (ldM t s.m) (ldO t s.o)) i d
theorem m_in (i : Fin 256) (d : Fin 1) :
    (tileStep K V q t s).m (ix2 (row t i) d : S4096x1.Idx) = k0_pay9 K (ldQ q t) (ldM t s.m) (ix2 i d) := by
  rw [m_step]; exact m_write t s.m (k0_pay9 K (ldQ q t) (ldM t s.m)) i d
theorem l_in (i : Fin 256) (d : Fin 1) :
    (tileStep K V q t s).l (ix2 (row t i) d : S4096x1.Idx) = k0_pay7 K (ldQ q t) (ldM t s.m) (ldL t s.l) (ix2 i d) := by
  rw [l_step]; exact l_write t s.l (k0_pay7 K (ldQ q t) (ldM t s.m) (ldL t s.l)) i d

theorem o_out (r : Fin 4096) (h : ∀ i, r ≠ row t i) (d : Fin 512) :
    (tileStep K V q t s).o (ix2 r d : S4096x512.Idx) = s.o (ix2 r d : S4096x512.Idx) := by
  rw [o_step]; exact o_keep t s.o (k0_pay8 K V (ldQ q t) (ldM t s.m) (ldO t s.o)) r h d
theorem m_out (r : Fin 4096) (h : ∀ i, r ≠ row t i) (d : Fin 1) :
    (tileStep K V q t s).m (ix2 r d : S4096x1.Idx) = s.m (ix2 r d : S4096x1.Idx) := by
  rw [m_step]; exact m_keep t s.m (k0_pay9 K (ldQ q t) (ldM t s.m)) r h d
theorem l_out (r : Fin 4096) (h : ∀ i, r ≠ row t i) (d : Fin 1) :
    (tileStep K V q t s).l (ix2 r d : S4096x1.Idx) = s.l (ix2 r d : S4096x1.Idx) := by
  rw [l_step]; exact l_keep t s.l (k0_pay7 K (ldQ q t) (ldM t s.m) (ldL t s.l)) r h d

end Cert.KernelIdeal.Ring

end
-- ==== Proof.Online.lean ====
/-
# The running softmax

A query row holds, after some blocks of keys and values, a number `M` and the sums `∑ exp (score - M)` and
`∑ exp (score - M) * value` over the keys seen so far. `Holds s r A B` says so with the factor `exp (-M)` taken out:
`A` is `∑ exp score`, `B d` is `∑ exp score * value d`; the values may be infinite. `M` need not be the largest score: any real number will do, and the
final quotient does not depend on it.
-/
module

public import proofs.«01_k».proof.Proof.Rows

@[expose] public section

noncomputable section

namespace Cert.KernelIdeal.Ring

open Cert.KernelIdeal Cert.KernelIdeal.Gen

open Idealize.ShloMosaic
open Idealize.ShloMosaic.TcCoe
open Idealize.SL.Sem
open Idealize.ShloMosaic.ValueIdx
open scoped BigOperators

/-! ## Sums and maxima of real numbers among the extended reals -/

theorem sum_real {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A maximum of real numbers from −∞, over at least one index, is real. -/
theorem fold_real {n : ℕ} (hn : 0 < n) (f : Fin n → ℝ) :
    ∃ x : ℝ, ((Finset.univ : Finset (Fin n)).fold max (⊥ : EReal) fun c => ((f c : ℝ) : EReal)) = (x : EReal) := by
  set y := (Finset.univ : Finset (Fin n)).fold max (⊥ : EReal) fun c => ((f c : ℝ) : EReal) with hy
  have h1 : y ≠ ⊤ := ne_of_lt ((Finset.fold_max_lt _).mpr ⟨bot_lt_top, fun c _ => EReal.coe_lt_top _⟩)
  have h2 : y ≠ ⊥ := by
    refine ne_of_gt ((Finset.lt_fold_max _).mpr (Or.inr ⟨⟨0, hn⟩, Finset.mem_univ _, EReal.bot_lt_coe _⟩))
  exact ⟨y.toReal, (EReal.coe_toReal h1 h2).symm⟩

theorem ofBits_negInf : (FloatOps.ofBits (F := Ideal) .f32 0xFF800000#32 : Ideal .f32) = (⊥ : EReal) := by
  show Ideal.ofBits .f32 0xFF800000#32 = ⊥
  simp [Ideal.ofBits, Ideal.ieee]

/-- A positive real factor goes into a sum of extended reals. -/
theorem scale_add {e : ℝ} (he : 0 ≤ e) (a b : EReal) : (a + b) * (e : EReal) = a * (e : EReal) + b * (e : EReal) :=
  EReal.right_distrib_of_nonneg_of_ne_top (EReal.coe_nonneg.mpr he) (EReal.coe_ne_top e) a b

theorem scale_sum {ι : Type*} (s : Finset ι) {e : ℝ} (he : 0 ≤ e) (f : ι → EReal) :
    (∑ i ∈ s, f i) * (e : EReal) = ∑ i ∈ s, f i * (e : EReal) := by
  classical
  induction s using Finset.induction_on with
  | empty => simp
  | insert a s ha ih => rw [Finset.sum_insert ha, Finset.sum_insert ha, scale_add he, ih]

theorem max_real (a b : ℝ) : max (a : EReal) (b : EReal) = ((max a b : ℝ) : EReal) :=
  (EReal.coe_strictMono.monotone.map_max).symm

/-! ## Blocks of real numbers -/

abbrev Mat : Type := Fin 4096 → Fin 512 → ℝ

/-- A block holds real numbers. -/
def IsMat (K : S4096x512.Idx → EReal) (k : Mat) : Prop := ∀ r d, K (ix2 r d) = ((k r d : ℝ) : EReal)

/-- The scaled score of query row `r` against key row `c`. -/
def score (q k : Mat) (r c : Fin 4096) : ℝ := (∑ d : Fin 512, q r d * k c d) * (Real.sqrt 512)⁻¹

def Holds (s : St Ideal) (r : Fin 4096) (A : ℝ) (B : Fin 512 → EReal) : Prop :=
  ∃ M : ℝ, s.m (ix2 r (0 : Fin 1) : S4096x1.Idx) = (M : EReal)
    ∧ s.l (ix2 r (0 : Fin 1) : S4096x1.Idx) = ((A * Real.exp (-M) : ℝ) : EReal)
    ∧ ∀ d : Fin 512, s.o (ix2 r d : S4096x512.Idx) = B d * ((Real.exp (-M) : ℝ) : EReal)

variable {K V : Blk Ideal} {k q : Mat} {Q : (cc0_stg0_0 : Ref sig .tc).ty.Contents (Elt Ideal)}

section
variable (hK : IsMat K k) (hQ : IsMat Q q) (t : Fin k0_t2_loop.trips) (i : Fin 256)
include hK hQ

theorem pay3_real (c : Fin 4096) : k0_pay3 (blkVec K) (ldQ Q t) (ix2 i c) = ((score q k (row t i) c : ℝ) : EReal) := by
  rw [pay3_at]
  unfold score
  rw [EReal.coe_mul, ← sum_real]
  refine congrArg (fun a : EReal => a * (((Real.sqrt 512)⁻¹ : ℝ) : EReal)) (Finset.sum_congr rfl fun d _ => ?_)
  rw [EReal.coe_mul]
  exact congrArg₂ (fun a b : EReal => a * b) ((ldQ_at Q t i d).trans (hQ _ _)) (hK c d)

theorem pay4_real (m : Vec Ideal S256x1 .f32) (M : ℝ) (hm : m (ix2 i (0 : Fin 1)) = (M : EReal)) :
    ∃ M' : ℝ, k0_pay4 (blkVec K) (ldQ Q t) m (ix2 i (0 : Fin 1)) = (M' : EReal) := by
  rw [pay4_at, hm, ofBits_negInf]
  obtain ⟨x, hx⟩ := fold_real (n := 4096) (by decide) (score q k (row t i))
  refine ⟨max M x, ?_⟩
  rw [← max_real, ← hx]
  refine congrArg (fun f => max (M : EReal) ((Finset.univ : Finset (Fin 4096)).fold max (⊥ : EReal) f)) (funext fun c => ?_)
  exact pay3_real hK hQ t i c

variable (m : Vec Ideal S256x1 .f32) (M M' : ℝ) (hm : m (ix2 i (0 : Fin 1)) = (M : EReal))
  (hM : k0_pay4 (blkVec K) (ldQ Q t) m (ix2 i (0 : Fin 1)) = (M' : EReal))

include hm hM

theorem pay5_real : k0_pay5 (blkVec K) (ldQ Q t) m (ix2 i (0 : Fin 1)) = ((Real.exp (M - M') : ℝ) : EReal) := by
  rw [pay5_at, hm, hM, Ideal.subf_def, ← EReal.coe_sub, Ideal.exp_def, Ideal.exp_coe]

theorem pay6_real (c : Fin 4096) :
    k0_pay6 (blkVec K) (ldQ Q t) m (ix2 i c) = ((Real.exp (score q k (row t i) c - M') : ℝ) : EReal) := by
  rw [pay6_at, hM, pay3_real hK hQ, Ideal.subf_def, ← EReal.coe_sub, Ideal.exp_def, Ideal.exp_coe]

end

/-- A row of the tile, after the trip. -/
theorem Holds.step_in (hK : IsMat K k) (hQ : IsMat Q q) (t : Fin k0_t2_loop.trips) (i : Fin 256) {s : St Ideal}
    {A : ℝ} {B : Fin 512 → EReal} (h : Holds s (row t i) A B) :
    Holds (tileStep (blkVec K) (blkVec V) Q t s) (row t i) (A + ∑ c, Real.exp (score q k (row t i) c))
      (fun d => B d + ∑ c, ((Real.exp (score q k (row t i) c) : ℝ) : EReal) * V (ix2 c d : S4096x512.Idx)) := by
  obtain ⟨M, hm, hl, ho⟩ := h
  have hm' : ldM t s.m (ix2 i (0 : Fin 1)) = (M : EReal) := (ldM_at s t i 0).trans hm
  obtain ⟨M', hM⟩ := pay4_real hK hQ t i (ldM t s.m) M hm'
  have e5 := pay5_real hK hQ t i (ldM t s.m) M M' hm' hM
  have e6 := pay6_real hK hQ t i (ldM t s.m) M M' hm' hM
  refine ⟨M', ?_, ?_, fun d => ?_⟩
  · rw [m_in, pay9_at]; exact hM
  · rw [l_in, pay7_at, e5, (ldL_at s t i 0).trans hl]
    simp only [e6]
    rw [sum_real, ← EReal.coe_mul, ← EReal.coe_add]
    refine congrArg _ ?_
    rw [add_mul, Finset.sum_mul, mul_assoc, ← Real.exp_add]
    refine congrArg₂ (· + ·) (congrArg (A * Real.exp ·) (by ring)) (Finset.sum_congr rfl fun c _ => ?_)
    rw [← Real.exp_add]; rfl
  · have he := (Real.exp_pos (-M')).le
    rw [o_in, pay8_at, e5, (ldO_at s t i d).trans (ho d)]
    simp only [e6]
    rw [scale_add he, scale_sum _ he, mul_assoc, ← EReal.coe_mul, ← Real.exp_add]
    refine congrArg₂ (fun a b : EReal => a + b) (congrArg (fun a : ℝ => B d * ((Real.exp a : ℝ) : EReal)) (by ring)) (Finset.sum_congr rfl fun c _ => ?_)
    rw [mul_right_comm, ← EReal.coe_mul, ← Real.exp_add]; rfl

/-- A row outside the tile is as before. -/
theorem Holds.step_out (K V : Vec Ideal S1x1x4096x512 .bf16) (t : Fin k0_t2_loop.trips) {s : St Ideal} {r : Fin 4096} {A : ℝ} {B : Fin 512 → EReal}
    (hr : ∀ i, r ≠ row t i) (h : Holds s r A B) : Holds (tileStep K V Q t s) r A B := by
  obtain ⟨M, hm, hl, ho⟩ := h
  exact ⟨M, (m_out Q s t K V r hr 0).trans hm, (l_out Q s t K V r hr 0).trans hl, fun d => (o_out Q s t K V r hr d).trans (ho d)⟩

/-- After `n` trips the rows of the first `n` tiles have taken the block in. -/
theorem Holds.tiles (hK : IsMat K k) (hQ : IsMat Q q) {s : St Ideal} {r : Fin 4096} {A : ℝ} {B : Fin 512 → EReal}
    (h : Holds s r A B) (n : ℕ) (hn : n ≤ 16) :
    Holds (tiles (blkVec K) (blkVec V) Q s n) r
      (if r.val < 256 * n then A + ∑ c, Real.exp (score q k r c) else A)
      (if r.val < 256 * n then fun d => B d + ∑ c, ((Real.exp (score q k r c) : ℝ) : EReal) * V (ix2 c d : S4096x512.Idx) else B) := by
  induction n with
  | zero => rw [if_neg (by omega), if_neg (by omega)]; exact h
  | succ n ih =>
    have ih := ih (by omega)
    have hlt : n < k0_t2_loop.trips := by rw [trips_eq]; omega
    have e := tiles_succ (blkVec K) (blkVec V) Q s ⟨n, hlt⟩
    rw [e]
    by_cases h1 : r.val < 256 * n
    · rw [if_pos h1, if_pos h1] at ih
      rw [if_pos (by omega), if_pos (by omega)]
      refine Holds.step_out _ _ _ (fun i he => ?_) ih
      have := congrArg Fin.val he
      simp only [row] at this
      omega
    · rw [if_neg h1, if_neg h1] at ih
      by_cases h2 : r.val < 256 * (n + 1)
      · rw [if_pos h2, if_pos h2]
        have hr : r = row ⟨n, hlt⟩ ⟨r.val - 256 * n, by omega⟩ := Fin.ext (by simp only [row]; omega)
        rw [hr] at ih ⊢
        exact Holds.step_in hK hQ ⟨n, hlt⟩ _ ih
      · rw [if_neg h2, if_neg h2]
        refine Holds.step_out _ _ _ (fun i he => ?_) ih
        have := congrArg Fin.val he
        have := i.isLt
        simp only [row] at *
        omega

/-- A hop takes its block in at every row. -/
theorem Holds.hop (hK : IsMat K k) (hQ : IsMat Q q) {s : St Ideal} {r : Fin 4096} {A : ℝ} {B : Fin 512 → EReal}
    (h : Holds s r A B) :
    Holds (hop (blkVec K) (blkVec V) Q s) r (A + ∑ c, Real.exp (score q k r c))
      (fun d => B d + ∑ c, ((Real.exp (score q k r c) : ℝ) : EReal) * V (ix2 c d : S4096x512.Idx)) := by
  have h16 := Holds.tiles (V := V) hK hQ h 16 le_rfl
  have hr : r.val < 256 * 16 := r.isLt
  rw [if_pos hr, if_pos hr] at h16
  have e : Scf.trips k0_t2_loop.lb k0_t2_loop.ub k0_t2_loop.st = 16 := trips_eq
  unfold Ring.hop
  rw [e]
  exact h16

end Cert.KernelIdeal.Ring

end
-- ==== Proof.Value.lean ====
/-
# The kernel's value

After both blocks of keys and values a device's quotient is, at query row `r`, `∑ exp (score) * value / ∑ exp (score)` over
the keys of the two blocks; it is what the result array holds at the end.
-/
module

public import proofs.«01_k».proof.Proof.Online
public import proofs.«01_k».proof.Proof.Kept
public import Idealize.ShloMosaic.Lib.Pipeline.ValueKit.Geometry

@[expose] public section

noncomputable section

namespace Cert.KernelIdeal.Ring

open Cert.KernelIdeal Cert.KernelIdeal.Gen

open Idealize.ShloMosaic
open Idealize.ShloMosaic.TcCoe
open Idealize.SL.Sem
open Idealize.ShloMosaic.ValueIdx
open Idealize.ShloMosaic.Pipeline (Dat Cfg Window)
open scoped BigOperators

variable {m : (ℓ : Loc nD τ sig) → Buf (Elt Ideal) ℓ} {ρ : Dev nD → PrngReg}

theorem holds_init (r : Fin 4096) : Holds (init (F := Ideal)) r 0 (fun _ => 0) := by
  obtain ⟨M, hM⟩ := pay12_at r
  refine ⟨M, hM, ?_, fun d => ?_⟩
  · rw [zero_mul]; exact pay2_at r
  · rw [zero_mul]; exact pay11_at r d

variable {c : Dev nD} {q : Mat} {k : Dev nD → Mat}

/-- The weight of query row `r` over the keys of the first `n` blocks. -/
def weight (q : Mat) (k : Dev nD → Mat) (c : Dev nD) (n : ℕ) (r : Fin 4096) : ℝ :=
  ∑ j ∈ Finset.range n, ∑ x : Fin 4096, Real.exp (score q (k (whose c j)) r x)
/-- Its weighted sum of the values. -/
def mass (q : Mat) (k : Dev nD → Mat) (v : Dev nD → Blk Ideal) (c : Dev nD) (n : ℕ) (r : Fin 4096) (d : Fin 512) : EReal :=
  ∑ j ∈ Finset.range n, ∑ x : Fin 4096, ((Real.exp (score q (k (whose c j)) r x) : ℝ) : EReal) * v (whose c j) (ix2 x d)

theorem holds_hops (hQ : IsMat (qIn m ρ c) q) (hK : ∀ e : Dev nD, IsMat (kIn m e) (k e)) (r : Fin 4096) :
    ∀ n : ℕ, Holds (hops m ρ c n) r (weight q k c n r) (mass q k (vIn m) c n r)
  | 0 => holds_init r
  | n + 1 => by
    have h := Holds.hop (V := vIn m (whose c n)) (hK (whose c n)) hQ (holds_hops hQ hK r n)
    have hw : weight q k c (n + 1) r = weight q k c n r + ∑ x, Real.exp (score q (k (whose c n)) r x) := Finset.sum_range_succ _ _
    have hm : mass q k (vIn m) c (n + 1) r = fun d => mass q k (vIn m) c n r d + ∑ x, ((Real.exp (score q (k (whose c n)) r x) : ℝ) : EReal) * vIn m (whose c n) (ix2 x d) :=
      funext fun d => Finset.sum_range_succ _ _
    rw [hw, hm]
    exact h

theorem weight_pos (n : ℕ) (r : Fin 4096) : 0 < weight q k c (n + 1) r :=
  Finset.sum_pos (fun j _ => Finset.sum_pos (fun x _ => Real.exp_pos _) ⟨0, Finset.mem_univ _⟩) ⟨0, Finset.mem_range.mpr (Nat.succ_pos n)⟩

theorem result_at (hQ : IsMat (qIn m ρ c) q) (hK : ∀ e : Dev nD, IsMat (kIn m e) (k e))
    (r : Fin 4096) (d : Fin 512) :
    result m ρ c (ix2 r d : S4096x512.Idx) = mass q k (vIn m) c 2 r d * ((1 / weight q k c 2 r : ℝ) : EReal) := by
  obtain ⟨M, -, hl, ho⟩ := holds_hops hQ hK r 2
  have hM := Real.exp_pos (-M)
  have hw : 0 < weight q k c 2 r := weight_pos 1 r
  refine (pay10_at _ _ r d).trans ?_
  refine (congrArg₂ Ideal.div (ho d) hl).trans ?_
  rw [Ideal.div_coe (mul_pos hw hM).ne', mul_assoc, ← EReal.coe_mul]
  refine congrArg (fun a : ℝ => mass q k (vIn m) c 2 r d * (a : EReal)) ?_
  field_simp

/-! ## The arrays around the body -/

theorem qIn_at (r : Fin 4096) (d : Fin 512) :
    (qIn m ρ c : S4096x512.Idx → EReal) (ix2 r d) = (m ((c.tc : Thread nD τ).loc main_arg0) : S4096x512.Idx → EReal) (ix2 r d) := by
  refine congrArg (m ((c.tc : Thread nD τ).loc main_arg0) : S4096x512.Idx → EReal) ?_
  funext a; apply Fin.ext
  fin_cases a
  · show 0 * 4096 + 1 * r.val = r.val
    omega
  · show 0 * 512 + 1 * d.val = d.val
    omega

theorem out_whole : win0_1.WholeAt (⟨0, by decide⟩ : Fin grid0.N) := by decide +kernel

/-- The result array at the end. -/
theorem finalA_out : (finalA m ρ c (1 : Fin 2) : S4096x512.Idx → EReal) = result m ρ c :=
  (dats (F := Ideal) m ρ 0 c).arrAt_eq_of_after_last (1 : Fin 2) (0 : Fin 1) out_whole (result m ρ c) (fun j => rfl)

end Cert.KernelIdeal.Ring

end
-- ==== Proof.RefValue.lean ====
/-
# The reference's value

At queries and keys that are real numbers the reference's row `i` is `∑ exp (score) * value / ∑ exp (score)` over all the keys: the row's
largest score, which it takes off every score, cancels in the quotient.
-/
module

public import proofs.«01_k».proof.Proof.RefRun
public import proofs.«01_k».proof.Proof.Online
public import Idealize.ShloMosaic.Lib.StackMember
public import Idealize.ShloMosaic.Lib.IdealHost
public import Idealize.ShloMosaic.Lib.ValueLayout

@[expose] public section

noncomputable section

namespace Cert.ReferenceIdeal.Line

open Cert.ReferenceIdeal Cert.ReferenceIdeal.Gen
open Cert.KernelIdeal.Ring (sum_real scale_sum fold_real ofBits_negInf lift_row)

open Idealize.ShloMosaic
open Idealize.ShloMosaic.TcCoe
open Idealize.SL.Sem
open Idealize.ShloMosaic.ValueIdx
open Idealize.ShloMosaic.StackMember (dotGeneral_plain_apply)
open scoped BigOperators

abbrev Whole : Type := Fin 8192 → Fin 512 → ℝ

def IsWhole (x : S8192x512.Idx → EReal) (q : Whole) : Prop := ∀ i d, x (ix2 i d) = ((q i d : ℝ) : EReal)

/-- The scaled score of query row `i` against key row `j`. -/
def wscore (q k : Whole) (i j : Fin 8192) : ℝ := (∑ d : Fin 512, q i d * k j d) * (Real.sqrt 512)⁻¹

variable {x y z : S8192x512.Idx → EReal} {q k : Whole}

abbrev wide (x : FVec Ideal S8192x512 .bf16) : FVec Ideal S8192x512 .f32 := extf .f32 x bitsLt_bf16_f32

abbrev turned (y : FVec Ideal S8192x512 .bf16) : FVec Ideal S512x8192 .f32 := transpose S512x8192 [1, 0] (wide y) transposes_S8192x512_S512x8192_1_0

theorem sqrt_const (j : S_.Idx) : Host.sqrt (constant (F := Ideal) S_ .f32 0x44000000#32) j = ((Real.sqrt 512 : ℝ) : EReal) := by
  have h : Ideal.ofBits .f32 0x44000000#32 = ((512 : ℝ) : EReal) := by
    simp [Ideal.ofBits, Ideal.ieee, -EReal.coe_mul]; norm_num
  show Ideal.sqrt (Ideal.ofBits .f32 0x44000000#32) = _
  rw [h, Ideal.sqrt_coe, if_neg (by norm_num)]

theorem refScore_at (hx : IsWhole x q) (hy : IsWhole y k) (i j : Fin 8192) :
    refScore (F := Ideal) x y (ix2 i j) = ((wscore q k i j : ℝ) : EReal) := by
  unfold refScore
  rw [hostDivf_apply, broadcastInDim_scalar_apply, sqrt_const,
    Ideal.div_coe (Real.sqrt_ne_zero'.mpr (by norm_num))]
  have h := dotGeneral_plain_apply (m := 8192) (n := 8192) none (wide x)
      (turned y) i j
  refine (congrArg (· * _) h).trans ?_
  have h2 : ∀ d : Fin 512, (wide x : S8192x512.Idx → EReal) (ix2 i d)
      * (turned y : S512x8192.Idx → EReal) (ix2 d j)
      = ((q i d * k j d : ℝ) : EReal) := fun d => by
    rw [EReal.coe_mul]
    exact congrArg₂ (· * ·) (hx i d) ((transpose_ix2_apply (wide y) _ d j).trans (hy j d))
  rw [Finset.sum_congr rfl fun d _ => h2 d, sum_real, ← EReal.coe_mul, one_div]
  rfl

theorem stretch_at (w : S8192.Idx → EReal) (i j : Fin 8192) : stretch (F := Ideal) w (ix2 i j) = w (ix1 i) := by
  unfold stretch broadcastInDim
  refine congrArg w ?_
  funext a; apply Fin.ext
  fin_cases a; rfl

theorem rowmax_at {s : S8192x8192.Idx → EReal} {t : Fin 8192 → Fin 8192 → ℝ} (hs : ∀ i j, s (ix2 i j) = ((t i j : ℝ) : EReal)) (i : Fin 8192) :
    ∃ M : ℝ, (Host.reduce (FloatOps.maximumf (F := Ideal) (φ := .f32)) s (constant (F := Ideal) S_ .f32 0xFF800000#32) reducesTo_S8192x8192_S8192_d1 h_S_ : S8192.Idx → EReal) (ix1 i) = (M : EReal) := by
  have hr : S8192x8192.Reduces [1] S8192 := by decide
  obtain ⟨M, hM⟩ := fold_real (n := 8192) (by norm_num) (t i)
  refine ⟨M, ?_⟩
  rw [← hM]
  refine (Host.reduce_eq_fold_single (FloatOps.maximumf (F := Ideal) (φ := .f32)) s (constant (F := Ideal) S_ .f32 0xFF800000#32) reducesTo_S8192x8192_S8192_d1 hr h_S_ (ix1 i)).trans ?_
  have hf : (s ∘ hr.lift (ix1 i)) = fun c : Fin 8192 => ((t i c : ℝ) : EReal) := by
    funext c
    exact (congrArg s (lift_row hr i c)).trans (hs i c)
  have hb : (constant (F := Ideal) S_ .f32 0xFF800000#32 : S_.Idx → EReal) (Shape.Idx.first h_S_) = (⊥ : EReal) := ofBits_negInf
  exact congrArg₂ (fun b f => (Finset.univ : Finset (Fin 8192)).fold max b f) hb hf

theorem rowsum_at {s : S8192x8192.Idx → EReal} {t : Fin 8192 → Fin 8192 → ℝ} (hs : ∀ i j, s (ix2 i j) = ((t i j : ℝ) : EReal)) (i : Fin 8192) :
    (Host.reduceAdd (F := Ideal) (φ := .f32) s (constant S_ .f32 0x00000000#32) reducesTo_S8192x8192_S8192_d1 h_S_ : S8192.Idx → EReal) (ix1 i)
      = ((∑ j, t i j : ℝ) : EReal) := by
  have hr : S8192x8192.Reduces [1] S8192 := by decide
  rw [hostReduceAdd_apply, Ideal.hostReduceAdd_single _ hr, ← sum_real]
  have hb : (constant (F := Ideal) S_ .f32 0x00000000#32 : S_.Idx → EReal) (Shape.Idx.first h_S_) = (0 : EReal) := Ideal.ofBits_zero_f32
  rw [hb, zero_add]
  exact Finset.sum_congr rfl fun c _ => (congrArg s (lift_row hr i c)).trans (hs i c)

theorem refExp_at {s : S8192x8192.Idx → EReal} {t : Fin 8192 → Fin 8192 → ℝ} (hs : ∀ i j, s (ix2 i j) = ((t i j : ℝ) : EReal)) (i : Fin 8192) :
    ∃ M : ℝ, ∀ j, refExp (F := Ideal) s (ix2 i j) = ((Real.exp (t i j - M) : ℝ) : EReal) := by
  obtain ⟨M, hM⟩ := rowmax_at hs i
  refine ⟨M, fun j => ?_⟩
  unfold refExp
  have h : (subf (F := Ideal) (φ := .f32) s (stretch (Host.reduce FloatOps.maximumf s (constant S_ .f32 0xFF800000#32) reducesTo_S8192x8192_S8192_d1 h_S_)) : S8192x8192.Idx → EReal) (ix2 i j)
      = ((t i j - M : ℝ) : EReal) := by
    refine (congrArg₂ (· - ·) (hs i j) ((stretch_at _ i j).trans hM)).trans ?_
    exact (EReal.coe_sub _ _).symm
  refine (congrArg Ideal.exp h).trans ?_
  exact Ideal.exp_coe _

/-- The reference at row `i`, column `d`. -/
theorem refOut_at (hx : IsWhole x q) (hy : IsWhole y k) (i : Fin 8192) (d : Fin 512) :
    refOut (F := Ideal) x y z (ix2 i d)
      = (∑ j, ((Real.exp (wscore q k i j) : ℝ) : EReal) * z (ix2 j d)) * ((1 / ∑ j, Real.exp (wscore q k i j) : ℝ) : EReal) := by
  choose M hM using fun i => refExp_at (refScore_at hx hy) i
  have hpos : ∀ i, 0 < ∑ j, Real.exp (wscore q k i j - M i) := fun i =>
    Finset.sum_pos (fun j _ => Real.exp_pos _) ⟨0, Finset.mem_univ _⟩
  have hn : ∀ j, (refNorm (F := Ideal) (refExp (refScore x y)) : S8192x8192.Idx → EReal) (ix2 i j)
      = ((Real.exp (wscore q k i j - M i) * (1 / ∑ j, Real.exp (wscore q k i j - M i)) : ℝ) : EReal) := fun j => by
    unfold refNorm
    rw [hostDivf_apply, stretch_at, rowsum_at hM, hM i j, Ideal.div_coe (hpos i).ne', EReal.coe_mul]
  unfold refOut
  refine (dotGeneral_plain_apply (m := 8192) (n := 512) none (refNorm (F := Ideal) (refExp (refScore x y))) (wide z) i d).trans ?_
  have h2 : ∀ j : Fin 8192, (refNorm (F := Ideal) (refExp (refScore x y)) : S8192x8192.Idx → EReal) (ix2 i j)
      * (wide z : S8192x512.Idx → EReal) (ix2 j d)
      = ((Real.exp (wscore q k i j - M i) * (1 / ∑ j, Real.exp (wscore q k i j - M i)) : ℝ) : EReal) * z (ix2 j d) := fun j =>
    congrArg (fun a : EReal => a * z (ix2 j d)) (hn j)
  refine (Finset.sum_congr rfl fun j _ => h2 j).trans ?_
  have he : ∀ j, Real.exp (wscore q k i j - M i) = Real.exp (wscore q k i j) * Real.exp (-M i) := fun j => by
    rw [sub_eq_add_neg, Real.exp_add]
  have hs : ∑ j, Real.exp (wscore q k i j - M i) = (∑ j, Real.exp (wscore q k i j)) * Real.exp (-M i) := by
    rw [Finset.sum_mul]; exact Finset.sum_congr rfl fun j _ => he j
  have hp : (0 : ℝ) < ∑ j, Real.exp (wscore q k i j) := Finset.sum_pos (fun j _ => Real.exp_pos _) ⟨0, Finset.mem_univ _⟩
  have hm := Real.exp_pos (-M i)
  rw [scale_sum _ (one_div_pos.mpr hp).le]
  refine Finset.sum_congr rfl fun j _ => ?_
  rw [mul_right_comm, ← EReal.coe_mul, hs, he j]
  refine congrArg (fun a : ℝ => (a : EReal) * z (ix2 j d)) ?_
  field_simp

end Cert.ReferenceIdeal.Line

end
-- ==== Proof.Whole.lean ====
/-
# The kernel computes the reference

The two devices' blocks are the two halves of the reference's arrays, so a device's sum over the keys of both blocks is the
reference's sum over all the keys, and the kernel's result is the device's block of the reference's.
-/
module

public import proofs.«01_k».proof.Proof.Value
public import proofs.«01_k».proof.Proof.RefValue
public import proofs.«01_k».proof.Proof.Gen.Pre_finite_KernelIdeal

@[expose] public section

noncomputable section

namespace Cert.KernelIdeal.Ring

open Cert.KernelIdeal Cert.KernelIdeal.Gen
open Cert.ReferenceIdeal.Line (Whole IsWhole wscore refOut refOut_at)

open Idealize.ShloMosaic
open Idealize.ShloMosaic.TcCoe
open Idealize.SL.Sem
open Idealize.ShloMosaic.ValueIdx
open scoped BigOperators

/-! ## Finite inputs are real numbers -/

theorem ofBits_posInf : Ideal.ofBits .f32 0x7F800000#32 = (⊤ : EReal) := by simp [Ideal.ofBits, Ideal.ieee]

theorem real_of_finite {a : EReal} (h : (Ideal.cmp .ogt a (Ideal.ofBits .f32 0xFF800000#32)) &&& (Ideal.cmp .olt a (Ideal.ofBits .f32 0x7F800000#32)) = 1#1) :
    a = ((a.toReal : ℝ) : EReal) := by
  rw [show Ideal.ofBits .f32 0xFF800000#32 = (⊥ : EReal) from ofBits_negInf, ofBits_posInf] at h
  refine (EReal.coe_toReal ?_ ?_).symm
  · rintro rfl; simp [Ideal.cmp] at h
  · rintro rfl; simp [Ideal.cmp] at h

def AllReal (x : S4096x512.Idx → EReal) : Prop := ∀ i, x i = (((x i).toReal : ℝ) : EReal)

/-! ## Blocks -/

/-- Row `r` of block `e`. -/
def rowAt (e : Dev nD) (r : Fin 4096) : Fin 8192 := ⟨e.val * 4096 + r.val, by have h1 : e.val < 2 := e.isLt; have h2 := r.isLt; omega⟩

theorem exists_rowAt (i : Fin 8192) : ∃ (e : Dev nD) (r : Fin 4096), i = rowAt e r := by
  have h := i.isLt
  refine ⟨⟨i.val / 4096, show _ < 2 by omega⟩, ⟨i.val % 4096, Nat.mod_lt _ (by norm_num)⟩, Fin.ext ?_⟩
  show i.val = i.val / 4096 * 4096 + i.val % 4096
  omega

theorem sum_rows {R : Type} [AddCommMonoid R] (f : Fin 8192 → R) : ∑ i, f i = ∑ e : Dev nD, ∑ r : Fin 4096, f (rowAt e r) := by
  rw [← Fintype.sum_prod_type', ← Equiv.sum_comp (finProdFinEquiv (m := 2) (n := 4096)) f]
  refine Finset.sum_congr rfl fun p _ => congrArg f (Fin.ext ?_)
  show p.2.val + 4096 * p.1.val = p.1.val * 4096 + p.2.val
  omega

theorem sum_whose {R : Type} [AddCommMonoid R] (c : Dev nD) (f : Dev nD → R) : ∑ j ∈ Finset.range 2, f (whose c j) = ∑ e : Dev nD, f e := by
  have h : ∑ e : Dev nD, f e = f 0 + f 1 := Fin.sum_univ_two f
  rw [h, Finset.sum_range_succ, Finset.sum_range_one]
  have hc : c = 0 ∨ c = 1 := by revert c; decide
  rcases hc with rfl | rfl
  · rfl
  · exact add_comm _ _

theorem block_at (x : (⟨2, ![8192, 512]⟩ : Shape).Idx → EReal) (c : Dev nD) (r : Fin 4096) (d : Fin 512) :
    (Layout.block ⟨2, ![4096, 512]⟩ ⟨2, ![8192, 512]⟩ 0 2 c x) (ix2 r d) = x (ix2 (rowAt c r) d) := by
  refine congrArg x ?_
  funext a; apply Fin.ext
  fin_cases a <;> rfl

/-- Block `c` of a whole matrix. -/
def cut (q : Whole) (c : Dev nD) : Mat := fun r d => q (rowAt c r) d

variable {m : (ℓ : Loc nD τ sig) → Buf (Elt Ideal) ℓ} {ρ : Dev nD → PrngReg}

/-- A device's result row is the reference's. -/
theorem result_whole {x y z : Cert.ReferenceIdeal.S8192x512.Idx → EReal} {q k : Whole} (hx : IsWhole x q) (hy : IsWhole y k)
    (hq : ∀ c : Dev nD, IsMat (qIn m ρ c) (cut q c)) (hk : ∀ c : Dev nD, IsMat (kIn m c) (cut k c)) (hz : ∀ (c : Dev nD) (r : Fin 4096) (d : Fin 512), vIn m c (ix2 r d) = z (ix2 (rowAt c r) d))
    (c : Dev nD) (r : Fin 4096) (d : Fin 512) :
    result m ρ c (ix2 r d : S4096x512.Idx) = refOut (F := Ideal) x y z (ix2 (rowAt c r) d) := by
  rw [result_at (hq c) hk r d, refOut_at hx hy (rowAt c r) d]
  refine congrArg₂ (fun (a : EReal) (b : ℝ) => a * ((1 / b : ℝ) : EReal)) ?_ ?_
  · rw [sum_rows]
    refine (sum_whose c fun e => ∑ t : Fin 4096, ((Real.exp (score (cut q c) (cut k e) r t) : ℝ) : EReal) * vIn m e (ix2 t d)).trans ?_
    refine Finset.sum_congr rfl fun e _ => Finset.sum_congr rfl fun t _ => ?_
    rw [hz e t d]; rfl
  · rw [sum_rows]
    exact sum_whose c fun e => ∑ t : Fin 4096, Real.exp (score (cut q c) (cut k e) r t)

/-- An array whose two blocks are finite is a matrix of real numbers. -/
theorem whole_of_blocks {x : (⟨2, ![8192, 512]⟩ : Shape).Idx → EReal} {b : Dev nD → S4096x512.Idx → EReal}
    (hb : ∀ c : Dev nD, b c = Layout.block ⟨2, ![4096, 512]⟩ ⟨2, ![8192, 512]⟩ 0 2 c x)
    (hf : ∀ c : Dev nD, AllReal (b c)) :
    ∃ q : Whole, IsWhole x q ∧ ∀ c : Dev nD, IsMat (b c) (cut q c) := by
  have hm : ∀ (c : Dev nD) (r : Fin 4096) (d : Fin 512), b c (ix2 r d) = x (ix2 (rowAt c r) d) := fun c r d => by
    rw [hb c]; exact block_at x c r d
  refine ⟨fun i d => (x (ix2 i d)).toReal, fun i d => ?_, fun c r d => ?_⟩
  · obtain ⟨e, r, rfl⟩ := exists_rowAt i
    show x (ix2 (rowAt e r) d) = (((x (ix2 (rowAt e r) d)).toReal : ℝ) : EReal)
    rw [← hm e r d]; exact hf e _
  · show b c (ix2 r d) = (((x (ix2 (rowAt c r) d)).toReal : ℝ) : EReal)
    rw [← hm c r d]; exact hf c _

theorem algebraic : Cert.algebraic_KernelIdeal_ReferenceIdeal_pre_finite_KernelIdeal := by
  intro m g m' g' hpre hargs
  have hf0 : ∀ c : Dev nD, AllReal (m ((c.tc : Thread nD τ).loc main_arg0)) :=
    fun c i => real_of_finite (congrFun (hpre c).1 i)
  have hf1 : ∀ c : Dev nD, AllReal (m ((c.tc : Thread nD τ).loc main_arg1)) :=
    fun c i => real_of_finite (congrFun (hpre c).2 i)
  obtain ⟨q, hx, hq⟩ := whole_of_blocks (fun c => (hargs c).1) hf0
  obtain ⟨k, hy, hk⟩ := whole_of_blocks (fun c => (hargs c).2.1) hf1
  refine ⟨refOut (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    θ_run_mono (run_main m g) fun r h c => ⟨?_, h.1.kept c⟩,
    θ_run_mono (Cert.ReferenceIdeal.Line.run (F := Ideal) m' g') fun r h => h 0⟩
  refine ((h.1 c).1 (1 : Fin 2)).trans ?_
  refine finalA_out.trans ?_
  funext i
  obtain ⟨a, b, rfl⟩ : ∃ a b, i = ix2 a b := ⟨_, _, eq_ix2 i⟩
  refine (result_whole hx hy (fun c r d => (qIn_at r d).trans (hq c r d)) hk (fun c r d => (congrFun (hargs c).2.2 (ix2 r d)).trans (block_at _ c r d)) c a b).trans ?_
  exact (block_at _ c a b).symm

end Cert.KernelIdeal.Ring

end
-- ==== Proof.Many.Tile.lean ====
/-
# One hop of the kernel: the inner loop over query tiles

The inner loop goes over the 16 tiles of 256 query rows. A trip loads a tile of queries, the running maximum, the running
sum and the accumulator of those rows, folds the hop's keys and values in, and stores the three back. `tileStep` is what a
trip makes of the three buffers, `tiles` the first `n` trips, `hop` the whole loop.
-/
module

public import proofs.«01_k».proof.Proof.Gen.RingIdeal
public import proofs.«01_k».proof.Proof.Gen.RingIdeal.Skeleton
public import proofs.«01_k».proof.Proof.Gen.RingIdeal.Loops
public import Idealize.ShloMosaic.Lib.Rounds
public import Idealize.ShloMosaic.Lib.Tactic

@[expose] public section

noncomputable section

namespace Cert.RingIdeal.Ring

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline's copy (duties `Unit`) and the ring's (duties `Bool`) -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## The buffers -/

/-- The staged queries, the staged result (the accumulator), the running maximum, the running sum, the two slots of keys
    and values. -/
abbrev qM : Memref sig .tc .vmem S4096x512 .bf16 := Memref.whole cc0_stg0_0
abbrev oM : Memref sig .tc .vmem S4096x512 .f32 := Memref.whole cc0_stg1_0
abbrev mM : Memref sig .tc .vmem S4096x1 .f32 := Memref.whole cc0_scratch1
abbrev lM : Memref sig .tc .vmem S4096x1 .f32 := Memref.whole cc0_scratch2
abbrev cM : Memref sig .tc .vmem S2x2x4096x512 .bf16 := Memref.whole cc0_scratch0
abbrev kM : Memref sig .tc .hbm S4096x512 .bf16 := Memref.whole main_arg1
abbrev vM : Memref sig .tc .hbm S4096x512 .bf16 := Memref.whole main_arg2

variable (F) in
/-- The contents of the three buffers a hop updates: accumulator, running maximum, running sum. -/
structure St where
  o : (cc0_stg1_0 : Ref sig .tc).ty.Contents (Elt F)
  m : (cc0_scratch1 : Ref sig .tc).ty.Contents (Elt F)
  l : (cc0_scratch2 : Ref sig .tc).ty.Contents (Elt F)

/-- Rows of a tile, wide and one element wide. -/
abbrev rW (t : Fin k0_t2_loop.trips) : Rect S4096x512 := Rect.unit (s := S4096x512) (k0_off7 t) S256x512.size (k0_off7_inb t)
abbrev rN (t : Fin k0_t2_loop.trips) : Rect S4096x1 := Rect.unit (s := S4096x1) (k0_off8 t) S256x1.size (k0_off8_inb t)

variable (K V : Vec F S1x1x4096x512 .bf16) (q : (cc0_stg0_0 : Ref sig .tc).ty.Contents (Elt F))

abbrev ldQ (t : Fin k0_t2_loop.trips) : Vec F S256x512 .bf16 := qM.view.readAt (Elt F) (rW t).toLoadRect q
abbrev ldO (t : Fin k0_t2_loop.trips) (o : (cc0_stg1_0 : Ref sig .tc).ty.Contents (Elt F)) : Vec F S256x512 .f32 :=
  oM.view.readAt (Elt F) (rW t).toLoadRect o
abbrev ldM (t : Fin k0_t2_loop.trips) (m : (cc0_scratch1 : Ref sig .tc).ty.Contents (Elt F)) : Vec F S256x1 .f32 :=
  mM.view.readAt (Elt F) (rN t).toLoadRect m
abbrev ldL (t : Fin k0_t2_loop.trips) (l : (cc0_scratch2 : Ref sig .tc).ty.Contents (Elt F)) : Vec F S256x1 .f32 :=
  lM.view.readAt (Elt F) (rN t).toLoadRect l

/-- A tile's rows stored into the three buffers. -/
def putO (t : Fin k0_t2_loop.trips) (f : (cc0_stg1_0 : Ref sig .tc).ty.Contents (Elt F)) (w : FVec F S256x512 .f32) :
    (cc0_stg1_0 : Ref sig .tc).ty.Contents (Elt F) := (oM.access (rW t) : View sig .tc _ _ _).write (Elt F) f w Finset.univ
def putM (t : Fin k0_t2_loop.trips) (f : (cc0_scratch1 : Ref sig .tc).ty.Contents (Elt F)) (w : FVec F S256x1 .f32) :
    (cc0_scratch1 : Ref sig .tc).ty.Contents (Elt F) := (mM.access (rN t) : View sig .tc _ _ _).write (Elt F) f w Finset.univ
def putL (t : Fin k0_t2_loop.trips) (f : (cc0_scratch2 : Ref sig .tc).ty.Contents (Elt F)) (w : FVec F S256x1 .f32) :
    (cc0_scratch2 : Ref sig .tc).ty.Contents (Elt F) := (lM.access (rN t) : View sig .tc _ _ _).write (Elt F) f w Finset.univ

/-- What trip `t` makes of the three buffers. -/
def tileStep (t : Fin k0_t2_loop.trips) (s : St F) : St F where
  o := putO t s.o (k0_pay8 K V (ldQ q t) (ldM t s.m) (ldO t s.o))
  m := putM t s.m (k0_pay9 K (ldQ q t) (ldM t s.m))
  l := putL t s.l (k0_pay7 K (ldQ q t) (ldM t s.m) (ldL t s.l))

/-- The first `n` trips. -/
def tiles (s : St F) : ℕ → St F
  | 0 => s
  | n + 1 => if h : n < k0_t2_loop.trips then tileStep K V q ⟨n, h⟩ (tiles s n) else tiles s n

theorem tiles_succ (s : St F) (t : Fin k0_t2_loop.trips) : tiles K V q s (t.val + 1) = tileStep K V q t (tiles K V q s t.val) := by
  rw [tiles, dif_pos t.isLt]

/-- The whole inner loop. -/
def hop (s : St F) : St F := tiles K V q s (Scf.trips k0_t2_loop.lb k0_t2_loop.ub k0_t2_loop.st)

/-! ## The loop -/

/-- The three buffers held at `s`. -/
def stPts (c : Dev nD) (s : St F) : sProp 𝕄 :=
  iprop((((c : Thread nD τ).loc cc0_stg1_0) ↦{fullShare} s.o) ∗ (((c : Thread nD τ).loc cc0_scratch1) ↦{fullShare} s.m)
    ∗ (((c : Thread nD τ).loc cc0_scratch2) ↦{fullShare} s.l))

def qPts (c : Dev nD) : sProp 𝕄 := ((c : Thread nD τ).loc cc0_stg0_0) ↦{fullShare} q

/-- The inner loop as the kernel calls it. -/
abbrev t2Body : Fin k0_t2_loop.trips → Unit → Prog (TpuEff nD τ sig (Elt F) Λ₀ .tc) Unit :=
  k0_t2_body (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 K V

theorem trip_t2 (c : Dev nD) (t : Fin k0_t2_loop.trips) (u : Unit) (s : St F) :
    iprop(qPts q c ∗ stPts c s)
      ⊢ wp frame (wpE (defs₀ (F := F)) 𝒱₀ (c : Thread nD τ) none) Set.univ (t2Body K V t u)
          (fun _ => (iprop(qPts q c ∗ stPts c (tileStep K V q t s)) : sProp 𝕄)) := by
  unfold t2Body k0_t2_body
  simp only [Prog.lift, Prog.bind_op, Prog.bind_ret, Prog.pure_eq_ret]
  unfold qPts stPts tileStep putO putM putL
  iintro ⟨Hq, Ho, Hm, Hl⟩
  iapply (wp_load 𝒱₀ (c : Thread nD τ) none Set.univ (m := qM) (Finset.subset_univ _)) $$ Hq; iintro Hq
  iapply (wp_load 𝒱₀ (c : Thread nD τ) none Set.univ (m := mM) (Finset.subset_univ _)) $$ Hm; iintro Hm
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_store 𝒱₀ (c : Thread nD τ) none Set.univ (m := lM) (r := rN t) (Mk := Finset.univ) (Finset.subset_univ _)) $$ Hl; iintro Hl
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := rW t) (Mk := Finset.univ) (Finset.subset_univ _)) $$ Ho; iintro Ho
  iapply (wp_load 𝒱₀ (c : Thread nD τ) none Set.univ (m := mM) (Finset.subset_univ _)) $$ Hm; iintro Hm
  iapply (wp_store 𝒱₀ (c : Thread nD τ) none Set.univ (m := mM) (r := rN t) (Mk := Finset.univ) (Finset.subset_univ _)) $$ Hm; iintro Hm
  rw [wp_ret]; imodintro
  isplitl [Hq]; · iexact Hq
  isplitl [Ho]; · iexact Ho
  isplitl [Hm]; · iexact Hm
  iexact Hl

/-- The inner loop at the head of a program: the three buffers go from `s` to `hop … s`. -/
theorem wp_hop (c : Dev nD) (s : St F) {β : Type} {kk : Unit → Prog (TpuEff nD τ sig (Elt F) Λ₀ .tc) β} {Q : β → sProp 𝕄} :
    iprop(qPts q c ∗ stPts c s)
      ⊢ iprop((iprop(qPts q c ∗ stPts c (hop K V q s)) -∗ wp frame (wpE (defs₀ (F := F)) 𝒱₀ (c : Thread nD τ) none) Set.univ (kk ()) Q)
        -∗ wp frame (wpE (defs₀ (F := F)) 𝒱₀ (c : Thread nD τ) none) Set.univ
            (Scf.Loop.for k0_t2_loop k0_t2_ok () (t2Body K V) >>= kk) Q) := by
  have h := Scf.wp_for_bind (β := β) (kk := kk) (Q := Q) frame (wpE (defs₀ (F := F)) 𝒱₀ (c : Thread nD τ) none) Set.univ
    k0_t2_loop.lb k0_t2_loop.ub k0_t2_loop.st k0_t2_ok () (t2Body K V)
    (fun n _ => (iprop(qPts q c ∗ stPts c (tiles K V q s n)) : sProp 𝕄))
    (fun t u => by rw [tiles_succ K V q s t]; exact trip_t2 K V q c t u _)
  rw [show tiles K V q s 0 = s from rfl] at h
  iintro H Hk
  iapply h $$ H
  iintro %acc H
  iapply Hk; iexact H

end Cert.RingIdeal.Ring

end
-- ==== Proof.Many.Comm.lean ====
/-
# The two slots of keys and values

The scratch buffer holds two slots, each a block of keys and a block of values. `commOf K V` is the buffer's contents with
`K` and `V` in every slot; a slot is held at `commOf K V` on its own elements. Here: which elements the kernel's views are
of, and what a copy leaves and a load reads.
-/
module

public import proofs.«01_k».proof.Proof.Many.Tile
public import Idealize.ShloMosaic.Lib.ValueLayout
public import Idealize.ShloMosaic.Lib.Pipeline.ValueKit.Geometry

@[expose] public section

noncomputable section

namespace Cert.RingIdeal.Ring

open Cert.RingIdeal Cert.RingIdeal.Gen

open Idealize.ShloMosaic
open Idealize.ShloMosaic.TcCoe
open Idealize.SL Idealize.SL.RA Idealize.SL.BI
open Idealize.SL.Sem
open Idealize.ShloMosaic.ValueIdx

variable {F : FTy → Type} [FloatOps F] [Named F]

/-- A block of keys or values. -/
abbrev Blk (F : FTy → Type) : Type := S4096x512.Idx → Elt F .bf16

def commOf (K V : Blk F) : (cc0_scratch0 : Ref sig .tc).ty.Contents (Elt F) :=
  fun i : S2x2x4096x512.Idx => if (i 1).val = 0 then K (ix2 (i 2) (i 3)) else V (ix2 (i 2) (i 3))

/-- The elements of slot `s`, and of block `b` of slot `s`. -/
def slotSet (s : ℕ) : Finset (cc0_scratch0 : Ref sig .tc).ty.shape.Idx :=
  Finset.univ.filter fun i : S2x2x4096x512.Idx => (i 0).val = s
def blkSet (s b : ℕ) : Finset (cc0_scratch0 : Ref sig .tc).ty.shape.Idx :=
  Finset.univ.filter fun i : S2x2x4096x512.Idx => (i 0).val = s ∧ (i 1).val = b

/-- Slot and block as the kernel's copies name them, at any offsets. -/
abbrev slotM (off : Fin 4 → ℕ) (h : ∀ a, off a + S1x2x4096x512.size a ≤ S2x2x4096x512.size a) : Memref sig .tc .vmem S2x4096x512 .bf16 :=
  (cM.slice (Rect.unit (s := S2x2x4096x512) off S1x2x4096x512.size h) (fun _ => rfl)).squeeze S2x4096x512 squeezes_S1x2x4096x512_S2x4096x512
abbrev blkM (off : Fin 4 → ℕ) (h : ∀ a, off a + S1x1x4096x512.size a ≤ S2x2x4096x512.size a) : Memref sig .tc .vmem S4096x512 .bf16 :=
  (cM.slice (Rect.unit (s := S2x2x4096x512) off S1x1x4096x512.size h) (fun _ => rfl)).squeeze S4096x512 squeezes_S1x1x4096x512_S4096x512

theorem slotM_set (off h) (s : ℕ) (ho : off = ![s, 0, 0, 0]) : (slotM off h).view.set = slotSet s := by
  subst ho
  rw [Memref.set_view_squeeze]
  ext i
  refine (ValueKit.mem_set_slice_whole_iff cc0_scratch0 _ i Iff.rfl).trans ?_
  unfold slotSet
  rw [Rect.mem_set_unit, Finset.mem_filter]
  constructor
  · intro H
    refine ⟨Finset.mem_univ _, ?_⟩
    have := H (0 : Fin 4)
    simp at this
    show (i (0 : Fin 4)).val = s
    omega
  · rintro ⟨-, H⟩ a
    fin_cases a
    · show s ≤ (i (0 : Fin 4)).val ∧ (i (0 : Fin 4)).val < s + 1
      exact ⟨by show s ≤ _; exact H.symm.le, by rw [show (i (0 : Fin 4)).val = s from H]; omega⟩
    · exact ⟨Nat.zero_le _, by show (i (1 : Fin 4)).val < 0 + 2; have := (i (1 : Fin 4)).isLt; simpa using this⟩
    · exact ⟨Nat.zero_le _, by show (i (2 : Fin 4)).val < 0 + 4096; have := (i (2 : Fin 4)).isLt; simpa using this⟩
    · exact ⟨Nat.zero_le _, by show (i (3 : Fin 4)).val < 0 + 512; have := (i (3 : Fin 4)).isLt; simpa using this⟩

theorem blkM_set (off h) (s b : ℕ) (ho : off = ![s, b, 0, 0]) : (blkM off h).view.set = blkSet s b := by
  subst ho
  rw [Memref.set_view_squeeze]
  ext i
  refine (ValueKit.mem_set_slice_whole_iff cc0_scratch0 _ i Iff.rfl).trans ?_
  unfold blkSet
  rw [Rect.mem_set_unit, Finset.mem_filter]
  constructor
  · intro H
    have h0 := H (0 : Fin 4)
    have h1 := H (1 : Fin 4)
    simp at h0 h1
    refine ⟨Finset.mem_univ _, ?_, ?_⟩
    · show (i (0 : Fin 4)).val = s
      omega
    · show (i (1 : Fin 4)).val = b
      omega
  · rintro ⟨-, H0, H1⟩ a
    fin_cases a
    · exact ⟨by show s ≤ _; exact H0.symm.le, by show (i (0 : Fin 4)).val < s + 1; rw [show (i (0 : Fin 4)).val = s from H0]; omega⟩
    · exact ⟨by show b ≤ _; exact H1.symm.le, by show (i (1 : Fin 4)).val < b + 1; rw [show (i (1 : Fin 4)).val = b from H1]; omega⟩
    · exact ⟨Nat.zero_le _, by show (i (2 : Fin 4)).val < 0 + 4096; have := (i (2 : Fin 4)).isLt; simpa using this⟩
    · exact ⟨Nat.zero_le _, by show (i (3 : Fin 4)).val < 0 + 512; have := (i (3 : Fin 4)).isLt; simpa using this⟩

/-- The two slots are the whole buffer; the two blocks are a slot. -/
theorem slot_union : slotSet 0 ∪ slotSet 1 = Finset.univ := by
  ext i
  unfold slotSet
  simp only [Finset.mem_union, Finset.mem_filter, Finset.mem_univ, true_and, iff_true]
  have := (i (0 : Fin 4)).isLt
  have h2 : (i (0 : Fin 4)).val < 2 := by simpa using this
  show (i (0 : Fin 4)).val = 0 ∨ (i (0 : Fin 4)).val = 1
  omega
theorem slot_disj : Disjoint (slotSet 0) (slotSet 1) := by
  rw [Finset.disjoint_left]
  intro i h0 h1
  unfold slotSet at h0 h1
  rw [Finset.mem_filter] at h0 h1
  have := h0.2.symm.trans h1.2
  omega
theorem blk_union (s : ℕ) : blkSet s 0 ∪ blkSet s 1 = slotSet s := by
  ext i
  unfold slotSet blkSet
  simp only [Finset.mem_union, Finset.mem_filter, Finset.mem_univ, true_and]
  have := (i (1 : Fin 4)).isLt
  have h2 : (i (1 : Fin 4)).val < 2 := by simpa using this
  show (i (0 : Fin 4)).val = s ∧ (i (1 : Fin 4)).val = 0 ∨ (i (0 : Fin 4)).val = s ∧ (i (1 : Fin 4)).val = 1 ↔ (i (0 : Fin 4)).val = s
  omega
theorem blk_disj (s : ℕ) : Disjoint (blkSet s 0) (blkSet s 1) := by
  rw [Finset.disjoint_left]
  intro i h0 h1
  unfold blkSet at h0 h1
  rw [Finset.mem_filter] at h0 h1
  have := h0.2.2.symm.trans h1.2.2
  omega

/-! ## What a copy leaves -/

/-- Where a view of a slot or of a block puts an index. -/
theorem slot_emb (off h) (x : S2x4096x512.Idx) (a : Fin 4) :
    (((slotM off h).view.emb x : S2x2x4096x512.Idx) a).val
      = off a + ((Shape.reshapeEquiv squeezes_S1x2x4096x512_S2x4096x512.numel_eq x : S1x2x4096x512.Idx) a).val :=
  ValueKit.view_emb_slice_whole_unit_val cc0_scratch0 off S1x2x4096x512.size h _ a
theorem blk_emb (off h) (x : S4096x512.Idx) (a : Fin 4) :
    (((blkM off h).view.emb x : S2x2x4096x512.Idx) a).val
      = off a + ((Shape.reshapeEquiv squeezes_S1x1x4096x512_S4096x512.numel_eq x : S1x1x4096x512.Idx) a).val :=
  ValueKit.view_emb_slice_whole_unit_val cc0_scratch0 off S1x1x4096x512.size h _ a
theorem blk_reshape (x : S4096x512.Idx) :
    (Shape.reshapeEquiv squeezes_S1x1x4096x512_S4096x512.numel_eq x : S1x1x4096x512.Idx)
      = ix4 (⟨0, Nat.one_pos⟩ : Fin 1) (⟨0, Nat.one_pos⟩ : Fin 1) (x 0) (x 1) :=
  (congrArg (Shape.reshapeEquiv squeezes_S1x1x4096x512_S4096x512.numel_eq) (eq_ix2 x)).trans (reshapeEquiv_ix2_11ab _ _ _)

theorem commOf_congr (K V : Blk F) (i j : S2x2x4096x512.Idx) (h1 : i 1 = j 1) (h2 : i 2 = j 2) (h3 : i 3 = j 3) : commOf K V i = commOf K V j := by
  unfold commOf; rw [h1, h2, h3]

theorem commOf_at (K V : Blk F) (i : S2x2x4096x512.Idx) (b : ℕ) (x : S4096x512.Idx) (h1 : (i 1).val = b) (h2 : i 2 = x 0) (h3 : i 3 = x 1) :
    commOf K V i = (if b = 0 then K else V) x := by
  unfold commOf
  rw [h1]
  have e : (ix2 (i 2) (i 3) : S4096x512.Idx) = x := (congrArg₂ (fun a b => (ix2 a b : S4096x512.Idx)) h2 h3).trans (eq_ix2 x).symm
  split
  · exact congrArg K e
  · exact congrArg V e

theorem slot_copied (off off' h h') (f fd : (cc0_scratch0 : Ref sig .tc).ty.Contents (Elt F)) (x : S2x4096x512.Idx) :
    (slotM off' h').view.write (Elt F) fd ((slotM off h).view.read (Elt F) f) Finset.univ ((slotM off' h').view.emb x) = f ((slotM off h).view.emb x) :=
  (View.write_emb_of_mem _ _ (Finset.mem_univ x)).trans rfl

/-- A copy of one slot onto another leaves the destination slot at the same keys and values. -/
theorem copy_slot (K V : Blk F) (off off' h h') (s s' : ℕ) (ho : off = ![s, 0, 0, 0]) (ho' : off' = ![s', 0, 0, 0])
    (fd : (cc0_scratch0 : Ref sig .tc).ty.Contents (Elt F)) :
    ∀ i ∈ slotSet s', (slotM off' h').view.write (Elt F) fd ((slotM off h).view.read (Elt F) (commOf K V)) Finset.univ i = commOf K V i := by
  intro i hi
  rw [← slotM_set off' h' s' ho'] at hi
  obtain ⟨x, -, rfl⟩ := Finset.mem_map.mp hi
  refine (slot_copied off off' h h' (commOf K V) fd x).trans ?_
  have e (a : Fin 4) (ha : off a = off' a) : ((slotM off h).view.emb x : S2x2x4096x512.Idx) a = ((slotM off' h').view.emb x : S2x2x4096x512.Idx) a :=
    Fin.ext ((slot_emb off h x a).trans (Eq.trans (by rw [ha]) (slot_emb off' h' x a).symm))
  exact commOf_congr K V _ _ (e 1 (by rw [ho, ho']; rfl)) (e 2 (by rw [ho, ho']; rfl)) (e 3 (by rw [ho, ho']; rfl))

/-- A copy of the keys (`b = 0`) or the values (`b = 1`) into a slot leaves its block there at them. -/
theorem copy_blk (K V : Blk F) (off h) (s b : ℕ) (ho : off = ![s, b, 0, 0]) (fd : (cc0_scratch0 : Ref sig .tc).ty.Contents (Elt F))
    (w : Blk F) (hw : w = if b = 0 then K else V) :
    ∀ i ∈ blkSet s b, (blkM off h).view.write (Elt F) fd w Finset.univ i = commOf K V i := by
  intro i hi
  rw [← blkM_set off h s b ho] at hi
  obtain ⟨x, -, rfl⟩ := Finset.mem_map.mp hi
  refine (View.write_emb_of_mem _ _ (Finset.mem_univ x)).trans ?_
  refine Eq.trans ?_ (commOf_at K V _ b x ?_ ?_ ?_).symm
  · rw [← hw]; rfl
  · rw [blk_emb off h x 1, blk_reshape, ho]; rfl
  · exact Fin.ext (by rw [blk_emb off h x 2, blk_reshape, ho]; exact Nat.zero_add _)
  · exact Fin.ext (by rw [blk_emb off h x 3, blk_reshape, ho]; exact Nat.zero_add _)

/-! ## What a load reads -/

/-- A block as the kernel's loads return it. -/
def blkVec (w : Blk F) : Vec F S1x1x4096x512 .bf16 := fun x => w (ix2 (x 2) (x 3))

theorem blk_sub_slot (s b : ℕ) : blkSet s b ⊆ slotSet s := by
  intro i hi
  unfold blkSet at hi
  unfold slotSet
  rw [Finset.mem_filter] at hi ⊢
  exact ⟨hi.1, hi.2.1⟩

theorem load_sub (off h) (s b : ℕ) (ho : off = ![s, b, 0, 0]) :
    (cM.view.setOn (Rect.unit (s := S2x2x4096x512) off S1x1x4096x512.size h).toLoadRect.set) ⊆ slotSet s := by
  have e : (blkM off h).view.set = cM.view.setOn (Rect.unit (s := S2x2x4096x512) off S1x1x4096x512.size h).toLoadRect.set := by
    rw [Memref.set_view_squeeze]
    exact View.set_slice _ _
  rw [← e, blkM_set off h s b ho]
  exact blk_sub_slot s b

theorem load_emb (off h) (x : S1x1x4096x512.Idx) (a : Fin 4) :
    ((((View.whole cc0_scratch0).slice (Rect.unit (s := S2x2x4096x512) off S1x1x4096x512.size h)).emb x : S2x2x4096x512.Idx) a).val
      = off a + (x a).val :=
  ValueKit.view_emb_slice_whole_unit_val cc0_scratch0 off S1x1x4096x512.size h x a

theorem load_blk (K V : Blk F) (off h) (s b : ℕ) (ho : off = ![s, b, 0, 0]) :
    cM.view.readAt (Elt F) (Rect.unit (s := S2x2x4096x512) off S1x1x4096x512.size h).toLoadRect (commOf K V)
      = blkVec (if b = 0 then K else V) := by
  refine funext fun (x : S1x1x4096x512.Idx) => ?_
  have h0 : (x 1).val = 0 := Nat.lt_one_iff.mp (x 1).isLt
  have e1 := load_emb off h x 1
  have e2 := load_emb off h x 2
  have e3 := load_emb off h x 3
  have o1 : off 1 = b := by rw [ho]; rfl
  have o2 : off 2 = 0 := by rw [ho]; rfl
  have o3 : off 3 = 0 := by rw [ho]; rfl
  rw [o1, h0] at e1
  rw [o2, Nat.zero_add] at e2
  rw [o3, Nat.zero_add] at e3
  refine commOf_at K V (((View.whole cc0_scratch0).slice (Rect.unit (s := S2x2x4096x512) off S1x1x4096x512.size h)).emb x) b
    (ix2 (x 2) (x 3) : S4096x512.Idx) e1 (Fin.ext e2) (Fin.ext e3)

end Cert.RingIdeal.Ring

end
-- ==== Proof.Many.Sched.lean ====
/-
# The exchange: who waits for what

Each device has eight semaphores: the barrier, two for copies out, two for copies in, two for its own copies of keys and
values, and the one by which its right neighbour says that a slot is free.

Device `c` holds, at hop `h`, the keys and values of device `whose c h` in slot `h % 2`. Round `h` of its last semaphore is
the right neighbour's word that its slot `(h + 1) % 2` is free, and hands that slot over. Each round of a sending semaphore
gives back the half share of a slot lent to a copy. Each round of a receiving semaphore gives a slot filled by the left
neighbour, with the word that the left neighbour has taken the matching round of its last semaphore, so that the next round
of it may be paid.
-/
module

public import proofs.«01_k».proof.Proof.Many.Comm
public import proofs.«01_k».proof.Proof.Gen.RingIdeal.Launch
public import proofs.«01_k».proof.Proof.Gen.RingIdeal.Points
public import Idealize.ShloMosaic.Lib.Pipeline.Launch
public import Idealize.ShloMosaic.Lib.Pipeline.Kit

@[expose] public section

noncomputable section

namespace Cert.RingIdeal.Ring

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (m : (ℓ : Loc nD τ sig) → Buf (Elt F) ℓ) (ρ : Dev nD → PrngReg)

/-- The memory at launch. -/
def mem₀ : MemSt nD τ sig (Elt F) := ⟨m, fun _ => 0, ρ⟩

/-! ## The ring -/

set_option backward.proofsInPublic true in
/-- The right neighbour, which device `c` copies to. -/
def nx (c : Dev nD) : Dev nD := ⟨(c.val + 1) % 32, Nat.mod_lt _ (by decide)⟩
set_option backward.proofsInPublic true in
/-- The left neighbour, which copies to device `c`. -/
def pv (c : Dev nD) : Dev nD := ⟨(c.val + 31) % 32, Nat.mod_lt _ (by decide)⟩
theorem nx_pv (c : Dev nD) : nx (pv c) = c := by revert c; decide +kernel
theorem pv_nx (c : Dev nD) : pv (nx c) = c := by revert c; decide +kernel
theorem dev1_pv (c : Dev nD) : (⟨k0_dev1 c, k0_dev1_lt c⟩ : Dev nD) = pv c := Fin.ext (k0_dev1_eq c)
theorem dev2_nx (c : Dev nD) : (⟨k0_dev2 c, k0_dev2_lt c⟩ : Dev nD) = nx c := Fin.ext (k0_dev2_eq c)
theorem dev3_pv (c : Dev nD) (t h) : (⟨k0_dev3 c, k0_dev3_lt c t h⟩ : Dev nD) = pv c := Fin.ext (k0_dev3_eq c)
theorem dev4_nx (c : Dev nD) (t h) : (⟨k0_dev4 c, k0_dev4_lt c t h⟩ : Dev nD) = nx c := Fin.ext (k0_dev4_eq c)
def turn : Dev nD ≃ Dev nD := ⟨nx, pv, pv_nx, nx_pv⟩

/-- Whose keys and values device `c` folds in at hop `n`. -/
def whose (c : Dev nD) : ℕ → Dev nD
  | 0 => c
  | n + 1 => pv (whose c n)
theorem whose_nx (c : Dev nD) : ∀ n, whose (nx c) (n + 1) = whose c n
  | 0 => pv_nx c
  | n + 1 => congrArg pv (whose_nx c n)

/-! ## Semaphores and cells -/

abbrev barS : Sem sig := (SemArray.scalar (sig.barrier 0 rfl) : Sems sig S_).sem
abbrev freeS : Sem sig := cc0_scratch6.sem
/-- The two semaphores of an array. -/
abbrev el (a : DmaSems sig S2) (off : Fin 1 → ℕ) (h : ∀ i, off i + S1.size i ≤ S2.size i) : DmaSem sig :=
  ((a.slice (Rect.unit (s := S2) off S1.size h)).squeeze S_ squeezes_S1_S_).sem
abbrev snd0 : DmaSem sig := el cc0_scratch3 ![0] inb_S2_S1_0
abbrev snd1 : DmaSem sig := el cc0_scratch3 ![1] inb_S2_S1_1
abbrev rcv0 : DmaSem sig := el cc0_scratch4 ![0] inb_S2_S1_0
abbrev rcv1 : DmaSem sig := el cc0_scratch4 ![1] inb_S2_S1_1
abbrev loc0 : DmaSem sig := el cc0_scratch5 ![0] inb_S2_S1_0
abbrev loc1 : DmaSem sig := el cc0_scratch5 ![1] inb_S2_S1_1

abbrev osem : Fin 7 → SemLoc sig :=
  fun | 0 => .dma snd0 | 1 => .dma snd1 | 2 => .dma rcv0 | 3 => .dma rcv1 | 4 => .dma loc0 | 5 => .dma loc1 | 6 => .reg freeS
abbrev csem : Fin 8 → SemLoc sig :=
  fun | 0 => .reg barS | 1 => .dma snd0 | 2 => .dma snd1 | 3 => .dma rcv0 | 4 => .dma rcv1 | 5 => .dma loc0 | 6 => .dma loc1 | 7 => .reg freeS
abbrev cell (c : Dev nD) (k : Fin 8) : GSem nD τ sig := ((c : Thread nD τ), csem k)

/-- The number of a semaphore, 8 for one that is none of the eight. -/
def code (g : SemLoc sig) : Fin 9 :=
  if g = csem 0 then 0 else if g = csem 1 then 1 else if g = csem 2 then 2 else if g = csem 3 then 3
  else if g = csem 4 then 4 else if g = csem 5 then 5 else if g = csem 6 then 6 else if g = csem 7 then 7 else 8
theorem code_csem : ∀ k : Fin 8, code (csem k) = k.castSucc := by decide

/-- The sending semaphore of hop `h`, and the receiving semaphore its copy lands on. -/
def sk (h : ℕ) : Fin 8 := if h % 2 = 0 then 1 else 2
def rk (h : ℕ) : Fin 8 := if h % 2 = 0 then 4 else 3

/-- What a copy of a slot, and of a block, credits. -/
abbrev NS : ℕ := Ref.dmaCredit (cc0_scratch0 : Ref sig .tc) S2x4096x512 .bf16
abbrev NB : ℕ := Ref.dmaCredit (cc0_scratch0 : Ref sig .tc) S4096x512 .bf16
theorem NS_pos : 0 < NS := sig.dmaCredit_pos _ _ _ _ _ (by decide)
theorem NB_pos : 0 < NB := sig.dmaCredit_pos _ _ _ _ _ (by decide)

/-! ## Contents -/

def kIn (c : Dev nD) : Blk F := m ((c : Thread nD τ).loc main_arg1)
def vIn (c : Dev nD) : Blk F := m ((c : Thread nD τ).loc main_arg2)
def qIn (c : Dev nD) : (cc0_stg0_0 : Ref sig .tc).ty.Contents (Elt F) :=
  (win0_0.blk (0 : Fin 1)).view.read (Elt F) ((mem₀ m ρ).mem ((c : Thread nD τ).loc main_arg0))
def kv (c : Dev nD) : (cc0_scratch0 : Ref sig .tc).ty.Contents (Elt F) := commOf (kIn m c) (vIn m c)

/-- Slot `s`, block `b` of slot `s`, and the two arguments in memory, held by device `c`. -/
def slotPts (c : Dev nD) (s : ℕ) (q : PosShare TreeShare) (f : (cc0_scratch0 : Ref sig .tc).ty.Contents (Elt F)) : sProp 𝕄 :=
  ((c : Thread nD τ).loc cc0_scratch0) ↦[slotSet s]{q} f
def blkPts (c : Dev nD) (b : ℕ) (f : (cc0_scratch0 : Ref sig .tc).ty.Contents (Elt F)) : sProp 𝕄 :=
  ((c : Thread nD τ).loc cc0_scratch0) ↦[blkSet 0 b]{fullShare} f
def kPts (c : Dev nD) : sProp 𝕄 := ((c : Thread nD τ).loc main_arg1) ↦{fullShare} kIn m c
def vPts (c : Dev nD) : sProp 𝕄 := ((c : Thread nD τ).loc main_arg2) ↦{fullShare} vIn m c

instance slotPts_storable (c : Dev nD) (s q f) : BI.Storable (upEmb : UEmb _ 𝕄) (slotPts (F := F) c s q f) := by unfold slotPts; infer_instance
instance blkPts_storable (c : Dev nD) (b f) : BI.Storable (upEmb : UEmb _ 𝕄) (blkPts (F := F) c b f) := by unfold blkPts; infer_instance
instance kPts_storable (c : Dev nD) : BI.Storable (upEmb : UEmb _ 𝕄) (kPts (F := F) m c) := by unfold kPts; infer_instance
instance vPts_storable (c : Dev nD) : BI.Storable (upEmb : UEmb _ 𝕄) (vPts (F := F) m c) := by unfold vPts; infer_instance

/-! ## The schedule -/

/-- What round `r` of device `c`'s semaphores hands over, by the semaphore's number. -/
def pay (c : Dev nD) : Fin 9 → ℕ → sProp 𝕄
  | 1, r => slotPts c 0 fullShare.left (kv m (whose c (2 * r)))
  | 2, r => slotPts c 1 fullShare.left (kv m (whose c (2 * r + 1)))
  | 3, r => iprop(slotPts c 0 fullShare (kv m (whose c (2 * r + 2))) ∗ reached ER (cell (pv c) 7) (2 * r + 2))
  | 4, r => iprop(slotPts c 1 fullShare (kv m (whose c (2 * r + 1))) ∗ reached ER (cell (pv c) 7) (2 * r + 1))
  | 5, _ => iprop(blkPts c 0 (kv m c) ∗ kPts m c)
  | 6, _ => iprop(blkPts c 1 (kv m c) ∗ vPts m c)
  | 7, r => iprop((∃ f, slotPts (nx c) ((r + 1) % 2) fullShare f) ∗ reached ER (cell (nx c) (rk r)) (r / 2))
  | _, _ => iprop(emp)

/-- How many rounds a semaphore has. -/
def lim : Fin 9 → ℕ
  | 0 | 5 | 6 => 1
  | 1 | 4 => 16
  | 2 | 3 => 15
  | 7 => 31
  | _ => 0

def dutiesOf : Fin 9 → Finset Bool
  | 0 => Finset.univ
  | _ => {false}

def amountOf : Fin 9 → ℕ
  | 0 | 7 => 1
  | 5 | 6 => NB
  | _ => NS

instance pay_storable (c : Dev nD) (i r) : BI.Storable (upEmb : UEmb _ 𝕄) (pay (F := F) m c i r) := by
  unfold pay
  split <;> infer_instance

theorem amountOf_pos : ∀ i, 0 < amountOf i := by
  intro i
  unfold amountOf
  split
  · exact Nat.one_pos
  · exact Nat.one_pos
  · exact NB_pos
  · exact NB_pos
  · exact NS_pos

def Rd : Rounds.Schedule (GSem nD τ sig) Bool 𝕄 where
  duties g r := if g.1.2 = .tc ∧ r < lim (code g.2) then dutiesOf (code g.2) else ∅
  unitless _ := False
  amount g _ _ := amountOf (code g.2)
  payload g r _ := pay m g.1.1 (code g.2) r
  amount_pos g _ _ _ := amountOf_pos _

instance Rd_storable (g : GSem nD τ sig) (r : ℕ) (d : Bool) : BI.Storable (upEmb : UEmb _ 𝕄) ((Rd (F := F) m).payload g r d) :=
  pay_storable m _ _ r

theorem duties_cell (c : Dev nD) (k : Fin 8) (r : ℕ) (hr : r < lim k.castSucc) : (Rd (F := F) m).duties (cell c k) r = dutiesOf k.castSucc := by
  dsimp only [Rd]
  rw [code_csem, if_pos ⟨rfl, hr⟩]
theorem amount_cell (c : Dev nD) (k : Fin 8) (r : ℕ) (d : Bool) : (Rd (F := F) m).amount (cell c k) r d = amountOf k.castSucc := by
  dsimp only [Rd]
  rw [code_csem]
theorem payload_cell (c : Dev nD) (k : Fin 8) (r : ℕ) (d : Bool) : (Rd (F := F) m).payload (cell c k) r d = pay m c k.castSucc r := by
  dsimp only [Rd]
  rw [code_csem]
theorem duties_over (c : Dev nD) (k : Fin 8) (R : ℕ) (hR : lim k.castSucc ≤ R) : ∀ r, R ≤ r → (Rd (F := F) m).duties (cell c k) r = ∅ := fun r hr => by
  dsimp only [Rd]
  rw [code_csem]
  exact if_neg fun h => by omega

/-- A cell whose rounds are one duty each: what its wait expects and brings. -/
theorem expect_one (c : Dev nD) (k : Fin 8) (hk : dutiesOf k.castSucc = {false}) (r : ℕ) (hr : r < lim k.castSucc) :
    (Rd (F := F) m).expect (cell c k) r = amountOf k.castSucc := by
  unfold Schedule.expect Schedule.amountOf
  rw [duties_cell m c k r hr, hk, Finset.sum_singleton, amount_cell]
theorem rest_one (c : Dev nD) (k : Fin 8) (hk : dutiesOf k.castSucc = {false}) (r : ℕ) (hr : r < lim k.castSucc) :
    bigSep ((Rd (F := F) m).duties (cell c k) r \ ∅) (fun d => (Rd (F := F) m).payload (cell c k) r d) = pay m c k.castSucc r := by
  rw [Finset.sdiff_empty, duties_cell m c k r hr, hk, bigSep_singleton, payload_cell]
theorem expect_bar (c : Dev nD) : (Rd (F := F) m).expect (cell c 0) 0 = 2 := by
  unfold Schedule.expect Schedule.amountOf
  rw [duties_cell m c 0 0 Nat.one_pos]
  show ∑ d : Bool, _ = 2
  rw [Finset.sum_congr rfl fun d _ => amount_cell m c 0 0 d, Finset.sum_const, Finset.card_univ, Fintype.card_bool, smul_eq_mul]
  rfl

/-! ## The hops' semaphores and payloads -/

theorem duties_sk (h : ℕ) : dutiesOf (sk h).castSucc = {false} := by unfold sk; split <;> rfl
theorem duties_rk (h : ℕ) : dutiesOf (rk h).castSucc = {false} := by unfold rk; split <;> rfl
theorem amount_sk (h : ℕ) : amountOf (sk h).castSucc = NS := by unfold sk; split <;> rfl
theorem amount_rk (h : ℕ) : amountOf (rk h).castSucc = NS := by unfold rk; split <;> rfl
theorem lim_sk (h : ℕ) (hh : h < 31) : h / 2 < lim (sk h).castSucc := by
  unfold sk
  split
  · show h / 2 < 16; omega
  · show h / 2 < 15; omega
theorem lim_rk (h : ℕ) (hh : h < 31) : h / 2 < lim (rk h).castSucc := by
  unfold rk
  split
  · show h / 2 < 16; omega
  · show h / 2 < 15; omega
theorem sk_two (h : ℕ) : sk (h + 1 + 1) = sk h := by unfold sk; rw [show (h + 1 + 1) % 2 = h % 2 by omega]
theorem rk_two (h : ℕ) : rk (h + 1 + 1) = rk h := by unfold rk; rw [show (h + 1 + 1) % 2 = h % 2 by omega]

theorem pay_sk (c : Dev nD) (h : ℕ) : pay m c (sk h).castSucc (h / 2) = slotPts c (h % 2) fullShare.left (kv m (whose c h)) := by
  rcases Nat.mod_two_eq_zero_or_one h with e | e
  · have e' : 2 * (h / 2) = h := by omega
    have hs : sk h = 1 := if_pos e
    rw [hs, e]
    show slotPts c 0 fullShare.left (kv m (whose c (2 * (h / 2)))) = _
    rw [e']
  · have e' : 2 * (h / 2) + 1 = h := by omega
    have hs : sk h = 2 := if_neg (by omega)
    rw [hs, e]
    show slotPts c 1 fullShare.left (kv m (whose c (2 * (h / 2) + 1))) = _
    rw [e']

theorem pay_rk (c : Dev nD) (h : ℕ) : pay m c (rk h).castSucc (h / 2)
    = iprop(slotPts c ((h + 1) % 2) fullShare (kv m (whose c (h + 1))) ∗ reached ER (cell (pv c) 7) (h + 1)) := by
  rcases Nat.mod_two_eq_zero_or_one h with e | e
  · have e' : 2 * (h / 2) + 1 = h + 1 := by omega
    have hs : rk h = 4 := if_pos e
    have e1 : (h + 1) % 2 = 1 := by omega
    rw [hs, e1]
    show iprop(slotPts c 1 fullShare (kv m (whose c (2 * (h / 2) + 1))) ∗ reached ER (cell (pv c) 7) (2 * (h / 2) + 1)) = _
    rw [e']
  · have e' : 2 * (h / 2) + 2 = h + 1 := by omega
    have hs : rk h = 3 := if_neg (by omega)
    have e1 : (h + 1) % 2 = 0 := by omega
    rw [hs, e1]
    show iprop(slotPts c 0 fullShare (kv m (whose c (2 * (h / 2) + 2))) ∗ reached ER (cell (pv c) 7) (2 * (h / 2) + 2)) = _
    rw [e']

/-! ## What each device owes, and the order of the waits -/

/-- What hop `j` pays into the neighbours' semaphores. -/
def due (c : Dev nD) (j : ℕ) : CellTallies nD τ sig ℕ := tallyAt (cell (nx c) (rk j)) j NS + tallyAt (cell (pv c) 7) j 1
/-- What is owed from hop `h` on. -/
def owedFrom (c : Dev nD) (h : ℕ) : CellTallies nD τ sig ℕ := ∑ j ∈ Finset.Ico h 31, due c j
def O₁ (c : Dev nD) : CellTallies nD τ sig ℕ := owedFrom c 0 + tallyAt (cell (nx c) 0) 0 1
def O₀ (c : Dev nD) : CellTallies nD τ sig ℕ := O₁ c + tallyAt (cell (pv c) 0) 0 1

theorem owedFrom_succ (c : Dev nD) (h : ℕ) (hh : h < 31) :
    owedFrom c h = (owedFrom c (h + 1) + tallyAt (cell (nx c) (rk h)) h NS) + tallyAt (cell (pv c) 7) h 1 := by
  unfold owedFrom
  rw [Finset.sum_eq_sum_Ico_succ_bot hh, add_comm, add_assoc]
  rfl

def L (g : GSem nD τ sig) : Finset ℕ := if g.1.2 = .tc then Finset.range 31 else ∅
def lev : Fin 9 → ℕ → ℕ
  | 0, _ => 1
  | 7, i => 2 * i + 2
  | 3, i | 4, i => 2 * i + 3
  | _, _ => 0
def lv (g : GSem nD τ sig) (i : ℕ) : ℕ := lev (code g.2) i

theorem L_of_ne (g : GSem nD τ sig) (h : g.1.2 ≠ .tc) : L g = ∅ := if_neg h
theorem L_tc (c : Dev nD) (sm : SemLoc sig) : L ((c : Thread nD τ), sm) = Finset.range 31 := if_pos rfl
theorem lv_cell (c : Dev nD) (k : Fin 8) (i : ℕ) : lv (cell c k) i = lev k.castSucc i := by unfold lv; rw [code_csem]
theorem lev_rk (h i : ℕ) : lev (rk h).castSucc i = 2 * i + 3 := by unfold rk; split <;> rfl
theorem lev_sk (h i : ℕ) : lev (sk h).castSucc i = 0 := by unfold sk; split <;> rfl

/-- What is owed on a cell: where it is, under which index, and how high. -/
structure Above (b : ℕ) (g : GSem nD τ sig) (i : ℕ) : Prop where
  mem : i ∈ L g
  high : b < lv g i

theorem above_rcv (c : Dev nD) (j b : ℕ) (hj : j < 31) (hb : b < 2 * j + 3) : Above b (cell c (rk j)) j :=
  ⟨by rw [L_tc]; exact Finset.mem_range.mpr hj, by rw [lv_cell, lev_rk]; exact hb⟩
theorem above_free (c : Dev nD) (j b : ℕ) (hj : j < 31) (hb : b < 2 * j + 2) : Above b (cell c 7) j :=
  ⟨by rw [L_tc]; exact Finset.mem_range.mpr hj, by rw [lv_cell]; exact hb⟩
theorem above_bar (c : Dev nD) (b : ℕ) (hb : b < 1) : Above b (cell c 0) 0 :=
  ⟨by rw [L_tc]; exact Finset.mem_range.mpr (by omega), by rw [lv_cell]; exact hb⟩

theorem above_tally {b : ℕ} {g₀ : GSem nD τ sig} {j k : ℕ} (h : Above b g₀ j) {g : GSem nD τ sig} {i : ℕ}
    (hp : 0 < (tallyAt g₀ j k : CellTallies nD τ sig ℕ) g i) : Above b g i := by
  obtain ⟨rfl, rfl⟩ := Pipeline.tallyAt_pos hp
  exact h
theorem above_add {b : ℕ} {O D : CellTallies nD τ sig ℕ} (hO : ∀ g i, 0 < O g i → Above b g i) (hD : ∀ g i, 0 < D g i → Above b g i)
    (g : GSem nD τ sig) (i : ℕ) (hp : 0 < (O + D) g i) : Above b g i := by
  rw [Pi.add_apply, Finsupp.add_apply] at hp
  rcases Nat.eq_zero_or_pos (O g i) with h | h
  · exact hD g i (by omega)
  · exact hO g i h

theorem above_owed (c : Dev nD) (h b : ℕ) (hb : b < 2 * h + 2) : ∀ g i, 0 < owedFrom c h g i → Above b g i := by
  by_cases hh : h < 31
  · rw [owedFrom_succ c h hh]
    exact above_add (above_add (above_owed c (h + 1) b (by omega))
        fun g i hp => above_tally (above_rcv (nx c) h b hh (by omega)) hp)
      fun g i hp => above_tally (above_free (pv c) h b hh hb) hp
  · intro g i hp
    unfold owedFrom at hp
    rw [Finset.Ico_eq_empty (by omega), Finset.sum_empty] at hp
    exact absurd hp (Nat.lt_irrefl 0)
  termination_by 31 - h

/-- A wait below everything owed. -/
theorem mayWait (c : Dev nD) (g : SemLoc sig) (i b : ℕ) (hi : i < 31) (hg : lev (code g) i ≤ b) (O : CellTallies nD τ sig ℕ)
    (hO : ∀ g i, 0 < O g i → Above b g i) : (levAts L lv : sProp 𝕄) ⊢ MayWait (c : Thread nD τ) g i O :=
  MayOwe.of_cut (L := L) (lev := lv) b (fun p hp => by rw [Finset.mem_singleton.mp hp, L_tc]; exact Finset.mem_range.mpr hi)
    (fun g u hg => (hO g u hg).mem) (fun p hp => by rw [Finset.mem_singleton.mp hp]; exact hg)
    (fun g u hg => (hO g u hg).high)

theorem above_O₀ (c : Dev nD) : ∀ g i, 0 < O₀ c g i → Above 0 g i := by
  unfold O₀ O₁
  exact above_add (above_add (above_owed c 0 0 (by omega)) fun g i hp => above_tally (above_bar (nx c) 0 Nat.one_pos) hp)
    fun g i hp => above_tally (above_bar (pv c) 0 Nat.one_pos) hp

/-- A wait on a semaphore of level 0, whatever is owed of `O₀`. -/
theorem mayWait_low (c : Dev nD) (g : SemLoc sig) (hg : lev (code g) 0 = 0) (O : CellTallies nD τ sig ℕ) (hO : O = O₀ c ∨ O = 0) :
    (levAts L lv : sProp 𝕄) ⊢ MayWait (c : Thread nD τ) g 0 O := by
  refine mayWait c g 0 0 (by omega) hg.le O ?_
  rcases hO with rfl | rfl
  · exact above_O₀ c
  · exact fun g i hp => absurd hp (Nat.lt_irrefl 0)

end Cert.RingIdeal.Ring

end
-- ==== Proof.Many.Hops.lean ====
/-
# The hops

At every hop but the last a device tells its left neighbour that one of its slots is free, waits for its right neighbour's
same word, copies the slot it holds there, folds that slot in meanwhile, and waits for the copy out and for the copy in. At
the last hop it only folds in.
-/
module

public import proofs.«01_k».proof.Proof.Many.Sched
public import Idealize.SL.BI.BigOpNat

@[expose] public section

noncomputable section

namespace Cert.RingIdeal.Ring

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## The value -/

/-- The three buffers before the first hop, and after `n` hops. -/
def init : St F := ⟨k0_pay11 (F := F), k0_pay1 (k0_pay12 (F := F)), k0_pay2 (F := F)⟩
def hops (c : Dev nD) : ℕ → St F
  | 0 => init
  | n + 1 => hop (blkVec (kIn m (whose c n))) (blkVec (vIn m (whose c n))) (qIn m ρ c) (hops c n)
def result (c : Dev nD) : (cc0_stg1_0 : Ref sig .tc).ty.Contents (Elt F) := k0_pay10 (hops m ρ c 32).o (hops m ρ c 32).l

/-! ## What a device starts from and ends with -/

abbrev at8 (x : Dev nD × Fin 8) : GSem nD τ sig := cell x.1 x.2

variable (K : Dev nD × Fin 8 → ℕ)

/-- The invariants of all cells, and that round 0 of each is reached. -/
def records : sProp 𝕄 :=
  iprop((bigSep Finset.univ fun x : Dev nD × Fin 8 => cellInv ER (Rd m) (K x) (at8 x))
    ∗ bigSep Finset.univ fun x : Dev nD × Fin 8 => reached ER (at8 x) 0)

instance records_pers : BI.Persistent (records (F := F) m K) := by unfold records; infer_instance

theorem inv_at (c : Dev nD) (k : Fin 8) : (records m K : sProp 𝕄) ⊢ cellInv ER (Rd m) (K (c, k)) (cell c k) := by
  have h : (bigSep Finset.univ fun x : Dev nD × Fin 8 => (cellInv ER (Rd m) (K x) (at8 x) : sProp 𝕄)) ⊢ cellInv ER (Rd m) (K (c, k)) (cell c k) :=
    bigSep_elim (Finset.mem_univ (c, k))
  unfold records
  iintro ⟨#HI, -⟩
  iapply h
  iexact HI
theorem reached_at (c : Dev nD) (k : Fin 8) : (records m K : sProp 𝕄) ⊢ reached ER (cell c k) 0 := by
  have h : (bigSep Finset.univ fun x : Dev nD × Fin 8 => (reached ER (at8 x) 0 : sProp 𝕄)) ⊢ reached ER (cell c k) 0 :=
    bigSep_elim (Finset.mem_univ (c, k))
  unfold records
  iintro ⟨-, #HR⟩
  iapply h
  iexact HR

/-- The duties device `c` pays before the hops. -/
def payToks (c : Dev nD) : sProp 𝕄 :=
  iprop(dutyTok ER (cell (pv c) 0) 0 false ∗ dutyTok ER (cell (nx c) 0) 0 true
    ∗ dutyTok ER (cell c 5) 0 false ∗ dutyTok ER (cell c 6) 0 false)
/-- And in hop `j`. -/
def hopToks (c : Dev nD) (j : ℕ) : sProp 𝕄 :=
  iprop(dutyTok ER (cell (pv c) 7) j false ∗ dutyTok ER (cell (nx c) (rk j)) (j / 2) false ∗ dutyTok ER (cell c (sk j)) (j / 2) false)
/-- The credit of hop `j`'s waits. -/
def hopCreds (c : Dev nD) (j : ℕ) : sProp 𝕄 := iprop(cred (tallyAt (cell c 7) j 1) ∗ cred (tallyAt (cell c (rk j)) j NS))

/-- What hop `j` spends: the credit of its two waits, the tokens of the three duties it pays. -/
def kit (c : Dev nD) (j : ℕ) : sProp 𝕄 := iprop(hopCreds c j ∗ hopToks c j)

/-- Its positions, all at round 0. -/
def poss (c : Dev nD) : sProp 𝕄 :=
  iprop(atPos ER (cell c 0) 0 ∅ 0 ∗ atPos ER (cell c 1) 0 ∅ 0 ∗ atPos ER (cell c 2) 0 ∅ 0 ∗ atPos ER (cell c 3) 0 ∅ 0
    ∗ atPos ER (cell c 4) 0 ∅ 0 ∗ atPos ER (cell c 5) 0 ∅ 0 ∗ atPos ER (cell c 6) 0 ∅ 0 ∗ atPos ER (cell c 7) 0 ∅ 0)

def ghost (c : Dev nD) : sProp 𝕄 := iprop(records m K ∗ poss c ∗ payToks c ∗ bigSep (Finset.Ico 0 31) (hopToks c))

/-- What device `c`'s body starts from, its scratch buffers aside. -/
def start (c : Dev nD) : sProp 𝕄 :=
  iprop((∃ K, ghost m K c) ∗ cred (tallyAt (cell c 0) 0 2) ∗ bigSep (Finset.Ico 0 31) (hopCreds c) ∗ levAts L lv ∗ kPts m c ∗ vPts m c)

/-- Its scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Its eight counters at zero. -/
def zeros (c : Dev nD) : sProp 𝕄 :=
  iprop(semVal (cell c 0) 0 ∗ semVal (cell c 1) 0 ∗ semVal (cell c 2) 0 ∗ semVal (cell c 3) 0 ∗ semVal (cell c 4) 0 ∗ semVal (cell c 5) 0
    ∗ semVal (cell c 6) 0 ∗ semVal (cell c 7) 0)

def Φ₀ (c : Dev nD) : sProp 𝕄 := iprop(start m c ∗ scratch c)
def Φ₁ (c : Dev nD) : sProp 𝕄 := iprop(scratch c ∗ zeros c ∗ kPts m c ∗ vPts m c)

def dats (_ : Fin 1) (c : Dev nD) : Dat τ (Elt F) ℕ ℕ UU ℕ cfg0 c where
  A w := (mem₀ m ρ).mem ((cfg0.win w).arr.view.loc (c : Thread nD τ))
  after w _ := match w with
    | ⟨0, _⟩ => qIn m ρ c
    | ⟨1, _⟩ => result m ρ c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev pt : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The copies -/

theorem el_congr (a : DmaSems sig S2) {off off' : Fin 1 → ℕ} {h h'} (e : off = off') : el a off h = el a off' h' := by subst e; rfl

theorem sem_snd (t : ℕ) (off : Fin 1 → ℕ) (hb) (ho : off = ![t % 2]) : csem (sk t) = .dma (el cc0_scratch3 off hb) := by
  rcases Nat.mod_two_eq_zero_or_one t with e | e
  · rw [show sk t = 1 from if_pos e]
    exact congrArg SemLoc.dma (el_congr cc0_scratch3 (by rw [ho, e]))
  · rw [show sk t = 2 from if_neg (by omega)]
    exact congrArg SemLoc.dma (el_congr cc0_scratch3 (by rw [ho, e]))
theorem sem_rcv (t : ℕ) (off : Fin 1 → ℕ) (hb) (ho : off = ![1 - t % 2]) : csem (rk t) = .dma (el cc0_scratch4 off hb) := by
  rcases Nat.mod_two_eq_zero_or_one t with e | e
  · rw [show rk t = 4 from if_pos e]
    exact congrArg SemLoc.dma (el_congr cc0_scratch4 (by rw [ho, e]))
  · rw [show rk t = 3 from if_neg (by omega)]
    exact congrArg SemLoc.dma (el_congr cc0_scratch4 (by rw [ho, e]))

/-- Hop `t`'s copy of the slot held into the right neighbour's other slot. -/
theorem wp_send (c n : Dev nD) (hn : n = nx c) (t : ℕ) (ht : t < 31) (sS sR : DmaSem sig) (hS : csem (sk t) = .dma sS) (hR : csem (rk t) = .dma sR)
    (off off' h h') (ho : off = ![t % 2, 0, 0, 0]) (ho' : off' = ![1 - t % 2, 0, 0, 0])
    {hsc : (slotM off' h' : Memref sig (Dev.tc n : Thread nD τ).2.kind .vmem S2x4096x512 .bf16).view.ref.isScScratch = false}
    {hsrc : (slotM off h).view.WordExact} {hdst : (slotM off' h').view.WordExact}
    {hsem : DmaTarget.Typed .vmem (.dma sR) (.remote (Dev.tc n : Thread nD τ) (slotM off' h') (.dma sS) hsc)}
    {α : Type} {Q : α → sProp 𝕄} {k : PUnit → Prog (TpuEff nD τ sig (Elt F) Λ₀ .tc) α}
    (fn : (cc0_scratch0 : Ref sig .tc).ty.Contents (Elt F)) (O : CellTallies nD τ sig ℕ) (W : Waits sig ℕ) :
    iprop(cellInv ER (Rd m) (K (c, sk t)) (cell c (sk t)) ∗ cellInv ER (Rd m) (K (nx c, rk t)) (cell (nx c) (rk t))
        ∗ slotPts c (t % 2) fullShare.left (kv m (whose c t)) ∗ (slotPts (nx c) ((t + 1) % 2) fullShare fn ∗ reached ER (cell c 7) (t + 1))
        ∗ owes (c : Thread nD τ) (O + tallyAt (cell (nx c) (rk t)) t NS) W
        ∗ dutyTok ER (cell c (sk t)) (t / 2) false ∗ reached ER (cell c (sk t)) (t / 2)
        ∗ dutyTok ER (cell (nx c) (rk t)) (t / 2) false ∗ reached ER (cell (nx c) (rk t)) (t / 2))
      ⊢ iprop(((cred (tallyAt (cell c (sk t)) 0 NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off h) (.remote (Dev.tc n : Thread nD τ) (slotM off' h') (.dma sS) hsc) (.dma sR) hsrc hdst hsem) k) Q) := by
  subst hn
  have ho2 : off' = ![(t + 1) % 2, 0, 0, 0] := by rw [ho', show 1 - t % 2 = (t + 1) % 2 by omega]
  have e1 := slotM_set off h (t % 2) ho
  have e2 := slotM_set off' h' ((t + 1) % 2) ho2
  have hc := copy_slot (kIn m (whose c t)) (vIn m (whose c t)) off off' h h' (t % 2) ((t + 1) % 2) ho ho2 fn
  have d1 := duties_cell (F := F) m c (sk t) (t / 2) (lim_sk t ht)
  have d2 := duties_cell (F := F) m (nx c) (rk t) (t / 2) (lim_rk t ht)
  have a1 := (amount_cell (F := F) m c (sk t) (t / 2) false).trans (amount_sk t)
  have a2 := (amount_cell (F := F) m (nx c) (rk t) (t / 2) false).trans (amount_rk t)
  have p1 := (payload_cell (F := F) m c (sk t) (t / 2) false).trans (pay_sk m c t)
  have p2 := (payload_cell (F := F) m (nx c) (rk t) (t / 2) false).trans (pay_rk m (nx c) t)
  rw [whose_nx, pv_nx] at p2
  rw [duties_sk] at d1
  rw [duties_rk] at d2
  unfold slotPts at p1 p2 ⊢
  unfold cell at d1 d2 a1 a2 p1 p2 ⊢
  rw [hS] at d1 a1 p1 ⊢
  rw [hR] at d2 a2 p2 ⊢
  rw [← e1] at p1 ⊢
  rw [← e2] at p2 ⊢
  exact Rounds.wp_send_pointsTo_with 𝒱₀ ER (Rd m) (c : Thread nD τ) none (κ₁ := K (c, sk t)) (κ₂ := K (nx c, rk t))
    (r₁ := t / 2) (r₂ := t / 2) (d₁ := false) (d₂ := false) (c' := (nx c : Thread nD τ)) (src := slotM off h)
    (dst := (slotM off' h' : Memref sig (nx c : Thread nD τ).2.kind .vmem S2x4096x512 .bf16)) (sS := .dma sS) (sem := .dma sR) (fd := fn)
    (fs := kv m (whose c t)) (q := fullShare.left) (F := reached ER ((c : Thread nD τ), csem 7) (t + 1))
    (by rw [d1]; exact Finset.mem_singleton_self _) (by rw [d2]; exact Finset.mem_singleton_self _)
    t 0 NS rfl a1 a2 O rfl (W := W)
    (by rw [p1])
    (by
      rw [p2]
      refine sep_mono_left (Entails.of_eq (pointsTo_congr ?_))
      rw [e2]
      exact hc)

/-- The copies of the device's own keys (`b = 0`) and values (`b = 1`) into slot 0. -/
theorem wp_own (c : Dev nD) (b : ℕ) (k8 : Fin 8) (hk : dutiesOf k8.castSucc = {false}) (hl : 0 < lim k8.castSucc) (ha : amountOf k8.castSucc = NB)
    (M : Memref sig .tc .hbm S4096x512 .bf16) (f : Buf (Elt F) (M.view.loc (c : Thread nD τ)))
    (hw : M.view.read (Elt F) f = if b = 0 then kIn m c else vIn m c) (sm : DmaSem sig) (hs : csem k8 = .dma sm)
    (off : Fin 4 → ℕ) (h : ∀ a, off a + S1x1x4096x512.size a ≤ S2x2x4096x512.size a) (ho : off = ![0, b, 0, 0])
    (hp : pay m c k8.castSucc 0 = iprop(blkPts c b (kv m c) ∗ (M.view.loc (c : Thread nD τ) ↦[M.view.set]{fullShare} f)))
    {hsrc : M.view.WordExact} {hdst : (blkM off h).view.WordExact} {hsem : DmaTarget.Typed (nD := nD) (τ := τ) (sig := sig) (p := (c : Thread nD τ).2) .hbm (.dma sm) (.here (blkM off h))}
    {α : Type} {Q : α → sProp 𝕄} {k : PUnit → Prog (TpuEff nD τ sig (Elt F) Λ₀ .tc) α}
    (fd : (cc0_scratch0 : Ref sig .tc).ty.Contents (Elt F)) :
    iprop(cellInv ER (Rd m) (K (c, k8)) (cell c k8) ∗ (M.view.loc (c : Thread nD τ) ↦[M.view.set]{fullShare} f) ∗ blkPts c b fd
        ∗ dutyTok ER (cell c k8) 0 false ∗ reached ER (cell c k8) 0)
      ⊢ iprop((cred (tallyAt (cell c k8) 0 NB) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.here (blkM off h)) (.dma sm) hsrc hdst hsem) k) Q) := by
  have e1 := blkM_set off h 0 b ho
  have hc := copy_blk (kIn m c) (vIn m c) off h 0 b ho fd _ hw
  have hd := duties_cell (F := F) m c k8 0 hl
  have hm := amount_cell (F := F) m c k8 0 false
  have hy := payload_cell (F := F) m c k8 0 false
  unfold blkPts at hp ⊢
  unfold cell at hd hm hy ⊢
  rw [hs] at hd hm hy ⊢
  rw [← e1]
  exact Rounds.wp_copy_pointsTo 𝒱₀ ER (Rd m) (c : Thread nD τ) none (κ := K (c, k8)) (src := M) (dst := blkM off h) (sem := .dma sm) (r := 0) (d := false) (fd := fd) (fs := f)
    (by rw [hd, hk]; exact Finset.mem_singleton_self _) 0 NB rfl (hm.trans ha)
    (by
      rw [hy, hp, e1]
      exact sep_mono_left (Entails.of_eq (pointsTo_congr hc)))

/-- The wait for the one duty of a cell's round, under index `i`. -/
theorem wp_one (c : Dev nD) (k8 : Fin 8) (hk : dutiesOf k8.castSucc = {false}) (r : ℕ) (hr : r < lim k8.castSucc) (i : ℕ) (sm : DmaSem sig) (hs : csem k8 = .dma sm)
    {sp sp' : Space} {s : Shape} {e : EltTy} {src : Memref sig .tc sp s e} {dst : Memref sig .tc sp' s e}
    {hsrc : src.view.WordExact} {hdst : dst.view.WordExact} (hN : dst.view.dmaCredit = amountOf k8.castSucc)
    {α : Type} {Q : α → sProp 𝕄} {k : PUnit → Prog (TpuEff nD τ sig (Elt F) Λ₀ .tc) α}
    (O : CellTallies nD τ sig ℕ) (W : Waits sig ℕ) :
    iprop(cellInv ER (Rd m) (K (c, k8)) (cell c k8) ∗ cred (tallyAt (cell c k8) i (amountOf k8.castSucc)) ∗ owes (c : Thread nD τ) O W
        ∗ MayWait (c : Thread nD τ) (csem k8) i O ∗ atPos ER (cell c k8) r ∅ 0)
      ⊢ iprop(((owes (c : Thread nD τ) O (insert (csem k8, i) W) ∗ atPos ER (cell c k8) (r + 1) ∅ 0 ∗ reached ER (cell c k8) (r + 1) ∗ pay m c k8.castSucc r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  have hx := expect_one (F := F) m c k8 hk r hr
  have hy := rest_one (F := F) m c k8 hk r hr
  rw [← hN] at hx ⊢
  unfold cell at hx hy ⊢
  rw [hs] at hx hy ⊢
  iintro ⟨Hi, Hc, HO, Hm, Ha⟩ Hk
  iapply (Rounds.wp_wait_rest_token 𝒱₀ ER (Rd m) (c : Thread nD τ) none (κ := K (c, k8))
      (wpE_waitDma2_eq 𝒱₀ (c : Thread nD τ) none Set.univ) (Set.mem_univ _) i (O := O) (W := W) (R := r) (m := 0) (T := ∅)
      ((Nat.zero_add _).trans hx.symm)) $$ [Hi Hc HO Hm Ha]
  · isplitl [Hi]; · iexact Hi
    isplitl [Hc]; · iexact Hc
    isplitl [HO]; · iexact HO
    isplitl [Hm]; · iexact Hm
    iexact Ha
  iintro ⟨HO, Ha, Hr, Hp⟩
  ihave Hp := (Entails.of_eq hy) $$ Hp
  iapply Hk
  isplitl [HO]; · iexact HO
  isplitl [Ha]; · iexact Ha
  isplitl [Hr]; · iexact Hr
  iexact Hp

theorem mayWait_cell (c : Dev nD) (k : Fin 8) (i b : ℕ) (hi : i < 31) (hg : lev k.castSucc i ≤ b) (O : CellTallies nD τ sig ℕ)
    (hO : ∀ g i, 0 < O g i → Above b g i) : (levAts L lv : sProp 𝕄) ⊢ MayWait (c : Thread nD τ) (csem k) i O :=
  mayWait c (csem k) i b hi (by rw [code_csem]; exact hg) O hO

/-! ## A hop -/

/-- The ring's part of what holds before hop `h`. -/
def ring (c : Dev nD) (h : ℕ) : sProp 𝕄 :=
  iprop(records m K ∗ levAts L lv ∗ slotPts c (h % 2) fullShare (kv m (whose c h)) ∗ (∃ f, slotPts c ((h + 1) % 2) fullShare f)
    ∗ atPos ER (cell c (sk h)) (h / 2) ∅ 0 ∗ atPos ER (cell c (sk (h + 1))) ((h + 1) / 2) ∅ 0
    ∗ atPos ER (cell c (rk h)) (h / 2) ∅ 0 ∗ atPos ER (cell c (rk (h + 1))) ((h + 1) / 2) ∅ 0
    ∗ atPos ER (cell c 7) h ∅ 0
    ∗ reached ER (cell c (sk h)) (h / 2) ∗ reached ER (cell c (sk (h + 1))) ((h + 1) / 2)
    ∗ reached ER (cell c (rk h)) (h / 2) ∗ reached ER (cell c (rk (h + 1))) ((h + 1) / 2)
    ∗ reached ER (cell (pv c) 7) h
    ∗ bigSep (Finset.Ico h 31) (kit c) ∗ ∃ W, owes (c : Thread nD τ) (owedFrom c h) W)

/-- What holds before hop `n`. -/
def inHop (c : Dev nD) (n : ℕ) : sProp 𝕄 :=
  iprop(ring m K c (min n 31) ∗ qPts (qIn m ρ c) c ∗ stPts c (hops m ρ c n))

/-- The outer loop's body as the kernel calls it. -/
abbrev t1Body (c : Dev nD) : Fin k0_t1_loop.trips → Unit → Prog (TpuEff nD τ sig (Elt F) Λ₀ .tc) Unit :=
  k0_t1_body (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c

theorem cond1_mid : ∀ t : Fin k0_t1_loop.trips, t.val < 31 → k0_cond1 t = 1#1 := by decide +kernel
theorem cond2_mid : ∀ t : Fin k0_t1_loop.trips, t.val < 31 → k0_cond2 t = 1#1 := by decide +kernel
theorem cond1_last : ∀ t : Fin k0_t1_loop.trips, ¬ t.val < 31 → ¬ k0_cond1 t = 1#1 := by decide +kernel
theorem cond2_last : ∀ t : Fin k0_t1_loop.trips, ¬ t.val < 31 → ¬ k0_cond2 t = 1#1 := by decide +kernel

/-- The word that slot `(t + 1) % 2` is free, as it is paid into the left neighbour's cell. -/
theorem word_free (c : Dev nD) (t : ℕ) (f : (cc0_scratch0 : Ref sig .tc).ty.Contents (Elt F)) :
    iprop(slotPts c ((t + 1) % 2) fullShare f ∗ reached ER (cell c (rk t)) (t / 2)) ⊢ (pay m (pv c) (Fin.castSucc 7) t : sProp 𝕄) := by
  show _ ⊢ iprop((∃ f, slotPts (nx (pv c)) ((t + 1) % 2) fullShare f) ∗ reached ER (cell (nx (pv c)) (rk t)) (t / 2))
  rw [nx_pv]
  iintro ⟨H, HR⟩
  isplitl [H]
  · iexists f; iexact H
  iexact HR

set_option maxHeartbeats 1600000 in
theorem trip_mid (c : Dev nD) (t : Fin k0_t1_loop.trips) (ht : t.val < 31) :
    inHop m ρ K c t.val ⊢ wp frame (wpE (defs₀ (F := F)) 𝒱₀ (c : Thread nD τ) none) Set.univ (t1Body c t ()) (fun _ => inHop m ρ K c (t.val + 1)) := by
  unfold t1Body k0_t1_body
  rw [dif_pos (cond1_mid t ht), dif_pos (cond2_mid t ht)]
  simp only [semSignalWord, semWaitWord, Prog.lift, Prog.bind_op, Prog.bind_ret, Prog.pure_eq_ret]
  unfold inHop
  rw [show min t.val 31 = t.val by omega, show min (t.val + 1) 31 = t.val + 1 by omega]
  unfold ring
  rw [owedFrom_succ c t.val ht, bigSep_Ico_succ_bot ht, sk_two, rk_two, show (t.val + 1 + 1) % 2 = t.val % 2 by omega,
    show (t.val + 1 + 1) / 2 = t.val / 2 + 1 by omega]
  unfold kit hopCreds hopToks
  simp only [dev3_pv c t (cond1_mid t ht)]
  iintro ⟨⟨#HI, #Hlev, Hs, ⟨%fo, Hfree⟩, Has, Has', Har, Har', Haf, #Rs, #Rs', #Rr, #Rr', #Rf, ⟨⟨⟨Hcf, Hcr⟩, Htf, Htr, Hts⟩, Hkits⟩, ⟨%W, HO⟩⟩, Hq, Hst⟩
  -- the word to the left
  iapply (Rounds.wp_signal 𝒱₀ ER (Rd m) (c : Thread nD τ) none (dst := (pv c : Thread nD τ)) (κ := K (pv c, 7)) (r := t.val)
      (d := false) (by rw [duties_cell m (pv c) 7 t.val ht]; exact Finset.mem_singleton_self _) ((amount_cell m (pv c) 7 t.val false).trans (by decide)) t.val
      (owedFrom c (t.val + 1) + tallyAt (cell (nx c) (rk t.val)) t.val NS) rfl)
    $$ [HO Htf Hfree]
  · isplitr; · iapply (inv_at m K (pv c) 7); iexact HI
    isplitl [HO]; · iexact HO
    isplitl [Htf]; · iexact Htf
    isplitl [Hfree]
    · rw [payload_cell m (pv c) 7 t.val false]
      iapply (word_free m c t.val fo)
      isplitl [Hfree]; · iexact Hfree
      iexact Rr
    · iexact Rf
  iintro HO
  -- the word from the right
  iapply (Rounds.wp_wait_rest_token 𝒱₀ ER (Rd m) (c : Thread nD τ) none (κ := K (c, 7))
      (wpE_semWait_eq 𝒱₀ (c : Thread nD τ) none Set.univ) (Set.mem_univ _) t.val
      (O := owedFrom c (t.val + 1) + tallyAt (cell (nx c) (rk t.val)) t.val NS) (W := W) (R := t.val) (m := 0) (T := ∅)
      (by rw [expect_one m c 7 rfl t.val ht]; decide)) $$ [Hcf HO Haf]
  · isplitr; · iapply (inv_at m K c 7); iexact HI
    isplitl [Hcf]; · iexact Hcf
    isplitl [HO]; · iexact HO
    isplitr
    · iapply (mayWait_cell c 7 t.val (2 * t.val + 2) ht le_rfl _
        (above_add (above_owed c (t.val + 1) _ (by omega)) fun g i hp => above_tally (above_rcv (nx c) t.val _ ht (by omega)) hp))
      iexact Hlev
    iexact Haf
  iintro ⟨HO, Haf, #Rf', Hp⟩
  ihave Hp := (Entails.of_eq (rest_one m c 7 rfl t.val ht)) $$ Hp
  ihave Hp := (Entails.of_eq (show pay m c (Fin.castSucc 7) t.val
    = iprop((∃ f, slotPts (nx c) ((t.val + 1) % 2) fullShare f) ∗ reached ER (cell (nx c) (rk t.val)) (t.val / 2)) from rfl)) $$ Hp
  icases Hp with ⟨⟨%fn, Hn⟩, #Rn⟩
  -- the copy out
  ihave Hs := (Entails.of_eq (show slotPts c (t.val % 2) fullShare (kv m (whose c t.val))
    = (((c : Thread nD τ).loc cc0_scratch0) ↦[slotSet (t.val % 2)]{fullShare} kv m (whose c t.val) : sProp 𝕄) from rfl)) $$ Hs
  ihave Hs := (pointsTo_share (PosShare.mem_left_op_right fullShare)).1 $$ Hs
  icases Hs with ⟨HsL, HsR⟩
  iapply (wp_send m K c _ (dev4_nx c t (cond1_mid t ht)) t.val ht _ _ (sem_snd t.val _ _ (k0_off1_eq t)) (sem_rcv t.val _ _ (k0_off2_eq t)) _ _ _ _
      (k0_off4_eq t) (k0_off3_eq t) fn (owedFrom c (t.val + 1)) _) $$ [HsL Hn HO Hts Htr]
  · isplitr; · iapply (inv_at m K c (sk t.val)); iexact HI
    isplitr; · iapply (inv_at m K (nx c) (rk t.val)); iexact HI
    isplitl [HsL]; · unfold slotPts; iexact HsL
    isplitl [Hn]
    · isplitl [Hn]; · iexact Hn
      iexact Rf'
    isplitl [HO]; · iexact HO
    isplitl [Hts]; · iexact Hts
    isplitr; · iexact Rs
    isplitl [Htr]; · iexact Htr
    iexact Rn
  iintro ⟨Hcs, HO⟩
  -- the slot is folded in
  iapply (wp_load 𝒱₀ (c : Thread nD τ) none Set.univ (m := cM) (load_sub (k0_off5 t) (k0_off5_inb t) (t.val % 2) 0 (k0_off5_eq t))) $$ HsR
  iintro HsR
  iapply (wp_load 𝒱₀ (c : Thread nD τ) none Set.univ (m := cM) (load_sub (k0_off6 t) (k0_off6_inb t) (t.val % 2) 1 (k0_off6_eq t))) $$ HsR
  iintro HsR
  rw [show cM.view.readAt (Elt F) (Rect.unit (s := S2x2x4096x512) (k0_off5 t) S1x1x4096x512.size (k0_off5_inb t)).toLoadRect (kv m (whose c t.val)) = blkVec (kIn m (whose c t.val))
      from load_blk (kIn m (whose c t.val)) (vIn m (whose c t.val)) _ _ (t.val % 2) 0 (k0_off5_eq t),
    show cM.view.readAt (Elt F) (Rect.unit (s := S2x2x4096x512) (k0_off6 t) S1x1x4096x512.size (k0_off6_inb t)).toLoadRect (kv m (whose c t.val)) = blkVec (vIn m (whose c t.val))
      from load_blk (kIn m (whose c t.val)) (vIn m (whose c t.val)) _ _ (t.val % 2) 1 (k0_off6_eq t)]
  iapply (wp_hop (blkVec (kIn m (whose c t.val))) (blkVec (vIn m (whose c t.val))) (qIn m ρ c) c (hops m ρ c t.val)) $$ [Hq Hst]
  · isplitl [Hq]; · iexact Hq
    iexact Hst
  iintro ⟨Hq, Hst⟩
  -- the copy out is done
  iapply (wp_one m K c (sk t.val) (duties_sk _) (t.val / 2) (lim_sk _ ht) 0 _ (sem_snd t.val _ _ (k0_off9_eq t)) (amount_sk _).symm (owedFrom c (t.val + 1)) _) $$ [Hcs HO Has]
  · isplitr; · iapply (inv_at m K c (sk t.val)); iexact HI
    isplitl [Hcs]; · rw [amount_sk]; iexact Hcs
    isplitl [HO]; · iexact HO
    isplitr
    · iapply (mayWait_cell c (sk t.val) 0 0 (by omega) (lev_sk _ _).le _ (above_owed c (t.val + 1) _ (by omega))); iexact Hlev
    iexact Has
  iintro ⟨HO, Has, #Rs1, HsL⟩
  ihave HsL := (Entails.of_eq (pay_sk m c t.val)) $$ HsL
  -- the copy in is done
  iapply (wp_one m K c (rk t.val) (duties_rk _) (t.val / 2) (lim_rk _ ht) t.val _ (sem_rcv t.val _ _ (k0_off12_eq t)) (amount_rk _).symm (owedFrom c (t.val + 1)) _) $$ [Hcr HO Har]
  · isplitr; · iapply (inv_at m K c (rk t.val)); iexact HI
    isplitl [Hcr]; · rw [amount_rk]; iexact Hcr
    isplitl [HO]; · iexact HO
    isplitr
    · iapply (mayWait_cell c (rk t.val) t.val (2 * t.val + 3) ht (lev_rk _ _).le _ (above_owed c (t.val + 1) _ (by omega))); iexact Hlev
    iexact Har
  iintro ⟨HO, Har, #Rr1, Hr⟩
  ihave Hr := (Entails.of_eq (pay_rk m c t.val)) $$ Hr
  icases Hr with ⟨Hr, #Rf1⟩
  rw [wp_ret]; imodintro
  isplitr [Hq Hst]
  · isplitr; · iexact HI
    isplitr; · iexact Hlev
    isplitl [Hr]; · iexact Hr
    isplitl [HsL HsR]
    · iexists (kv m (whose c t.val))
      unfold slotPts
      iapply (pointsTo_share (PosShare.mem_left_op_right fullShare)).2
      isplitl [HsL]; · iexact HsL
      iexact HsR
    isplitl [Has']; · iexact Has'
    isplitl [Has]; · iexact Has
    isplitl [Har']; · iexact Har'
    isplitl [Har]; · iexact Har
    isplitl [Haf]; · iexact Haf
    isplitr; · iexact Rs'
    isplitr; · iexact Rs1
    isplitr; · iexact Rr'
    isplitr; · iexact Rr1
    isplitr; · iexact Rf1
    isplitl [Hkits]; · iexact Hkits
    iexists _; iexact HO
  isplitl [Hq]; · iexact Hq
  iexact Hst

theorem trip_last (c : Dev nD) (t : Fin k0_t1_loop.trips) (ht : ¬ t.val < 31) :
    inHop m ρ K c t.val ⊢ wp frame (wpE (defs₀ (F := F)) 𝒱₀ (c : Thread nD τ) none) Set.univ (t1Body c t ()) (fun _ => inHop m ρ K c (t.val + 1)) := by
  have h31 : t.val = 31 := by have := t.isLt; have := k0_t1_abs.2.1; omega
  unfold t1Body k0_t1_body
  rw [dif_neg (cond1_last t ht), dif_neg (cond2_last t ht)]
  simp only [Prog.lift, Prog.bind_op, Prog.bind_ret, Prog.pure_eq_ret]
  unfold inHop
  rw [show min t.val 31 = t.val by omega, show min (t.val + 1) 31 = t.val by omega]
  unfold ring slotPts
  iintro ⟨⟨HI, Hlev, Hs, Hrest⟩, Hq, Hst⟩
  iapply (wp_load 𝒱₀ (c : Thread nD τ) none Set.univ (m := cM) (load_sub (k0_off5 t) (k0_off5_inb t) (t.val % 2) 0 (k0_off5_eq t))) $$ Hs
  iintro Hs
  iapply (wp_load 𝒱₀ (c : Thread nD τ) none Set.univ (m := cM) (load_sub (k0_off6 t) (k0_off6_inb t) (t.val % 2) 1 (k0_off6_eq t))) $$ Hs
  iintro Hs
  rw [show cM.view.readAt (Elt F) (Rect.unit (s := S2x2x4096x512) (k0_off5 t) S1x1x4096x512.size (k0_off5_inb t)).toLoadRect (kv m (whose c t.val)) = blkVec (kIn m (whose c t.val))
      from load_blk (kIn m (whose c t.val)) (vIn m (whose c t.val)) _ _ (t.val % 2) 0 (k0_off5_eq t),
    show cM.view.readAt (Elt F) (Rect.unit (s := S2x2x4096x512) (k0_off6 t) S1x1x4096x512.size (k0_off6_inb t)).toLoadRect (kv m (whose c t.val)) = blkVec (vIn m (whose c t.val))
      from load_blk (kIn m (whose c t.val)) (vIn m (whose c t.val)) _ _ (t.val % 2) 1 (k0_off6_eq t)]
  iapply (wp_hop (blkVec (kIn m (whose c t.val))) (blkVec (vIn m (whose c t.val))) (qIn m ρ c) c (hops m ρ c t.val)) $$ [Hq Hst]
  · isplitl [Hq]; · iexact Hq
    iexact Hst
  iintro ⟨Hq, Hst⟩
  rw [wp_ret]; imodintro
  isplitr [Hq Hst]
  · isplitl [HI]; · iexact HI
    isplitl [Hlev]; · iexact Hlev
    isplitl [Hs]; · iexact Hs
    iexact Hrest
  isplitl [Hq]; · iexact Hq
  iexact Hst

/-- The outer loop. -/
theorem wp_hops (c : Dev nD) {β : Type} {kk : Unit → Prog (TpuEff nD τ sig (Elt F) Λ₀ .tc) β} {Q : β → sProp 𝕄} :
    inHop m ρ K c 0
      ⊢ iprop((inHop m ρ K c 32 -∗ wp frame (wpE (defs₀ (F := F)) 𝒱₀ (c : Thread nD τ) none) Set.univ (kk ()) Q)
        -∗ wp frame (wpE (defs₀ (F := F)) 𝒱₀ (c : Thread nD τ) none) Set.univ
            (Scf.Loop.for k0_t1_loop k0_t1_ok () (t1Body c) >>= kk) Q) := by
  have h := Scf.wp_for_bind (β := β) (kk := kk) (Q := Q) frame (wpE (defs₀ (F := F)) 𝒱₀ (c : Thread nD τ) none) Set.univ
    k0_t1_loop.lb k0_t1_loop.ub k0_t1_loop.st k0_t1_ok () (t1Body c)
    (fun n _ => inHop m ρ K c n)
    (fun t u => by
      by_cases ht : t.val < 31
      · exact trip_mid m ρ K c t ht
      · exact trip_last m ρ K c t ht)
  rw [show Scf.trips k0_t1_loop.lb k0_t1_loop.ub k0_t1_loop.st = 32 by decide] at h
  iintro H Hk
  iapply h $$ H
  iintro %acc H
  iapply Hk; iexact H

end Cert.RingIdeal.Ring

end
-- ==== Proof.Many.Body.lean ====
/-
# The kernel's body, effect by effect

The two signals, the wait on the barrier, the two copies of the device's own keys and values into slot 0, the hops, the
division at the end.
-/
module

public import proofs.«01_k».proof.Proof.Many.Hops

@[expose] public section

noncomputable section

namespace Cert.RingIdeal.Ring

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (m : (ℓ : Loc nD τ sig) → Buf (Elt F) ℓ) (ρ : Dev nD → PrngReg)

variable (K : Dev nD × Fin 8 → ℕ)

def bodyPre (c : Dev nD) : sProp 𝕄 :=
  iprop((ghost m K c ∗ cred (tallyAt (cell c 0) 0 2) ∗ bigSep (Finset.Ico 0 31) (hopCreds c) ∗ levAts L lv ∗ kPts m c ∗ vPts m c) ∗ scratch c
    ∗ (dats m ρ 0 c).owesAt 0 pt.castSucc
    ∗ (∃ d, stg c cc0_stg0_0 ((dats m ρ 0 c).before (0 : Fin 2) pt d))
    ∗ (∃ d, stg c cc0_stg1_0 ((dats m ρ 0 c).before (1 : Fin 2) pt d)))

def bodyPost (c : Dev nD) : sProp 𝕄 :=
  iprop(Φ₁ m c ∗ (dats m ρ 0 c).owesAt 0 pt.succ ∗ stg c cc0_stg0_0 (qIn m ρ c) ∗ stg c cc0_stg1_0 (result m ρ c))

theorem off00 : (![0, 0] : Fin 2 → Nat) = fun _ => 0 := funext fun a => by fin_cases a <;> rfl

abbrev rO : Rect S4096x512 := Rect.unit (s := S4096x512) ![0, 0] S4096x512.size inb_S4096x512_S4096x512_0_0
abbrev rS : Rect S4096x1 := Rect.unit (s := S4096x1) ![0, 0] S4096x1.size inb_S4096x1_S4096x1_0_0
theorem st_o (f w : (cc0_stg1_0 : Ref sig .tc).ty.Contents (Elt F)) : (oM.access rO : View sig .tc _ _ _).write (Elt F) f w Finset.univ = w :=
  Memref.write_access_unit_zero_univ (Elt F) cc0_stg1_0 off00 _ f w
theorem st_m (f w : (cc0_scratch1 : Ref sig .tc).ty.Contents (Elt F)) : (mM.access rS : View sig .tc _ _ _).write (Elt F) f w Finset.univ = w :=
  Memref.write_access_unit_zero_univ (Elt F) cc0_scratch1 off00 _ f w
theorem st_l (f w : (cc0_scratch2 : Ref sig .tc).ty.Contents (Elt F)) : (lM.access rS : View sig .tc _ _ _).write (Elt F) f w Finset.univ = w :=
  Memref.write_access_unit_zero_univ (Elt F) cc0_scratch2 off00 _ f w
theorem ld_o (f : (cc0_stg1_0 : Ref sig .tc).ty.Contents (Elt F)) : oM.view.readAt (Elt F) rO.toLoadRect f = f :=
  Memref.readAt_unit_zero (Elt F) cc0_stg1_0 off00 _ f
theorem ld_l (f : (cc0_scratch2 : Ref sig .tc).ty.Contents (Elt F)) : lM.view.readAt (Elt F) rS.toLoadRect f = f :=
  Memref.readAt_unit_zero (Elt F) cc0_scratch2 off00 _ f

/-- The whole of the slots' buffer, taken apart into slot 0's two blocks and slot 1. -/
theorem comm_split (c : Dev nD) (f : (cc0_scratch0 : Ref sig .tc).ty.Contents (Elt F)) :
    (((c : Thread nD τ).loc cc0_scratch0) ↦{fullShare} f : sProp 𝕄) ⊢ iprop(blkPts c 0 f ∗ blkPts c 1 f ∗ slotPts c 1 fullShare f) := by
  unfold blkPts slotPts
  iintro H
  ihave H := (Entails.of_eq (show (((c : Thread nD τ).loc cc0_scratch0) ↦{fullShare} f : sProp 𝕄)
    = (((c : Thread nD τ).loc cc0_scratch0) ↦[slotSet 0 ∪ slotSet 1]{fullShare} f) by rw [slot_union])) $$ H
  ihave H := (pointsTo_union slot_disj).1 $$ H
  icases H with ⟨H0, H1⟩
  ihave H0 := (Entails.of_eq (show (((c : Thread nD τ).loc cc0_scratch0) ↦[slotSet 0]{fullShare} f : sProp 𝕄)
    = (((c : Thread nD τ).loc cc0_scratch0) ↦[blkSet 0 0 ∪ blkSet 0 1]{fullShare} f) by rw [blk_union])) $$ H0
  ihave H0 := (pointsTo_union (blk_disj 0)).1 $$ H0
  icases H0 with ⟨Ha, Hb⟩
  isplitl [Ha]; · iexact Ha
  isplitl [Hb]; · iexact Hb
  iexact H1
theorem slot_join (c : Dev nD) (f : (cc0_scratch0 : Ref sig .tc).ty.Contents (Elt F)) :
    iprop(blkPts c 0 f ∗ blkPts c 1 f) ⊢ (slotPts c 0 fullShare f : sProp 𝕄) := by
  unfold blkPts slotPts
  exact (pointsTo_union (blk_disj 0)).2.trans (Entails.of_eq (by rw [blk_union]))
theorem comm_join (c : Dev nD) (f g : (cc0_scratch0 : Ref sig .tc).ty.Contents (Elt F)) :
    iprop(slotPts c 0 fullShare f ∗ slotPts c 1 fullShare g)
      ⊢ (iprop(∃ f : Buf (Elt F) ((c : Thread nD τ).loc cc0_scratch0), ((c : Thread nD τ).loc cc0_scratch0) ↦{fullShare} f) : sProp 𝕄) := by
  unfold slotPts
  refine (pointsTo_join slot_disj).trans ?_
  rw [slot_union]
  iintro H
  iexists _
  iexact H

theorem before_q (c : Dev nD) (d) : (dats m ρ 0 c).before (0 : Fin 2) pt d = qIn m ρ c := by
  unfold Dat.before; rw [if_pos (fetch0_0 pt)]; rfl

/-- What the hops start from. -/
theorem ring_start (c : Dev nD) (fc : (cc0_scratch0 : Ref sig .tc).ty.Contents (Elt F)) :
    iprop(records m K ∗ levAts L lv ∗ slotPts c 0 fullShare (kv m c) ∗ slotPts c 1 fullShare fc
        ∗ atPos ER (cell c 1) 0 ∅ 0 ∗ atPos ER (cell c 2) 0 ∅ 0 ∗ atPos ER (cell c 3) 0 ∅ 0 ∗ atPos ER (cell c 4) 0 ∅ 0 ∗ atPos ER (cell c 7) 0 ∅ 0
        ∗ bigSep (Finset.Ico 0 31) (hopCreds c) ∗ bigSep (Finset.Ico 0 31) (hopToks c) ∗ ∃ W, owes (c : Thread nD τ) (owedFrom c 0) W)
      ⊢ ring m K c (min 0 31) := by
  rw [show min 0 31 = 0 from rfl]
  unfold ring
  rw [show sk 0 = 1 from rfl, show rk 0 = 4 from rfl, show sk (0 + 1) = 2 from rfl, show rk (0 + 1) = 3 from rfl]
  iintro ⟨#HI, #Hlev, Hs0, Hs1, Ha1, Ha2, Ha3, Ha4, Ha7, Hc, Ht, HO⟩
  isplitr; · iexact HI
  isplitr; · iexact Hlev
  isplitl [Hs0]; · iexact Hs0
  isplitl [Hs1]; · iexists fc; iexact Hs1
  isplitl [Ha1]; · iexact Ha1
  isplitl [Ha2]; · iexact Ha2
  isplitl [Ha4]; · iexact Ha4
  isplitl [Ha3]; · iexact Ha3
  isplitl [Ha7]; · iexact Ha7
  isplitr; · iapply (reached_at m K c 1); iexact HI
  isplitr; · iapply (reached_at m K c 2); iexact HI
  isplitr; · iapply (reached_at m K c 4); iexact HI
  isplitr; · iapply (reached_at m K c 3); iexact HI
  isplitr; · iapply (reached_at m K (pv c) 7); iexact HI
  isplitl [Hc Ht]
  · iapply (Entails.of_eq (bigSep_sep' (Finset.Ico 0 31) (hopCreds (F := F) c) (hopToks c)).symm)
    isplitl [Hc]; · iexact Hc
    iexact Ht
  iexact HO

/-- What they end with. -/
theorem ring_end (c : Dev nD) :
    ring m K c (min 32 31) ⊢ iprop((∃ f, slotPts c 0 fullShare f) ∗ (∃ f, slotPts c 1 fullShare f)
        ∗ atPos ER (cell c 1) 16 ∅ 0 ∗ atPos ER (cell c 2) 15 ∅ 0 ∗ atPos ER (cell c 3) 15 ∅ 0 ∗ atPos ER (cell c 4) 16 ∅ 0 ∗ atPos ER (cell c 7) 31 ∅ 0
        ∗ ∃ W, owes (c : Thread nD τ) 0 W) := by
  rw [show min 32 31 = 31 from rfl]
  unfold ring
  rw [show sk 31 = 2 from rfl, show rk 31 = 3 from rfl, show sk (31 + 1) = 1 from rfl, show rk (31 + 1) = 4 from rfl,
    show owedFrom c 31 = 0 from rfl]
  iintro ⟨-, -, Hs1, Hs0, Ha2, Ha1, Ha3, Ha4, Ha7, -, -, -, -, -, -, HO⟩
  isplitl [Hs0]; · iexact Hs0
  isplitl [Hs1]; · iexists _; iexact Hs1
  isplitl [Ha1]; · iexact Ha1
  isplitl [Ha2]; · iexact Ha2
  isplitl [Ha3]; · iexact Ha3
  isplitl [Ha4]; · iexact Ha4
  isplitl [Ha7]; · iexact Ha7
  iexact HO

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost poss payToks scratch
  iintro ⟨⟨⟨⟨#HI, ⟨Ha0, Ha1, Ha2, Ha3, Ha4, Ha5, Ha6, Ha7⟩, ⟨Htf, Htt, Ht5, Ht6⟩, Htoks⟩, Hc0, Hcreds, #Hlev, Hk, Hv⟩, ⟨⟨%fc, Hcomm⟩, ⟨%fm, Hm⟩, ⟨%fl, Hl⟩⟩,
    Ho, ⟨%d0, %g0, %hg0, Hq⟩, ⟨%d1, %g1, %hg1, Hout⟩⟩, Hkt⟩
  have hx : g0 = qIn m ρ c := hg0.trans (before_q m ρ c d0)
  subst hx
  unfold Dat.owesAt Pipeline.owesWithin
  icases Ho with ⟨%W, %hW, HO⟩
  rw [show (dats m ρ 0 c).owed pt.castSucc = O₀ c from rfl]
  simp only [dev1_pv c, dev2_nx c]
  ihave Hsp := (comm_split c fc) $$ Hcomm
  icases Hsp with ⟨Hb0, Hb1, Hs1⟩
  -- the signal to the left
  iapply (Rounds.wp_signal 𝒱₀ ER (Rd m) (c : Thread nD τ) none (dst := (pv c : Thread nD τ)) (κ := K (pv c, 0)) (r := 0)
      (d := false) (by rw [duties_cell m (pv c) 0 0 Nat.one_pos]; exact Finset.mem_univ _) ((amount_cell m (pv c) 0 0 false).trans (by decide)) 0 (O₁ c) rfl)
    $$ [HO Htf]
  · isplitr; · iapply (inv_at m K (pv c) 0); iexact HI
    isplitl [HO]; · iexact HO
    isplitl [Htf]; · iexact Htf
    isplitr; · rw [payload_cell m (pv c) 0 0 false]; iempintro
    iapply (reached_at m K (pv c) 0); iexact HI
  iintro HO
  -- the signal to the right
  unfold O₁
  iapply (Rounds.wp_signal 𝒱₀ ER (Rd m) (c : Thread nD τ) none (dst := (nx c : Thread nD τ)) (κ := K (nx c, 0)) (r := 0)
      (d := true) (by rw [duties_cell m (nx c) 0 0 Nat.one_pos]; exact Finset.mem_univ _) ((amount_cell m (nx c) 0 0 true).trans (by decide)) 0
      (owedFrom c 0) rfl)
    $$ [HO Htt]
  · isplitr; · iapply (inv_at m K (nx c) 0); iexact HI
    isplitl [HO]; · iexact HO
    isplitl [Htt]; · iexact Htt
    isplitr; · rw [payload_cell m (nx c) 0 0 true]; iempintro
    iapply (reached_at m K (nx c) 0); iexact HI
  iintro HO
  -- the wait on the barrier
  iapply (Rounds.wp_wait_rest_token 𝒱₀ ER (Rd m) (c : Thread nD τ) none (κ := K (c, 0))
      (wpE_semWait_eq 𝒱₀ (c : Thread nD τ) none Set.univ) (Set.mem_univ _) 0 (O := owedFrom c 0) (W := W) (R := 0) (m := 0) (T := ∅)
      (by rw [expect_bar m c]; decide)) $$ [Hc0 HO Ha0]
  · isplitr; · iapply (inv_at m K c 0); iexact HI
    isplitl [Hc0]; · iexact Hc0
    isplitl [HO]; · iexact HO
    isplitr; · iapply (mayWait_cell c 0 0 1 (by omega) le_rfl _ (above_owed c 0 1 (by omega))); iexact Hlev
    iexact Ha0
  iintro ⟨HO, Ha0, -, -⟩
  -- the device's own keys and values into slot 0
  unfold kPts vPts
  iapply (wp_own m K c 0 5 rfl Nat.one_pos rfl (Memref.whole main_arg1) (kIn m c) rfl _ rfl _ _ rfl (by rw [View.set_whole]; rfl) fc) $$ [Hk Hb0 Ht5]
  · isplitr; · iapply (inv_at m K c 5); iexact HI
    isplitl [Hk]; · rw [View.set_whole]; iexact Hk
    isplitl [Hb0]; · iexact Hb0
    isplitl [Ht5]; · iexact Ht5
    iapply (reached_at m K c 5); iexact HI
  iintro Hc5
  iapply (wp_own m K c 1 6 rfl Nat.one_pos rfl (Memref.whole main_arg2) (vIn m c) rfl _ rfl _ _ rfl (by rw [View.set_whole]; rfl) fc) $$ [Hv Hb1 Ht6]
  · isplitr; · iapply (inv_at m K c 6); iexact HI
    isplitl [Hv]; · rw [View.set_whole]; iexact Hv
    isplitl [Hb1]; · iexact Hb1
    isplitl [Ht6]; · iexact Ht6
    iapply (reached_at m K c 6); iexact HI
  iintro Hc6
  -- the three buffers at their first contents
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [st_o]
  iapply (wp_load 𝒱₀ (c : Thread nD τ) none Set.univ (m := mM) (Finset.subset_univ _)) $$ Hm; iintro Hm
  iapply (wp_store 𝒱₀ (c : Thread nD τ) none Set.univ (m := mM) (r := rS) (Mk := Finset.univ) (Finset.subset_univ _)) $$ Hm; iintro Hm
  rw [st_m]
  iapply (wp_load 𝒱₀ (c : Thread nD τ) none Set.univ (m := lM) (Finset.subset_univ _)) $$ Hl; iintro Hl
  iapply (wp_store 𝒱₀ (c : Thread nD τ) none Set.univ (m := lM) (r := rS) (Mk := Finset.univ) (Finset.subset_univ _)) $$ Hl; iintro Hl
  rw [st_l]
  -- slot 0 is filled
  iapply (wp_one m K c 5 rfl 0 Nat.one_pos 0 _ rfl rfl (owedFrom c 0) _) $$ [Hc5 HO Ha5]
  · isplitr; · iapply (inv_at m K c 5); iexact HI
    isplitl [Hc5]; · iexact Hc5
    isplitl [HO]; · iexact HO
    isplitr; · iapply (mayWait_cell c 5 0 0 (by omega) le_rfl _ (above_owed c 0 0 (by omega))); iexact Hlev
    iexact Ha5
  iintro ⟨HO, Ha5, -, Hp5⟩
  iapply (wp_one m K c 6 rfl 0 Nat.one_pos 0 _ rfl rfl (owedFrom c 0) _) $$ [Hc6 HO Ha6]
  · isplitr; · iapply (inv_at m K c 6); iexact HI
    isplitl [Hc6]; · iexact Hc6
    isplitl [HO]; · iexact HO
    isplitr; · iapply (mayWait_cell c 6 0 0 (by omega) le_rfl _ (above_owed c 0 0 (by omega))); iexact Hlev
    iexact Ha6
  iintro ⟨HO, Ha6, -, Hp6⟩
  ihave Hp5 := (Entails.of_eq (show pay m c (Fin.castSucc 5) 0 = iprop(blkPts c 0 (kv m c) ∗ kPts m c) from rfl)) $$ Hp5
  ihave Hp6 := (Entails.of_eq (show pay m c (Fin.castSucc 6) 0 = iprop(blkPts c 1 (kv m c) ∗ vPts m c) from rfl)) $$ Hp6
  icases Hp5 with ⟨Hb0, Hk⟩
  icases Hp6 with ⟨Hb1, Hv⟩
  ihave Hs0 := (slot_join c (kv m c)) $$ [Hb0 Hb1]
  · isplitl [Hb0] <;> iassumption
  -- the hops
  iapply (wp_hops m ρ K c) $$ [Hs0 Hs1 Ha1 Ha2 Ha3 Ha4 Ha7 Htoks Hcreds HO Hq Hout Hm Hl]
  · unfold inHop
    isplitr [Hq Hout Hm Hl]
    · iapply (ring_start m K c fc)
      isplitr; · iexact HI
      isplitr; · iexact Hlev
      isplitl [Hs0]; · iexact Hs0
      isplitl [Hs1]; · iexact Hs1
      isplitl [Ha1]; · iexact Ha1
      isplitl [Ha2]; · iexact Ha2
      isplitl [Ha3]; · iexact Ha3
      isplitl [Ha4]; · iexact Ha4
      isplitl [Ha7]; · iexact Ha7
      isplitl [Hcreds]; · iexact Hcreds
      isplitl [Htoks]; · iexact Htoks
      iexists _; iexact HO
    isplitl [Hq]; · unfold qPts; iexact Hq
    unfold stPts hops init
    isplitl [Hout]; · iexact Hout
    isplitl [Hm]; · iexact Hm
    iexact Hl
  unfold inHop
  iintro ⟨Hring, Hq, Hst⟩
  ihave Hring := (ring_end m K c) $$ Hring
  icases Hring with ⟨⟨%f0, Hs0⟩, ⟨%f1, Hs1⟩, Ha1, Ha2, Ha3, Ha4, Ha7, ⟨%W', HO⟩⟩
  unfold stPts qPts
  icases Hst with ⟨Hout, Hm, Hl⟩
  -- the division
  iapply (wp_load 𝒱₀ (c : Thread nD τ) none Set.univ (m := oM) (Finset.subset_univ _)) $$ Hout; iintro Hout
  iapply (wp_load 𝒱₀ (c : Thread nD τ) none Set.univ (m := lM) (Finset.subset_univ _)) $$ Hl; iintro Hl
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [st_o, ld_o, ld_l]
  -- the cells close
  imod (Rounds.cell_close ER (Rd m) (Set.mem_univ (K (c, 0))) (fun h => h) (R := 0 + 1) (duties_over m c 0 _ le_rfl)) $$ [Ha0] with Hz0
  · isplitr; · iapply (inv_at m K c 0); iexact HI
    iexact Ha0
  imod (Rounds.cell_close ER (Rd m) (Set.mem_univ (K (c, 1))) (fun h => h) (R := 16) (duties_over m c 1 _ le_rfl)) $$ [Ha1] with Hz1
  · isplitr; · iapply (inv_at m K c 1); iexact HI
    iexact Ha1
  imod (Rounds.cell_close ER (Rd m) (Set.mem_univ (K (c, 2))) (fun h => h) (R := 15) (duties_over m c 2 _ le_rfl)) $$ [Ha2] with Hz2
  · isplitr; · iapply (inv_at m K c 2); iexact HI
    iexact Ha2
  imod (Rounds.cell_close ER (Rd m) (Set.mem_univ (K (c, 3))) (fun h => h) (R := 15) (duties_over m c 3 _ le_rfl)) $$ [Ha3] with Hz3
  · isplitr; · iapply (inv_at m K c 3); iexact HI
    iexact Ha3
  imod (Rounds.cell_close ER (Rd m) (Set.mem_univ (K (c, 4))) (fun h => h) (R := 16) (duties_over m c 4 _ le_rfl)) $$ [Ha4] with Hz4
  · isplitr; · iapply (inv_at m K c 4); iexact HI
    iexact Ha4
  imod (Rounds.cell_close ER (Rd m) (Set.mem_univ (K (c, 5))) (fun h => h) (R := 0 + 1) (duties_over m c 5 _ le_rfl)) $$ [Ha5] with Hz5
  · isplitr; · iapply (inv_at m K c 5); iexact HI
    iexact Ha5
  imod (Rounds.cell_close ER (Rd m) (Set.mem_univ (K (c, 6))) (fun h => h) (R := 0 + 1) (duties_over m c 6 _ le_rfl)) $$ [Ha6] with Hz6
  · isplitr; · iapply (inv_at m K c 6); iexact HI
    iexact Ha6
  imod (Rounds.cell_close ER (Rd m) (Set.mem_univ (K (c, 7))) (fun h => h) (R := 31) (duties_over m c 7 _ le_rfl)) $$ [Ha7] with Hz7
  · isplitr; · iapply (inv_at m K c 7); iexact HI
    iexact Ha7
  rw [wp_ret]; imodintro
  iapply Hkt
  unfold bodyPost Φ₁ scratch zeros Dat.owesAt Pipeline.owesWithin
  rw [show (dats m ρ 0 c).owed pt.succ = 0 from rfl]
  isplitl [Hs0 Hs1 Hm Hl Hz0 Hz1 Hz2 Hz3 Hz4 Hz5 Hz6 Hz7 Hk Hv]
  · isplitl [Hs0 Hs1 Hm Hl]
    · isplitl [Hs0 Hs1]
      · iapply (comm_join c)
        isplitl [Hs0] <;> iassumption
      isplitl [Hm]
      · iexists _; iexact Hm
      iexists _; iexact Hl
    isplitl [Hz0 Hz1 Hz2 Hz3 Hz4 Hz5 Hz6 Hz7]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      iexact Hz7
    isplitl [Hk]; · iexact Hk
    iexact Hv
  isplitl [HO]
  · iexists W'
    isplitr; · ipureintro; exact fun _ _ => Or.inl trivial
    iexact HO
  isplitl [Hq]
  · iexists _; isplitr; · (ipureintro; rfl)
    iexact Hq
  iexists _; isplitr; · (ipureintro; rfl)
  iexact Hout

def bodyPre' (c : Dev nD) : sProp 𝕄 :=
  iprop(Φ₀ m c ∗ (dats m ρ 0 c).owesAt 0 pt.castSucc
    ∗ (∃ d, stg c cc0_stg0_0 ((dats m ρ 0 c).before (0 : Fin 2) pt d))
    ∗ (∃ d, stg c cc0_stg1_0 ((dats m ρ 0 c).before (1 : Fin 2) pt d)))

theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- The library's obligation of the body on device `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_stg]
  show bodyPre' m ρ c ⊢ wp frame (wpE (defs₀ (F := F)) 𝒱₀ c none) Set.univ
    (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6)
    (fun _ => bodyPost m ρ c)
  unfold bodyPre' Φ₀ start
  iintro ⟨⟨⟨⟨%K, Hg⟩, Hrest⟩, Hscr⟩, Ho, Hq, Hout⟩
  iapply (sound_body m ρ K c fun _ => bodyPost m ρ c)
  unfold bodyPre
  isplitr []
  · isplitl [Hg Hrest]
    · isplitl [Hg]; · iexact Hg
      iexact Hrest
    isplitl [Hscr]; · iexact Hscr
    isplitl [Ho]; · iexact Ho
    isplitl [Hq] <;> iassumption
  · iintro H; iexact H

end Cert.RingIdeal.Ring

end
-- ==== Proof.Many.Run.lean ====
/-
# The run

From any memory with every counter at zero, the 32 devices run to the end: the result array of each holds what its hops compute, the arguments are unchanged and every counter is at zero again.
-/
module

public import proofs.«01_k».proof.Proof.Many.Body
public import Idealize.ShloMosaic.Lib.Pipeline.CollectiveSegs

@[expose] public section

noncomputable section

namespace Cert.RingIdeal.Ring

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## Cells and tokens -/

theorem own_facts : Pipeline.OwnSemFacts cfg0.spec osem := by decide

theorem share_full (c : Dev nD) (w : Fin cfg0.W) : (dats m ρ 0 c).share w = fullShare := by unfold Dat.share; split <;> rfl

theorem csem_inj {k k' : Fin 8} (h : csem k = csem k') : k = k' := by
  have := congrArg code h
  rw [code_csem, code_csem] at this
  exact Fin.castSucc_injective _ this

theorem at8_inj : Function.Injective at8 := by
  rintro ⟨c, k⟩ ⟨c', k'⟩ h
  obtain rfl : c = c' := congrArg (fun g : GSem nD τ sig => g.1.1) h
  obtain rfl : k = k' := csem_inj (congrArg Prod.snd h)
  rfl
def allCells : Finset (GSem nD τ sig) := Finset.univ.map ⟨at8, at8_inj⟩

/-- The duties of a device's semaphores: the number of the semaphore, the round, and the duty's name. Four before the hops,
    three in each of the first 31 hops. -/
abbrev Duty : Type := Fin 4 ⊕ Fin 3 × Fin 31
def duty : Duty → Fin 8 × ℕ × Bool
  | .inl 0 => (0, 0, false) | .inl 1 => (0, 0, true) | .inl 2 => (5, 0, false) | .inl 3 => (6, 0, false)
  | .inr (0, j) => (7, j.val, false) | .inr (1, j) => (rk j.val, j.val / 2, false) | .inr (2, j) => (sk j.val, j.val / 2, false)
theorem duty_inj : Function.Injective duty := by decide +kernel
abbrev tokAt (x : Dev nD × Duty) : GSem nD τ sig × ℕ × Bool := (cell x.1 (duty x.2).1, (duty x.2).2.1, (duty x.2).2.2)
theorem tokAt_inj : Function.Injective tokAt := by
  rintro ⟨c, j⟩ ⟨c', j'⟩ h
  obtain rfl : c = c' := congrArg (fun g : GSem nD τ sig × ℕ × Bool => g.1.1.1) h
  have h1 : (duty j).1 = (duty j').1 := csem_inj (congrArg (fun g : GSem nD τ sig × ℕ × Bool => g.1.2) h)
  have h2 : (duty j).2 = (duty j').2 := congrArg (fun g : GSem nD τ sig × ℕ × Bool => g.2) h
  obtain rfl : j = j' := duty_inj (Prod.ext h1 h2)
  rfl
def allToks : Finset (GSem nD τ sig × ℕ × Bool) := Finset.univ.map ⟨tokAt, tokAt_inj⟩

def u₀ : UU :=
  (initOf (Pipeline.cells cfgs cellOf_inj) (Pipeline.launchToks cfgs cellOf_inj), initOf allCells allToks)

/-- The tokens of the duties of device `c`'s last, receiving and sending semaphores. -/
def freeToks (c : Dev nD) : sProp 𝕄 := bigSep (Finset.Ico 0 31) fun j => dutyTok ER (cell c 7) j false
def rcvToks (c : Dev nD) : sProp 𝕄 := bigSep (Finset.Ico 0 31) fun j => dutyTok ER (cell c (rk j)) (j / 2) false
def sndToks (c : Dev nD) : sProp 𝕄 := bigSep (Finset.Ico 0 31) fun j => dutyTok ER (cell c (sk j)) (j / 2) false

/-- The tokens of all of them. -/
def toks (c : Dev nD) : sProp 𝕄 :=
  iprop((dutyTok ER (cell c 0) 0 false ∗ dutyTok ER (cell c 0) 0 true ∗ dutyTok ER (cell c 5) 0 false ∗ dutyTok ER (cell c 6) 0 false)
    ∗ freeToks c ∗ rcvToks c ∗ sndToks c)

theorem hopToks_split (c : Dev nD) : bigSep (Finset.Ico 0 31) (hopToks (F := F) c) = iprop(freeToks (pv c) ∗ rcvToks (nx c) ∗ sndToks c) := by
  unfold freeToks rcvToks sndToks
  rw [← bigSep_sep', ← bigSep_sep']
  rfl

theorem sep_hops (Φ : ℕ → sProp 𝕄) : (bigSep Finset.univ fun j : Fin 31 => Φ j.val) = bigSep (Finset.Ico 0 31) Φ := by
  rw [show Finset.Ico 0 31 = (Finset.univ : Finset (Fin 31)).map Fin.valEmbedding by decide, bigSep_map]
  rfl

/-- What a device is dealt at launch, and what becomes of it once the invariants are in place. -/
def dealt (c : Dev nD) : sProp 𝕄 :=
  iprop((bigSep Finset.univ fun k : Fin 8 => roundState ER (Rd m) (at8 (c, k)) 0)
    ∗ (bigSep Finset.univ fun k : Fin 8 => iprop(atPos ER (at8 (c, k)) 0 ∅ 0 ∗ reached ER (at8 (c, k)) 0)) ∗ toks c)
def placed (c : Dev nD) : sProp 𝕄 := iprop(∃ K, ghost m K c)

theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep3 (Φ : Fin 3 → sProp 𝕄) : bigSep Finset.univ Φ = iprop(Φ 0 ∗ Φ 1 ∗ Φ 2) :=
  bigSep_univ_eq_bigSepL [0, 1, 2] (by decide) (by decide) Φ

theorem toks_eq (c : Dev nD) :
    (bigSep Finset.univ fun x : Duty => (dutyTok ER (tokAt (c, x)).1 (tokAt (c, x)).2.1 (tokAt (c, x)).2.2 : sProp 𝕄)) = toks c := by
  rw [bigSep_univ_sum, sep4, bigSep_univ_prod, sep3]
  unfold toks freeToks rcvToks sndToks
  rw [← sep_hops, ← sep_hops, ← sep_hops]
  rfl

theorem deal : BI.own (ER (initOf allCells allToks)) ⊢ (|==> bigSep Finset.univ (dealt (F := F) m) : sProp 𝕄) := by
  have hX (Φ : GSem nD τ sig → sProp 𝕄) : bigSep allCells Φ = bigSep Finset.univ fun c : Dev nD => bigSep Finset.univ fun k : Fin 8 => Φ (at8 (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The counters at launch, and the invariants -/

theorem own_seven (c : Dev nD) : (Pipeline.ownSems0 (Ix := ℕ) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0
        ∗ semVal (cell c 7) 0) := by
  rw [Pipeline.ownSems0_eq_of_list c osem [0, 1, 2, 3, 4, 5, 6] (by decide) (by decide)]; rfl
theorem unscoped_one (c : Dev nD) : (unscopedSems0 c : sProp 𝕄) = semVal (cell c 0) 0 := by
  unfold unscopedSems0; rw [bigSep_eq_bigSepL_of_eq [SemLoc.reg barS] (by decide) (by decide)]; rfl

theorem zeros_split (c : Dev nD) : (zeros c : sProp 𝕄)
    ⊢ iprop(unscopedSems0 c ∗ Pipeline.ownSems0 (Ix := ℕ) (Name := ℕ) (U := UU) (Lvl := ℕ) (Val := Elt F) (τ := τ) osem c) := by
  rw [own_seven, unscoped_one]; exact .rfl
theorem zeros_join (c : Dev nD) :
    iprop(Pipeline.ownSems0 (Ix := ℕ) (Name := ℕ) (U := UU) (Lvl := ℕ) (Val := Elt F) (τ := τ) osem c ∗ unscopedSems0 c)
      ⊢ (bigSep Finset.univ fun k : Fin 8 => semVal (at8 (c, k)) 0 : sProp 𝕄) := by
  rw [own_seven, unscoped_one, sep8]; exact sep_comm.1

theorem invs_alloc (c : Dev nD) :
    iprop((bigSep Finset.univ fun k : Fin 8 => semVal (at8 (c, k)) 0) ∗ bigSep Finset.univ fun k : Fin 8 => roundState ER (Rd m) (at8 (c, k)) 0)
      ⊢ (|={Set.univ}=> bigSep Finset.univ fun k => iprop(∃ κ : ℕ, cellInv ER (Rd m) κ (at8 (c, k))) : sProp 𝕄) := by
  rw [← bigSep_sep']
  exact (bigSep_mono fun k _ => (Rounds.body_intro ER (Rd m) (at8 (c, k))).trans inv_alloc).trans (bigSep_fupd _ _)

theorem place (c : Dev nD) :
    iprop(Pipeline.ownSems0 (Ix := ℕ) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (Rd m) κ (at8 (c, k))))
          ∗ (bigSep Finset.univ fun k => iprop(atPos ER (at8 (c, k)) 0 ∅ 0 ∗ reached ER (at8 (c, k)) 0)) ∗ toks c) := by
  unfold dealt
  iintro ⟨Hos, Hus, Hst, Hat, Htok⟩
  ihave Hv := (zeros_join (F := F) c) $$ [Hos Hus]
  · isplitl [Hos] <;> iassumption
  imod (invs_alloc m c) $$ [Hv Hst] with Hinv
  · isplitl [Hv] <;> iassumption
  imodintro
  isplitl [Hinv]; · iexact Hinv
  isplitl [Hat]; · iexact Hat
  iexact Htok

/-- What is a device's alone: its positions and the tokens of the duties it pays. -/
def alone (c : Dev nD) : sProp 𝕄 :=
  iprop((bigSep Finset.univ fun k : Fin 8 => atPos ER (at8 (c, k)) 0 ∅ 0) ∗ payToks c ∗ bigSep (Finset.Ico 0 31) (hopToks c))

theorem ghost_intro (K : Dev nD × Fin 8 → ℕ) (c : Dev nD) : iprop(records m K ∗ alone c) ⊢ placed (F := F) m c := by
  unfold alone placed ghost poss
  rw [sep8]
  iintro ⟨#HR, Hat, Htok⟩
  iexists K
  isplitr; · iexact HR
  isplitl [Hat]; · iexact Hat
  iexact Htok

/-- Every token goes to the device that pays its duty. -/
theorem toks_swap : (bigSep Finset.univ fun c : Dev nD => (toks c : sProp 𝕄))
    ⊢ bigSep Finset.univ fun c : Dev nD => iprop(payToks c ∗ bigSep (Finset.Ico 0 31) (hopToks c)) := by
  simp only [hopToks_split]
  unfold toks payToks
  rw [bigSep_sep', bigSep_sep', bigSep_sep', bigSep_sep', bigSep_sep', bigSep_sep']
  rw [bigSep_sep', bigSep_sep', bigSep_sep', bigSep_sep', bigSep_sep', bigSep_sep']
  rw [bigSep_univ_equiv turn.symm (fun c : Dev nD => (dutyTok ER (cell c 0) 0 false : sProp 𝕄)),
    bigSep_univ_equiv turn (fun c : Dev nD => (dutyTok ER (cell c 0) 0 true : sProp 𝕄)),
    bigSep_univ_equiv turn.symm (fun c : Dev nD => (freeToks c : sProp 𝕄)),
    bigSep_univ_equiv turn (fun c : Dev nD => (rcvToks c : sProp 𝕄))]
  exact .rfl

theorem with_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (at8 (c, k))))
          ∗ (bigSep Finset.univ fun k => iprop(atPos ER (at8 (c, k)) 0 ∅ 0 ∗ reached ER (at8 (c, k)) 0)) ∗ toks c) : sProp 𝕄)
      ⊢ bigSep Finset.univ (placed (F := F) m) := by
  rw [bigSep_sep', bigSep_sep', ← bigSep_univ_prod (fun x : Dev nD × Fin 8 => iprop(∃ κ : ℕ, cellInv ER (Rd m) κ (at8 x))),
    bigSep_congr (s := Finset.univ) (fun (c : Dev nD) _ => bigSep_sep' Finset.univ (fun k : Fin 8 => (atPos ER (at8 (c, k)) 0 ∅ 0 : sProp 𝕄)) (fun k => reached ER (at8 (c, k)) 0)),
    bigSep_sep', ← bigSep_univ_prod (fun x : Dev nD × Fin 8 => (reached ER (at8 x) 0 : sProp 𝕄))]
  iintro ⟨HI, ⟨Hat, #HR⟩, Htok⟩
  ihave HK := (BI.bigSep_exists_pi Finset.univ (fun (x : Dev nD × Fin 8) (κ : ℕ) => (cellInv ER (Rd m) κ (at8 x) : sProp 𝕄))) $$ HI
  icases HK with ⟨%K, #HI⟩
  ihave Htk := (toks_swap (F := F)) $$ Htok
  iapply (with_pers (R := records m K) fun c _ => ghost_intro m K c)
  isplitr
  · unfold records; isplitl; · iexact HI
    iexact HR
  · iapply ((Entails.of_eq (bigSep_sep' Finset.univ (fun c : Dev nD => bigSep Finset.univ fun k : Fin 8 => (atPos ER (at8 (c, k)) 0 ∅ 0 : sProp 𝕄))
        (fun c => iprop(payToks c ∗ bigSep (Finset.Ico 0 31) (hopToks c)))).symm).trans
      (bigSep_mono fun c _ => show _ ⊢ alone c from .rfl))
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ dealt m c) : sProp 𝕄)
    ⊢ |={Set.univ}=> bigSep Finset.univ (placed (F := F) m) :=
  ((bigSep_mono fun c _ => place m c).trans (bigSep_fupd _ _)).trans (BI.fupd_mono (regroup m))

/-! ## The credit at launch -/

theorem creds_bar (c : Dev nD) :
    iprop(cred (tallyAt (cell c 0) 0 1) ∗ cred (tallyAt (cell c 0) 0 1)) ⊢ (cred (tallyAt (cell c 0) 0 2) : sProp 𝕄) := by
  refine (cred_add _ _).2.trans (Entails.of_eq (congrArg cred ?_))
  exact tallyAt_add _ _ _ _

theorem creds_hop (c : Dev nD) (j : ℕ) : (Pipeline.launchCred (fun d => due d j) c : sProp 𝕄) ⊢ hopCreds c j := by
  unfold due hopCreds
  rw [Pipeline.launchCred_add]
  iintro ⟨Hr, Hf⟩
  isplitl [Hf]
  · iapply (Pipeline.launchCred_tallyAt (csem 7) pv nx pv_nx nx_pv j 1 c); iexact Hf
  · iapply (Pipeline.launchCred_tallyAt (csem (rk j)) nx pv nx_pv pv_nx j NS c); iexact Hr

theorem creds_hops (c : Dev nD) :
    (bigSep (Finset.Ico 0 31) fun j => (Pipeline.launchCred (fun d => due d j) c : sProp 𝕄)) ⊢ bigSep (Finset.Ico 0 31) (hopCreds c) :=
  bigSep_mono fun j _ => creds_hop c j

theorem creds (c : Dev nD) :
    (Pipeline.launchCred O₀ c : sProp 𝕄) ⊢ iprop(cred (tallyAt (cell c 0) 0 2) ∗ bigSep (Finset.Ico 0 31) (hopCreds c)) := by
  rw [show (O₀ : Dev nD → CellTallies nD τ sig ℕ)
      = fun d => ((∑ j ∈ Finset.Ico 0 31, due d j) + tallyAt (cell (nx d) 0) 0 1) + tallyAt (cell (pv d) 0) 0 1 from rfl,
    Pipeline.launchCred_add, Pipeline.launchCred_add, Pipeline.launchCred_sum]
  iintro ⟨⟨Hh, Hn⟩, Hp⟩
  isplitr [Hh]
  · iapply (creds_bar c)
    isplitl [Hn]
    · iapply (Pipeline.launchCred_tallyAt (csem 0) nx pv nx_pv pv_nx 0 1 c); iexact Hn
    · iapply (Pipeline.launchCred_tallyAt (csem 0) pv nx pv_nx nx_pv 0 1 c); iexact Hp
  · iapply (creds_hops c); iexact Hh

/-! ## Into the body and out of it -/

theorem rest_args (c : Dev nD) :
    (Pipeline.unscopedRestP (Ix := ℕ) (Name := ℕ) (U := UU) (Lvl := ℕ) Pipeline.Prefetch.none cfg0.spec c (fun b => m ((c : Thread nD τ).loc b)) : sProp 𝕄)
      = iprop(kPts m c ∗ vPts m c) := by
  rw [Pipeline.unscopedRestP_eq_of_list cfg0.spec c Pipeline.Prefetch.none _ [main_arg1, main_arg2] (by decide) (by decide)]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ placed m c)
      ⊢ |={Set.univ}=> iprop(start m c ∗ (emp : sProp 𝕄)) := by
  rw [rest_args]
  iintro ⟨⟨Hk, Hv⟩, Hlev, Hcr, -, HG⟩
  ihave Hc := (creds (F := F) c) $$ Hcr
  icases Hc with ⟨H1, HN⟩
  imodintro
  unfold start placed
  isplitl
  · isplitl [HG]; · iexact HG
    isplitl [H1]; · iexact H1
    isplitl [HN]; · iexact HN
    isplitl [Hlev]; · iexact Hlev
    isplitl [Hk]; · iexact Hk
    iexact Hv
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device ends with besides its scratch. -/
def ends (c : Dev nD) : sProp 𝕄 := iprop(unscopedSems0 c ∗ kPts m c ∗ vPts m c)

theorem phi_out (c : Dev nD) :
    (dats m ρ 0 c).Φ (Fin.last cfg0.N) ⊢ iprop(ends m c ∗ Pipeline.ownSems0 osem c ∗ Pipeline.scopedRest cfg0.spec c) := by
  rw [show (dats m ρ 0 c).Φ (Fin.last cfg0.N) = Φ₁ m c from rfl, scopedRest0_eq]
  unfold Φ₁ ends
  iintro ⟨Hr, Hz, Hk, Hv⟩
  ihave Hz' := (zeros_split (F := F) c) $$ Hz
  icases Hz' with ⟨Hu, Ho⟩
  isplitl [Hu Hk Hv]
  · isplitl [Hu]; · iexact Hu
    isplitl [Hk]; · iexact Hk
    iexact Hv
  isplitl [Ho]; · iexact Ho
  unfold scratch
  iexact Hr

theorem waits (c : Dev nD) : (levAts L lv : sProp 𝕄) ⊢ Pipeline.cellsWaits cfgs (dats m ρ) 0 0 c :=
  Pipeline.cellsWaits_intro cfgs (dats m ρ) 0 0 c fun w s t =>
    mayWait_low c _ (by fin_cases w <;> fin_cases s <;> decide) _ (by
      rcases t with ⟨_ | _, ht⟩
      · exact Or.inl rfl
      · exact Or.inr rfl)

/-- What the final memory says of a device: its unscoped counters at zero, keys and values unchanged. -/
def Kept (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_arg2) = m ((c : Thread nD τ).loc main_arg2)

theorem kept (c : Dev nD) (s' : Phys nD τ sig (Elt F)) :
    iprop(ends m c ∗ emp ∗ SI s') ⊢ (|={Set.univ}=> iprop(⌜Kept m c s'.mem⌝ ∗ SI s') : sProp 𝕄) := by
  unfold ends kPts vPts kIn vIn
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hk, Buf.eq_of_forall_mem_univ hv⟩
  · iexact HSI

/-! ## The run -/

def finalA (c : Dev nD) (w : Fin cfg0.W) : Buf (Elt F) ((cfg0.win w).arr.view.loc (c : Thread nD τ)) := (dats m ρ 0 c).arrAt w cfg0.N

def Ends (s : MemSt nD τ sig (Elt F)) : Prop :=
  ∀ c : Dev nD, (∀ w : Fin cfg0.W, s.mem ((cfg0.win w).arr.view.loc (c : Thread nD τ)) = finalA m ρ c w) ∧ Kept m c s

set_option maxRecDepth 8000 in
/-- Every weakly fair execution of the program ends, with the arrays as computed, keys and values unchanged and every
    counter at zero. -/
theorem run_main : θ_run (defs (F := F)) (onTc (τ := τ) (main (F := F))) (mem₀ m ρ) (fun r => Ends m ρ r.2 ∧ r.2.sem = fun _ => 0) :=
  Pipeline.θ_run_region_owing_glob_pf (fun p => (cfgs p).toPCfg) (fun p => (cfgs p).toPCfg_adm) (dats m ρ) 0 cellOf_inj (0 : Fin 1)
    winFacts0.to₀ own_facts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt m) (G' := placed m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := ends m) (Z := fun _ => iprop(emp))
    (hX := start_intro m ρ) (hin := phi_in m ρ) (hout := phi_out m ρ)
    (QY := fun c s => Kept m c s)
    (hY := kept m)
    (hQ := fun _ h hs => ⟨fun c => ⟨(h c).1, (h c).2.2⟩, sem_eq_zero hs fun c => (h c).2.2.1⟩)

/-- The queries' array after the run is as before. -/
theorem finalA_q (c : Dev nD) : finalA m ρ c (0 : Fin 2) = (mem₀ m ρ).mem (win0_0.arr.view.loc (c : Thread nD τ)) :=
  (dats (F := F) m ρ 0 c).arrAt_in (0 : Fin 2) rfl _

end Cert.RingIdeal.Ring

end
-- ==== Proof.Many.Kept.lean ====
/-
# The frame claims of the kernel
-/
module

public import proofs.«01_k».proof.Defs
public import proofs.«01_k».proof.Proof.Many.Run
public import proofs.«01_k».proof.Proof.Gen.Ring
public import Idealize.ShloMosaic.Lib.StableHlo.RunHlo
public import proofs.«01_k».proof.Proof.Gen.Pre_finite_KernelIdeal

@[expose] public section

noncomputable section

namespace Cert.RingIdeal.Ring

open Cert.RingIdeal Cert.RingIdeal.Gen

open Idealize.ShloMosaic
open Idealize.ShloMosaic.TcCoe
open Idealize.SL.Sem

section
variable {F : FTy → Type} [FloatOps F] [Named F]

/-- The arguments are unchanged on every device. -/
def ArgsKept (m : (ℓ : Loc nD τ sig) → Buf (Elt F) ℓ) (s : MemSt nD τ sig (Elt F)) : Prop :=
  ∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)

theorem Ends.kept {m : (ℓ : Loc nD τ sig) → Buf (Elt F) ℓ} {ρ : Dev nD → PrngReg} {s : MemSt nD τ sig (Elt F)} (h : Ends m ρ s) : ArgsKept m s :=
  fun c => ⟨((h c).1 (0 : Fin 2)).trans (finalA_q m ρ c), (h c).2.2.1, (h c).2.2.2⟩

theorem frame (m : (ℓ : Loc nD τ sig) → Buf (Elt F) ℓ) (ρ : Dev nD → PrngReg) :
    θ_run (defs (F := F)) (onTc (τ := τ) (main (F := F))) ⟨m, fun _ => 0, ρ⟩ (fun r => ArgsKept m r.2 ∧ r.2.sem = fun _ => 0) :=
  θ_run_mono (run_main m ρ) fun _ h => ⟨h.1.kept, h.2⟩
end

theorem frame_ideal : Cert.quiescent_RingIdeal := fun m ρ _ => frame m ρ
theorem frame_ideal_finite : Cert.quiescent_RingIdeal_pre_finite_KernelIdeal := fun m ρ _ => frame m ρ

/-- Over machine floats the named constant is the number the program writes. -/
abbrev written : Named Bits := ⟨fun _ _ _ b => Scalar.ofBits _ b⟩

theorem body_bits : @Cert.Ring.cc0_body Bits _ _ = @Cert.RingIdeal.cc0_body Bits _ written _ := by
  unfold Cert.Ring.cc0_body Cert.RingIdeal.cc0_body
  rfl
theorem table_bits : @Cert.Ring.defs₀ Bits _ _ = @Cert.RingIdeal.defs₀ Bits _ written _ := by
  unfold Cert.Ring.defs₀ Cert.RingIdeal.defs₀
  refine congrArg Defs.onTc (funext fun x => funext fun y => ?_)
  match x, y with
  | 0, (t, s) =>
    show @Cert.Ring.cc0_body Bits _ _ _ _ _ _ _ _ _ _ _ _ _ _ _ _ _ _ _ _ = _
    rw [body_bits]
  | ⟨n + 1, h⟩, _ => exact absurd h (by omega)
theorem defs_bits : @Cert.Ring.defs Bits _ _ = @Cert.RingIdeal.defs Bits _ written _ := by
  unfold Cert.Ring.defs Cert.RingIdeal.defs
  rw [table_bits]
  rfl

theorem frame_bits : Cert.quiescent_Ring := fun m ρ _ => by
  have h := @frame Bits _ written m ρ
  rw [← defs_bits] at h
  exact h

end Cert.RingIdeal.Ring

end
-- ==== Proof.Many.RefRun.lean ====
/-
# The reference program's run

The reference is a straight line of host operations on one device. Its result is `refOut` of its three arguments; the
arguments stay as they were and no semaphore is used.
-/
module

public import proofs.«01_k».proof.Defs
public import proofs.«01_k».proof.Proof.Gen.WholeIdeal
public import proofs.«01_k».proof.Proof.Gen.Pre_finite_WholeIdeal
public import Idealize.ShloMosaic.Lib.StableHlo.RunHlo
public import Idealize.ShloMosaic.Lib.StableHlo.RunRead
public import Idealize.ShloMosaic.Lib.Quiescent

@[expose] public section

noncomputable section

namespace Cert.WholeIdeal.Line

open Cert.WholeIdeal Cert.WholeIdeal.Gen

open Idealize.ShloMosaic
open Idealize.ShloMosaic.TcCoe Idealize.ShloMosaic.StableHlo
open Idealize.SL.Sem

variable {F : FTy → Type} [FloatOps F]

/-- The scaled scores of every query row against every key row. -/
def refScore (x y : FVec F S131072x512 .bf16) : FVec F S131072x131072 .f32 :=
  Host.divf
    (Host.dotGeneral dot_S131072x512_S512x131072_S131072x131072_1_0_0_1_n_n none (extf .f32 x bitsLt_bf16_f32)
      (transpose S512x131072 [1, 0] (extf .f32 y bitsLt_bf16_f32) transposes_S131072x512_S512x131072_1_0))
    (broadcastInDim S131072x131072 ![] bcast_S_S131072x131072 (Host.sqrt (constant S_ .f32 0x44000000#32)))

/-- A column stretched over the rows' columns. -/
def stretch (x : FVec F S131072 .f32) : FVec F S131072x131072 .f32 :=
  broadcastInDim S131072x131072 ![0, 1] bcast_S131072x1_S131072x131072_0_1 (broadcastInDim S131072x1 ![0] bcast_S131072_S131072x1_0 x)

/-- The exponentials of the scores, each less its row's largest. -/
def refExp (s : FVec F S131072x131072 .f32) : FVec F S131072x131072 .f32 :=
  Host.exp (subf s (stretch (Host.reduce FloatOps.maximumf s (constant S_ .f32 0xFF800000#32) reducesTo_S131072x131072_S131072_d1 h_S_)))

/-- Each row divided by its sum. -/
def refNorm (e : FVec F S131072x131072 .f32) : FVec F S131072x131072 .f32 :=
  Host.divf e (stretch (Host.reduceAdd e (constant S_ .f32 0x00000000#32) reducesTo_S131072x131072_S131072_d1 h_S_))

def refOut (x y z : FVec F S131072x512 .bf16) : FVec F S131072x512 .f32 :=
  Host.dotGeneral dot_S131072x131072_S131072x512_S131072x512_1_0_0_1_n_n none (refNorm (refExp (refScore x y))) (extf .f32 z bitsLt_bf16_f32)

theorem run (m : (ℓ : Loc nD τ sig) → Buf (Elt F) ℓ) (ρ : Dev nD → PrngReg) :
    θ_run defs (onTc (τ := τ) main) ⟨m, fun _ => 0, ρ⟩ fun r =>
      ∀ d : Dev nD,
        r.2.mem ((d.tc : Thread nD τ).loc main_v17)
            = refOut (m ((d.tc : Thread nD τ).loc main_arg0)) (m ((d.tc : Thread nD τ).loc main_arg1)) (m ((d.tc : Thread nD τ).loc main_arg2))
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2) := by
  refine θ_run_mono (run_hlo defs main (by unfold main; hlo_seq) (by decide) (by decide) ?_ ?_ m ρ) ?_
  · simp only [List.Forall, nullary_bufs_sub, unary_bufs_sub, binary_bufs_sub, and_self]
  · exact List.forall_iff_forall_mem.mp (forall_fresh_of_map rfl)
  · intro r h d
    refine ⟨(h d main_v17).trans ?_, (h d main_arg0).trans ?_, (h d main_arg1).trans ?_, (h d main_arg2).trans ?_⟩
    · after_results_simp; rfl
    all_goals after_results_simp

theorem no_sems (s : MemSt nD τ sig (Elt F)) : s.sem = fun _ => 0 := sem_eq_zero_of_no_sems (by decide) s

theorem frame : Cert.quiescent_WholeIdeal := fun m ρ _ =>
  θ_run_mono (run (F := Ideal) m ρ) fun r h => ⟨fun c => (h c).2, no_sems r.2⟩

theorem frame_finite : Cert.quiescent_WholeIdeal_pre_finite_WholeIdeal := fun m ρ _ =>
  θ_run_mono (run (F := Ideal) m ρ) fun r h => ⟨fun c => (h c).2, no_sems r.2⟩

end Cert.WholeIdeal.Line

end
-- ==== Proof.Many.Reads.lean ====
/-
# The kernel's vector values read at an index

Over the ideal numbers a vector operation of the kernel is a plain formula at each index. Here every value a trip of the
inner loop stores, and the values the kernel starts and ends with, is read at one index.
-/
module

public import proofs.«01_k».proof.Proof.Many.Comm
public import Idealize.ShloMosaic.Lib.MatmulPlain
public import Idealize.ShloMosaic.Lib.ValueLayoutCasts
public import Idealize.ShloMosaic.Lib.IdealHost

@[expose] public section

noncomputable section

namespace Cert.RingIdeal.Ring

open Cert.RingIdeal Cert.RingIdeal.Gen

open Idealize.ShloMosaic
open Idealize.ShloMosaic.ValueIdx
open scoped BigOperators

/-- The scale the kernel multiplies the scores by. -/
theorem scale_named : Named.named (F := Ideal) Cert.RingIdeal.κ "s" (φ := .f32) 0x3D3504F3#32 = (((Real.sqrt 512)⁻¹ : ℝ) : EReal) :=
  IdealRules.named_const.ideal_named_scalar _ _ _ _ rfl

/-- A column broadcast over many reads, at `(p, c)`, the column at `p`. -/
theorem col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `i` of a matrix reduced along its columns, with column `k` put back. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The block a hop's load returns, cast to a matrix, is the block. -/
theorem blkVec_cast (K : Blk Ideal) (c : Fin 4096) (d : Fin 512) :
    shapeCast S4096x512 (blkVec K) shapeCasts_S1x1x4096x512_S4096x512 (ix2 c d) = K (ix2 c d) := by
  refine (shapeCast_apply (blkVec K) _ (ix2 c d) (ix4 (0 : Fin 1) (0 : Fin 1) c d) ?_).trans ?_
  · rw [Shape.rowMajor_val_four, Shape.rowMajor_val_two]
    show ((0 * 1 + 0) * 4096 + c.val) * 512 + d.val = c.val * 512 + d.val
    omega
  · rfl

theorem pay3_at (K : Blk Ideal) (Q : Vec Ideal S256x512 .bf16) (i : Fin 256) (c : Fin 4096) :
    k0_pay3 (blkVec K) Q (ix2 i c) = (∑ d : Fin 512, Q (ix2 i d) * K (ix2 c d)) * (((Real.sqrt 512)⁻¹ : ℝ) : EReal) := by
  have h := Ideal.matmul_transposedRhs_apply (M := 256) (K := 512) (N := 4096) (φ₁ := .bf16) (φ₂ := .bf16) none
    (shapeCast S256x512 Q shapeCasts_S256x512_S256x512) (shapeCast S4096x512 (blkVec K) shapeCasts_S1x1x4096x512_S4096x512)
    (constant S256x4096 .f32 0x00000000#32) i c
  have hq : shapeCast S256x512 Q shapeCasts_S256x512_S256x512 = Q := shapeCast_self Q _
  refine congrArg₂ (fun a b : EReal => a * b) (h.trans ?_) scale_named
  refine Eq.trans (congrArg₂ (fun a b : EReal => a + b) Ideal.ofBits_zero_f32 (Finset.sum_congr rfl fun d _ => ?_)) (zero_add _)
  exact congrArg₂ (fun a b : EReal => a * b) (congrFun hq (ix2 i d)) (blkVec_cast K c d)

variable (K : Vec Ideal S1x1x4096x512 .bf16) (Q : Vec Ideal S256x512 .bf16) (M L : Vec Ideal S256x1 .f32)

theorem pay4_at (i : Fin 256) :
    k0_pay4 K Q M (ix2 i (0 : Fin 1)) = max (M (ix2 i (0 : Fin 1)))
      ((Finset.univ : Finset (Fin 4096)).fold max (FloatOps.ofBits (F := Ideal) .f32 0xFF800000#32) fun c => k0_pay3 K Q (ix2 i c)) := by
  refine congrArg (fun b : EReal => max (M (ix2 i (0 : Fin 1))) b) ((shapeCast_a_a1_apply _ _ i (0 : Fin 1)).trans ?_)
  refine (Ideal.multiReduction_maximumf_single _ _ _ _ _ (ix1 i)).trans ?_
  refine congrArg (fun f => (Finset.univ : Finset (Fin 4096)).fold max (FloatOps.ofBits (F := Ideal) .f32 0xFF800000#32) f) (funext fun c => ?_)
  exact congrArg (k0_pay3 K Q) (lift_row _ i c)

theorem pay5_at (i : Fin 256) :
    k0_pay5 K Q M (ix2 i (0 : Fin 1)) = FloatOps.exp (F := Ideal) (φ := .f32) (FloatOps.subf (F := Ideal) (φ := .f32) (M (ix2 i (0 : Fin 1))) (k0_pay4 K Q M (ix2 i (0 : Fin 1)))) := rfl

theorem pay6_at (i : Fin 256) (c : Fin 4096) :
    k0_pay6 K Q M (ix2 i c) = FloatOps.exp (F := Ideal) (φ := .f32) (FloatOps.subf (F := Ideal) (φ := .f32) (k0_pay3 K Q (ix2 i c)) (k0_pay4 K Q M (ix2 i (0 : Fin 1)))) :=
  congrArg (fun b => FloatOps.exp (F := Ideal) (φ := .f32) (FloatOps.subf (F := Ideal) (φ := .f32) (k0_pay3 K Q (ix2 i c)) b)) (col_apply _ _ i c)

theorem pay7_at (i : Fin 256) :
    k0_pay7 K Q M L (ix2 i (0 : Fin 1)) = ((L (ix2 i (0 : Fin 1)) * k0_pay5 K Q M (ix2 i (0 : Fin 1)) + ∑ c : Fin 4096, k0_pay6 K Q M (ix2 i c) : EReal)) := by
  refine (congrFun (shapeCast_self (s := S256x1) (addf (mulf L (k0_pay5 K Q M)) (shapeCast S256x1
    (multiReduction .add [1] S256 (k0_pay6 K Q M) 0x00000000#32 reduces_S256x4096_S256 (.inl rfl) rfl) shapeCasts_S256_S256x1))
    shapeCasts_S256x1_S256x1) (ix2 i (0 : Fin 1))).trans ?_
  refine congrArg (fun b : EReal => L (ix2 i (0 : Fin 1)) * k0_pay5 K Q M (ix2 i (0 : Fin 1)) + b) ((shapeCast_a_a1_apply _ _ i (0 : Fin 1)).trans ?_)
  refine (Ideal.multiReduction_add_single _ _ _ _ _ (ix1 i)).trans ?_
  exact Finset.sum_congr rfl fun c _ => congrArg (k0_pay6 K Q M) (lift_row _ i c)

theorem pay8_at (V : Blk Ideal) (O : Vec Ideal S256x512 .f32) (i : Fin 256) (d : Fin 512) :
    k0_pay8 K (blkVec V) Q M O (ix2 i d)
      = ((O (ix2 i d) * k0_pay5 K Q M (ix2 i (0 : Fin 1)) + ∑ c : Fin 4096, k0_pay6 K Q M (ix2 i c) * V (ix2 c d) : EReal)) := by
  have h := Ideal.matmul_plain_apply (M := 256) (K := 4096) (N := 512) (φ₁ := .bf16) (φ₂ := .bf16) none
    (truncf .bf16 (k0_pay6 K Q M) bitsLt_bf16_f32) (shapeCast S4096x512 (blkVec V) shapeCasts_S1x1x4096x512_S4096x512)
    (constant S256x512 .f32 0x00000000#32) i d
  refine congrArg₂ (fun a b : EReal => a + b) (congrArg₂ (fun a b : EReal => a * b) (congrFun (shapeCast_self O _) _) (col_apply _ _ i d)) (h.trans ?_)
  refine Eq.trans (congrArg₂ (fun a b : EReal => a + b) Ideal.ofBits_zero_f32 (Finset.sum_congr rfl fun c _ => ?_)) (zero_add _)
  exact congrArg (fun b : EReal => k0_pay6 K Q M (ix2 i c) * b) (blkVec_cast V c d)

theorem pay9_at (i : Fin 256) : k0_pay9 K Q M (ix2 i (0 : Fin 1)) = k0_pay4 K Q M (ix2 i (0 : Fin 1)) :=
  congrFun (shapeCast_self (s := S256x1) (k0_pay4 K Q M) shapeCasts_S256x1_S256x1) (ix2 i (0 : Fin 1))

theorem pay10_at (O : Vec Ideal S4096x512 .f32) (S : Vec Ideal S4096x1 .f32) (r : Fin 4096) (d : Fin 512) :
    k0_pay10 O S (ix2 r d) = FloatOps.divf (F := Ideal) (φ := .f32) (O (ix2 r d)) (S (ix2 r (0 : Fin 1))) :=
  congrArg₂ (fun a b => FloatOps.divf (F := Ideal) (φ := .f32) a b) (congrFun (shapeCast_self O _) _) (col_apply _ _ r d)

theorem pay11_at (r : Fin 4096) (d : Fin 512) : k0_pay11 (F := Ideal) (ix2 r d) = ((0 : ℝ) : EReal) := Ideal.ofBits_zero_f32
theorem pay2_at (r : Fin 4096) : k0_pay2 (F := Ideal) (ix2 r (0 : Fin 1)) = ((0 : ℝ) : EReal) :=
  (congrFun (shapeCast_self (s := S4096x1) (broadcast S4096x1 (Scalar.ofBits (F := Ideal) .f32 0x00000000#32)) shapeCasts_S4096x1_S4096x1)
    (ix2 r (0 : Fin 1))).trans Ideal.ofBits_zero_f32
theorem pay12_at (r : Fin 4096) : ∃ x : ℝ, k0_pay1 (k0_pay12 (F := Ideal)) (ix2 r (0 : Fin 1)) = (x : EReal) := by
  refine ⟨-(((2 : ℝ) ^ 76) * 13234890), (congrFun (shapeCast_self (s := S4096x1) (k0_pay12 (F := Ideal)) shapeCasts_S4096x1_S4096x1)
    (ix2 r (0 : Fin 1))).trans ?_⟩
  show Ideal.ofBits .f32 0xF149F2CA#32 = _
  simp [Ideal.ofBits, Ideal.ieee, -EReal.coe_mul]
  norm_num

end Cert.RingIdeal.Ring

end
-- ==== Proof.Many.Rows.lean ====
/-
# What a trip reads and writes, row by row

A trip of the inner loop reads and writes 256 rows. Rows of the tile are rows `256 t + i`; the others stay as they are.
-/
module

public import proofs.«01_k».proof.Proof.Many.Reads

@[expose] public section

noncomputable section

namespace Cert.RingIdeal.Ring

open Cert.RingIdeal Cert.RingIdeal.Gen

open Idealize.ShloMosaic
open Idealize.ShloMosaic.TcCoe
open Idealize.SL.Sem
open Idealize.ShloMosaic.ValueIdx

theorem off7_eq (t : Fin k0_t2_loop.trips) : k0_off7 t = ![256 * t.val, 0] := by revert t; decide
theorem off8_eq (t : Fin k0_t2_loop.trips) : k0_off8 t = ![256 * t.val, 0] := by revert t; decide
theorem trips_eq : k0_t2_loop.trips = 16 := by decide

/-- Row `i` of tile `t`. -/
def row (t : Fin k0_t2_loop.trips) (i : Fin 256) : Fin 4096 :=
  ⟨256 * t.val + i.val, by have := t.isLt; have e := trips_eq; have := i.isLt; omega⟩

theorem emb_o (t : Fin k0_t2_loop.trips) (i : Fin 256) (d : Fin 512) :
    ((oM.access (rW t)).emb (ix2 i d) : S4096x512.Idx) = ix2 (row t i) d := by
  have h := ValueKit.view_emb_slice_whole_unit_val cc0_stg1_0 (k0_off7 t) S256x512.size (k0_off7_inb t) (ix2 i d)
  funext a
  refine Fin.ext ((h a).trans ?_)
  match a with
  | ⟨0, _⟩ => exact congrArg (· + i.val) (congrFun (off7_eq t) 0)
  | ⟨1, _⟩ => exact (congrArg (· + d.val) (congrFun (off7_eq t) 1)).trans (Nat.zero_add _)

theorem emb_q (t : Fin k0_t2_loop.trips) (i : Fin 256) (d : Fin 512) :
    ((qM.access (rW t)).emb (ix2 i d) : S4096x512.Idx) = ix2 (row t i) d := by
  have h := ValueKit.view_emb_slice_whole_unit_val cc0_stg0_0 (k0_off7 t) S256x512.size (k0_off7_inb t) (ix2 i d)
  funext a
  refine Fin.ext ((h a).trans ?_)
  match a with
  | ⟨0, _⟩ => exact congrArg (· + i.val) (congrFun (off7_eq t) 0)
  | ⟨1, _⟩ => exact (congrArg (· + d.val) (congrFun (off7_eq t) 1)).trans (Nat.zero_add _)

theorem emb_m (t : Fin k0_t2_loop.trips) (i : Fin 256) (d : Fin 1) :
    ((mM.access (rN t)).emb (ix2 i d) : S4096x1.Idx) = ix2 (row t i) d := by
  have h := ValueKit.view_emb_slice_whole_unit_val cc0_scratch1 (k0_off8 t) S256x1.size (k0_off8_inb t) (ix2 i d)
  funext a
  refine Fin.ext ((h a).trans ?_)
  match a with
  | ⟨0, _⟩ => exact congrArg (· + i.val) (congrFun (off8_eq t) 0)
  | ⟨1, _⟩ => exact (congrArg (· + d.val) (congrFun (off8_eq t) 1)).trans (Nat.zero_add _)

theorem emb_l (t : Fin k0_t2_loop.trips) (i : Fin 256) (d : Fin 1) :
    ((lM.access (rN t)).emb (ix2 i d) : S4096x1.Idx) = ix2 (row t i) d := by
  have h := ValueKit.view_emb_slice_whole_unit_val cc0_scratch2 (k0_off8 t) S256x1.size (k0_off8_inb t) (ix2 i d)
  funext a
  refine Fin.ext ((h a).trans ?_)
  match a with
  | ⟨0, _⟩ => exact congrArg (· + i.val) (congrFun (off8_eq t) 0)
  | ⟨1, _⟩ => exact (congrArg (· + d.val) (congrFun (off8_eq t) 1)).trans (Nat.zero_add _)

/-! ## Loads -/

variable (q : (cc0_stg0_0 : Ref sig .tc).ty.Contents (Elt Ideal)) (s : St Ideal) (t : Fin k0_t2_loop.trips)

theorem ldQ_at (i : Fin 256) (d : Fin 512) : ldQ q t (ix2 i d) = q (ix2 (row t i) d : S4096x512.Idx) :=
  congrArg q (emb_q t i d)
theorem ldO_at (i : Fin 256) (d : Fin 512) : ldO t s.o (ix2 i d) = s.o (ix2 (row t i) d : S4096x512.Idx) :=
  congrArg s.o (emb_o t i d)
theorem ldM_at (i : Fin 256) (d : Fin 1) : ldM t s.m (ix2 i d) = s.m (ix2 (row t i) d : S4096x1.Idx) :=
  congrArg s.m (emb_m t i d)
theorem ldL_at (i : Fin 256) (d : Fin 1) : ldL t s.l (ix2 i d) = s.l (ix2 (row t i) d : S4096x1.Idx) :=
  congrArg s.l (emb_l t i d)

/-! ## Stores -/

theorem o_write (f : (cc0_stg1_0 : Ref sig .tc).ty.Contents (Elt Ideal)) (w : FVec Ideal S256x512 .f32) (i : Fin 256) (d : Fin 512) :
    putO t f w (ix2 (row t i) d : S4096x512.Idx) = w (ix2 i d) :=
  (congrArg (putO t f w) (emb_o t i d).symm).trans
    (View.write_emb_of_mem _ _ (Finset.mem_univ _))
theorem o_keep (f : (cc0_stg1_0 : Ref sig .tc).ty.Contents (Elt Ideal)) (w : FVec Ideal S256x512 .f32) (r : Fin 4096) (h : ∀ i, r ≠ row t i) (d : Fin 512) :
    putO t f w (ix2 r d : S4096x512.Idx) = f (ix2 r d : S4096x512.Idx) := by
  refine View.write_of_not_mem _ _ _ ?_
  intro hm
  obtain ⟨x, -, hx⟩ := Finset.mem_map.mp hm
  obtain ⟨i, e, rfl⟩ : ∃ i e, x = (ix2 i e : S256x512.Idx) := ⟨_, _, eq_ix2 x⟩
  exact h i (congrFun (((emb_o t i e).symm.trans hx).symm) 0)
theorem m_write (f : (cc0_scratch1 : Ref sig .tc).ty.Contents (Elt Ideal)) (w : FVec Ideal S256x1 .f32) (i : Fin 256) (d : Fin 1) :
    putM t f w (ix2 (row t i) d : S4096x1.Idx) = w (ix2 i d) :=
  (congrArg (putM t f w) (emb_m t i d).symm).trans
    (View.write_emb_of_mem _ _ (Finset.mem_univ _))
theorem m_keep (f : (cc0_scratch1 : Ref sig .tc).ty.Contents (Elt Ideal)) (w : FVec Ideal S256x1 .f32) (r : Fin 4096) (h : ∀ i, r ≠ row t i) (d : Fin 1) :
    putM t f w (ix2 r d : S4096x1.Idx) = f (ix2 r d : S4096x1.Idx) := by
  refine View.write_of_not_mem _ _ _ ?_
  intro hm
  obtain ⟨x, -, hx⟩ := Finset.mem_map.mp hm
  obtain ⟨i, e, rfl⟩ : ∃ i e, x = (ix2 i e : S256x1.Idx) := ⟨_, _, eq_ix2 x⟩
  exact h i (congrFun (((emb_m t i e).symm.trans hx).symm) 0)
theorem l_write (f : (cc0_scratch2 : Ref sig .tc).ty.Contents (Elt Ideal)) (w : FVec Ideal S256x1 .f32) (i : Fin 256) (d : Fin 1) :
    putL t f w (ix2 (row t i) d : S4096x1.Idx) = w (ix2 i d) :=
  (congrArg (putL t f w) (emb_l t i d).symm).trans
    (View.write_emb_of_mem _ _ (Finset.mem_univ _))
theorem l_keep (f : (cc0_scratch2 : Ref sig .tc).ty.Contents (Elt Ideal)) (w : FVec Ideal S256x1 .f32) (r : Fin 4096) (h : ∀ i, r ≠ row t i) (d : Fin 1) :
    putL t f w (ix2 r d : S4096x1.Idx) = f (ix2 r d : S4096x1.Idx) := by
  refine View.write_of_not_mem _ _ _ ?_
  intro hm
  obtain ⟨x, -, hx⟩ := Finset.mem_map.mp hm
  obtain ⟨i, e, rfl⟩ : ∃ i e, x = (ix2 i e : S256x1.Idx) := ⟨_, _, eq_ix2 x⟩
  exact h i (congrFun (((emb_l t i e).symm.trans hx).symm) 0)

variable (K V : Vec Ideal S1x1x4096x512 .bf16)

theorem o_step : (tileStep K V q t s).o = putO t s.o (k0_pay8 K V (ldQ q t) (ldM t s.m) (ldO t s.o)) := by
  unfold tileStep; dsimp only
theorem m_step : (tileStep K V q t s).m = putM t s.m (k0_pay9 K (ldQ q t) (ldM t s.m)) := by
  unfold tileStep; dsimp only
theorem l_step : (tileStep K V q t s).l = putL t s.l (k0_pay7 K (ldQ q t) (ldM t s.m) (ldL t s.l)) := by
  unfold tileStep; dsimp only

theorem o_in (i : Fin 256) (d : Fin 512) :
    (tileStep K V q t s).o (ix2 (row t i) d : S4096x512.Idx) = k0_pay8 K V (ldQ q t) (ldM t s.m) (ldO t s.o) (ix2 i d) := by
  rw [o_step]; exact o_write t s.o (k0_pay8 K V (ldQ q t) (ldM t s.m) (ldO t s.o)) i d
theorem m_in (i : Fin 256) (d : Fin 1) :
    (tileStep K V q t s).m (ix2 (row t i) d : S4096x1.Idx) = k0_pay9 K (ldQ q t) (ldM t s.m) (ix2 i d) := by
  rw [m_step]; exact m_write t s.m (k0_pay9 K (ldQ q t) (ldM t s.m)) i d
theorem l_in (i : Fin 256) (d : Fin 1) :
    (tileStep K V q t s).l (ix2 (row t i) d : S4096x1.Idx) = k0_pay7 K (ldQ q t) (ldM t s.m) (ldL t s.l) (ix2 i d) := by
  rw [l_step]; exact l_write t s.l (k0_pay7 K (ldQ q t) (ldM t s.m) (ldL t s.l)) i d

theorem o_out (r : Fin 4096) (h : ∀ i, r ≠ row t i) (d : Fin 512) :
    (tileStep K V q t s).o (ix2 r d : S4096x512.Idx) = s.o (ix2 r d : S4096x512.Idx) := by
  rw [o_step]; exact o_keep t s.o (k0_pay8 K V (ldQ q t) (ldM t s.m) (ldO t s.o)) r h d
theorem m_out (r : Fin 4096) (h : ∀ i, r ≠ row t i) (d : Fin 1) :
    (tileStep K V q t s).m (ix2 r d : S4096x1.Idx) = s.m (ix2 r d : S4096x1.Idx) := by
  rw [m_step]; exact m_keep t s.m (k0_pay9 K (ldQ q t) (ldM t s.m)) r h d
theorem l_out (r : Fin 4096) (h : ∀ i, r ≠ row t i) (d : Fin 1) :
    (tileStep K V q t s).l (ix2 r d : S4096x1.Idx) = s.l (ix2 r d : S4096x1.Idx) := by
  rw [l_step]; exact l_keep t s.l (k0_pay7 K (ldQ q t) (ldM t s.m) (ldL t s.l)) r h d

end Cert.RingIdeal.Ring

end
-- ==== Proof.Many.Online.lean ====
/-
# The running softmax

A query row holds, after some blocks of keys and values, a number `M` and the sums `∑ exp (score - M)` and
`∑ exp (score - M) * value` over the keys seen so far. `Holds s r A B` says so with the factor `exp (-M)` taken out:
`A` is `∑ exp score`, `B d` is `∑ exp score * value d`; the values may be infinite. `M` need not be the largest score: any real number will do, and the
final quotient does not depend on it.
-/
module

public import proofs.«01_k».proof.Proof.Many.Rows
public import proofs.«01_k».proof.Proof.Online

@[expose] public section

noncomputable section

namespace Cert.RingIdeal.Ring

open Cert.RingIdeal Cert.RingIdeal.Gen

open Idealize.ShloMosaic
open Idealize.ShloMosaic.TcCoe
open Idealize.SL.Sem
open Idealize.ShloMosaic.ValueIdx
open scoped BigOperators

open Cert.KernelIdeal.Ring (sum_real fold_real ofBits_negInf scale_add scale_sum max_real)

/-! ## Blocks of real numbers -/

abbrev Mat : Type := Fin 4096 → Fin 512 → ℝ

/-- A block holds real numbers. -/
def IsMat (K : S4096x512.Idx → EReal) (k : Mat) : Prop := ∀ r d, K (ix2 r d) = ((k r d : ℝ) : EReal)

/-- The scaled score of query row `r` against key row `c`. -/
def score (q k : Mat) (r c : Fin 4096) : ℝ := (∑ d : Fin 512, q r d * k c d) * (Real.sqrt 512)⁻¹

def Holds (s : St Ideal) (r : Fin 4096) (A : ℝ) (B : Fin 512 → EReal) : Prop :=
  ∃ M : ℝ, s.m (ix2 r (0 : Fin 1) : S4096x1.Idx) = (M : EReal)
    ∧ s.l (ix2 r (0 : Fin 1) : S4096x1.Idx) = ((A * Real.exp (-M) : ℝ) : EReal)
    ∧ ∀ d : Fin 512, s.o (ix2 r d : S4096x512.Idx) = B d * ((Real.exp (-M) : ℝ) : EReal)

variable {K V : Blk Ideal} {k q : Mat} {Q : (cc0_stg0_0 : Ref sig .tc).ty.Contents (Elt Ideal)}

section
variable (hK : IsMat K k) (hQ : IsMat Q q) (t : Fin k0_t2_loop.trips) (i : Fin 256)
include hK hQ

theorem pay3_real (c : Fin 4096) : k0_pay3 (blkVec K) (ldQ Q t) (ix2 i c) = ((score q k (row t i) c : ℝ) : EReal) := by
  rw [pay3_at]
  unfold score
  rw [EReal.coe_mul, ← sum_real]
  refine congrArg (fun a : EReal => a * (((Real.sqrt 512)⁻¹ : ℝ) : EReal)) (Finset.sum_congr rfl fun d _ => ?_)
  rw [EReal.coe_mul]
  exact congrArg₂ (fun a b : EReal => a * b) ((ldQ_at Q t i d).trans (hQ _ _)) (hK c d)

theorem pay4_real (m : Vec Ideal S256x1 .f32) (M : ℝ) (hm : m (ix2 i (0 : Fin 1)) = (M : EReal)) :
    ∃ M' : ℝ, k0_pay4 (blkVec K) (ldQ Q t) m (ix2 i (0 : Fin 1)) = (M' : EReal) := by
  rw [pay4_at, hm, ofBits_negInf]
  obtain ⟨x, hx⟩ := fold_real (n := 4096) (by decide) (score q k (row t i))
  refine ⟨max M x, ?_⟩
  rw [← max_real, ← hx]
  refine congrArg (fun f => max (M : EReal) ((Finset.univ : Finset (Fin 4096)).fold max (⊥ : EReal) f)) (funext fun c => ?_)
  exact pay3_real hK hQ t i c

variable (m : Vec Ideal S256x1 .f32) (M M' : ℝ) (hm : m (ix2 i (0 : Fin 1)) = (M : EReal))
  (hM : k0_pay4 (blkVec K) (ldQ Q t) m (ix2 i (0 : Fin 1)) = (M' : EReal))

include hm hM

theorem pay5_real : k0_pay5 (blkVec K) (ldQ Q t) m (ix2 i (0 : Fin 1)) = ((Real.exp (M - M') : ℝ) : EReal) := by
  rw [pay5_at, hm, hM, Ideal.subf_def, ← EReal.coe_sub, Ideal.exp_def, Ideal.exp_coe]

theorem pay6_real (c : Fin 4096) :
    k0_pay6 (blkVec K) (ldQ Q t) m (ix2 i c) = ((Real.exp (score q k (row t i) c - M') : ℝ) : EReal) := by
  rw [pay6_at, hM, pay3_real hK hQ, Ideal.subf_def, ← EReal.coe_sub, Ideal.exp_def, Ideal.exp_coe]

end

/-- A row of the tile, after the trip. -/
theorem Holds.step_in (hK : IsMat K k) (hQ : IsMat Q q) (t : Fin k0_t2_loop.trips) (i : Fin 256) {s : St Ideal}
    {A : ℝ} {B : Fin 512 → EReal} (h : Holds s (row t i) A B) :
    Holds (tileStep (blkVec K) (blkVec V) Q t s) (row t i) (A + ∑ c, Real.exp (score q k (row t i) c))
      (fun d => B d + ∑ c, ((Real.exp (score q k (row t i) c) : ℝ) : EReal) * V (ix2 c d : S4096x512.Idx)) := by
  obtain ⟨M, hm, hl, ho⟩ := h
  have hm' : ldM t s.m (ix2 i (0 : Fin 1)) = (M : EReal) := (ldM_at s t i 0).trans hm
  obtain ⟨M', hM⟩ := pay4_real hK hQ t i (ldM t s.m) M hm'
  have e5 := pay5_real hK hQ t i (ldM t s.m) M M' hm' hM
  have e6 := pay6_real hK hQ t i (ldM t s.m) M M' hm' hM
  refine ⟨M', ?_, ?_, fun d => ?_⟩
  · rw [m_in, pay9_at]; exact hM
  · rw [l_in, pay7_at, e5, (ldL_at s t i 0).trans hl]
    simp only [e6]
    rw [sum_real, ← EReal.coe_mul, ← EReal.coe_add]
    refine congrArg _ ?_
    rw [add_mul, Finset.sum_mul, mul_assoc, ← Real.exp_add]
    refine congrArg₂ (· + ·) (congrArg (A * Real.exp ·) (by ring)) (Finset.sum_congr rfl fun c _ => ?_)
    rw [← Real.exp_add]; rfl
  · have he := (Real.exp_pos (-M')).le
    rw [o_in, pay8_at, e5, (ldO_at s t i d).trans (ho d)]
    simp only [e6]
    rw [scale_add he, scale_sum _ he, mul_assoc, ← EReal.coe_mul, ← Real.exp_add]
    refine congrArg₂ (fun a b : EReal => a + b) (congrArg (fun a : ℝ => B d * ((Real.exp a : ℝ) : EReal)) (by ring)) (Finset.sum_congr rfl fun c _ => ?_)
    rw [mul_right_comm, ← EReal.coe_mul, ← Real.exp_add]; rfl

/-- A row outside the tile is as before. -/
theorem Holds.step_out (K V : Vec Ideal S1x1x4096x512 .bf16) (t : Fin k0_t2_loop.trips) {s : St Ideal} {r : Fin 4096} {A : ℝ} {B : Fin 512 → EReal}
    (hr : ∀ i, r ≠ row t i) (h : Holds s r A B) : Holds (tileStep K V Q t s) r A B := by
  obtain ⟨M, hm, hl, ho⟩ := h
  exact ⟨M, (m_out Q s t K V r hr 0).trans hm, (l_out Q s t K V r hr 0).trans hl, fun d => (o_out Q s t K V r hr d).trans (ho d)⟩

/-- After `n` trips the rows of the first `n` tiles have taken the block in. -/
theorem Holds.tiles (hK : IsMat K k) (hQ : IsMat Q q) {s : St Ideal} {r : Fin 4096} {A : ℝ} {B : Fin 512 → EReal}
    (h : Holds s r A B) (n : ℕ) (hn : n ≤ 16) :
    Holds (tiles (blkVec K) (blkVec V) Q s n) r
      (if r.val < 256 * n then A + ∑ c, Real.exp (score q k r c) else A)
      (if r.val < 256 * n then fun d => B d + ∑ c, ((Real.exp (score q k r c) : ℝ) : EReal) * V (ix2 c d : S4096x512.Idx) else B) := by
  induction n with
  | zero => rw [if_neg (by omega), if_neg (by omega)]; exact h
  | succ n ih =>
    have ih := ih (by omega)
    have hlt : n < k0_t2_loop.trips := by rw [trips_eq]; omega
    have e := tiles_succ (blkVec K) (blkVec V) Q s ⟨n, hlt⟩
    rw [e]
    by_cases h1 : r.val < 256 * n
    · rw [if_pos h1, if_pos h1] at ih
      rw [if_pos (by omega), if_pos (by omega)]
      refine Holds.step_out _ _ _ (fun i he => ?_) ih
      have := congrArg Fin.val he
      simp only [row] at this
      omega
    · rw [if_neg h1, if_neg h1] at ih
      by_cases h2 : r.val < 256 * (n + 1)
      · rw [if_pos h2, if_pos h2]
        have hr : r = row ⟨n, hlt⟩ ⟨r.val - 256 * n, by omega⟩ := Fin.ext (by simp only [row]; omega)
        rw [hr] at ih ⊢
        exact Holds.step_in hK hQ ⟨n, hlt⟩ _ ih
      · rw [if_neg h2, if_neg h2]
        refine Holds.step_out _ _ _ (fun i he => ?_) ih
        have := congrArg Fin.val he
        have := i.isLt
        simp only [row] at *
        omega

/-- A hop takes its block in at every row. -/
theorem Holds.hop (hK : IsMat K k) (hQ : IsMat Q q) {s : St Ideal} {r : Fin 4096} {A : ℝ} {B : Fin 512 → EReal}
    (h : Holds s r A B) :
    Holds (hop (blkVec K) (blkVec V) Q s) r (A + ∑ c, Real.exp (score q k r c))
      (fun d => B d + ∑ c, ((Real.exp (score q k r c) : ℝ) : EReal) * V (ix2 c d : S4096x512.Idx)) := by
  have h16 := Holds.tiles (V := V) hK hQ h 16 le_rfl
  have hr : r.val < 256 * 16 := r.isLt
  rw [if_pos hr, if_pos hr] at h16
  have e : Scf.trips k0_t2_loop.lb k0_t2_loop.ub k0_t2_loop.st = 16 := trips_eq
  unfold Ring.hop
  rw [e]
  exact h16

end Cert.RingIdeal.Ring

end
-- ==== Proof.Many.Value.lean ====
/-
# The kernel's value

After all 32 blocks of keys and values a device's quotient is, at query row `r`, `∑ exp (score) * value / ∑ exp (score)` over
the keys of all the blocks; it is what the result array holds at the end.
-/
module

public import proofs.«01_k».proof.Proof.Many.Online
public import proofs.«01_k».proof.Proof.Many.Kept
public import Idealize.ShloMosaic.Lib.Pipeline.ValueKit.Geometry

@[expose] public section

noncomputable section

namespace Cert.RingIdeal.Ring

open Cert.RingIdeal Cert.RingIdeal.Gen

open Idealize.ShloMosaic
open Idealize.ShloMosaic.TcCoe
open Idealize.SL.Sem
open Idealize.ShloMosaic.ValueIdx
open Idealize.ShloMosaic.Pipeline (Dat Cfg Window)
open scoped BigOperators

variable {m : (ℓ : Loc nD τ sig) → Buf (Elt Ideal) ℓ} {ρ : Dev nD → PrngReg}

theorem holds_init (r : Fin 4096) : Holds (init (F := Ideal)) r 0 (fun _ => 0) := by
  obtain ⟨M, hM⟩ := pay12_at r
  refine ⟨M, hM, ?_, fun d => ?_⟩
  · rw [zero_mul]; exact pay2_at r
  · rw [zero_mul]; exact pay11_at r d

variable {c : Dev nD} {q : Mat} {k : Dev nD → Mat}

/-- The weight of query row `r` over the keys of the first `n` blocks. -/
def weight (q : Mat) (k : Dev nD → Mat) (c : Dev nD) (n : ℕ) (r : Fin 4096) : ℝ :=
  ∑ j ∈ Finset.range n, ∑ x : Fin 4096, Real.exp (score q (k (whose c j)) r x)
/-- Its weighted sum of the values. -/
def mass (q : Mat) (k : Dev nD → Mat) (v : Dev nD → Blk Ideal) (c : Dev nD) (n : ℕ) (r : Fin 4096) (d : Fin 512) : EReal :=
  ∑ j ∈ Finset.range n, ∑ x : Fin 4096, ((Real.exp (score q (k (whose c j)) r x) : ℝ) : EReal) * v (whose c j) (ix2 x d)

theorem holds_hops (hQ : IsMat (qIn m ρ c) q) (hK : ∀ e : Dev nD, IsMat (kIn m e) (k e)) (r : Fin 4096) :
    ∀ n : ℕ, Holds (hops m ρ c n) r (weight q k c n r) (mass q k (vIn m) c n r)
  | 0 => holds_init r
  | n + 1 => by
    have h := Holds.hop (V := vIn m (whose c n)) (hK (whose c n)) hQ (holds_hops hQ hK r n)
    have hw : weight q k c (n + 1) r = weight q k c n r + ∑ x, Real.exp (score q (k (whose c n)) r x) := Finset.sum_range_succ _ _
    have hm : mass q k (vIn m) c (n + 1) r = fun d => mass q k (vIn m) c n r d + ∑ x, ((Real.exp (score q (k (whose c n)) r x) : ℝ) : EReal) * vIn m (whose c n) (ix2 x d) :=
      funext fun d => Finset.sum_range_succ _ _
    rw [hw, hm]
    exact h

theorem weight_pos (n : ℕ) (r : Fin 4096) : 0 < weight q k c (n + 1) r :=
  Finset.sum_pos (fun j _ => Finset.sum_pos (fun x _ => Real.exp_pos _) ⟨0, Finset.mem_univ _⟩) ⟨0, Finset.mem_range.mpr (Nat.succ_pos n)⟩

theorem result_at (hQ : IsMat (qIn m ρ c) q) (hK : ∀ e : Dev nD, IsMat (kIn m e) (k e))
    (r : Fin 4096) (d : Fin 512) :
    result m ρ c (ix2 r d : S4096x512.Idx) = mass q k (vIn m) c 32 r d * ((1 / weight q k c 32 r : ℝ) : EReal) := by
  obtain ⟨M, -, hl, ho⟩ := holds_hops hQ hK r 32
  have hM := Real.exp_pos (-M)
  have hw : 0 < weight q k c 32 r := weight_pos 31 r
  refine (pay10_at _ _ r d).trans ?_
  refine (congrArg₂ Ideal.div (ho d) hl).trans ?_
  rw [Ideal.div_coe (mul_pos hw hM).ne', mul_assoc, ← EReal.coe_mul]
  refine congrArg (fun a : ℝ => mass q k (vIn m) c 32 r d * (a : EReal)) ?_
  field_simp

/-! ## The arrays around the body -/

theorem qIn_at (r : Fin 4096) (d : Fin 512) :
    (qIn m ρ c : S4096x512.Idx → EReal) (ix2 r d) = (m ((c.tc : Thread nD τ).loc main_arg0) : S4096x512.Idx → EReal) (ix2 r d) := by
  refine congrArg (m ((c.tc : Thread nD τ).loc main_arg0) : S4096x512.Idx → EReal) ?_
  funext a; apply Fin.ext
  fin_cases a
  · show 0 * 4096 + 1 * r.val = r.val
    omega
  · show 0 * 512 + 1 * d.val = d.val
    omega

theorem out_whole : win0_1.WholeAt (⟨0, by decide⟩ : Fin grid0.N) := by decide +kernel

/-- The result array at the end. -/
theorem finalA_out : (finalA m ρ c (1 : Fin 2) : S4096x512.Idx → EReal) = result m ρ c :=
  (dats (F := Ideal) m ρ 0 c).arrAt_eq_of_after_last (1 : Fin 2) (0 : Fin 1) out_whole (result m ρ c) (fun j => rfl)

end Cert.RingIdeal.Ring

end
-- ==== Proof.Many.RefValue.lean ====
/-
# The reference's value

At queries and keys that are real numbers the reference's row `i` is `∑ exp (score) * value / ∑ exp (score)` over all the keys: the row's
largest score, which it takes off every score, cancels in the quotient.
-/
module

public import proofs.«01_k».proof.Proof.Many.RefRun
public import proofs.«01_k».proof.Proof.Many.Online
public import Idealize.ShloMosaic.Lib.StackMember
public import Idealize.ShloMosaic.Lib.IdealHost
public import Idealize.ShloMosaic.Lib.ValueLayout

@[expose] public section

noncomputable section

namespace Cert.WholeIdeal.Line

open Cert.WholeIdeal Cert.WholeIdeal.Gen
open Cert.KernelIdeal.Ring (sum_real scale_sum fold_real ofBits_negInf)
open Cert.RingIdeal.Ring (lift_row)

open Idealize.ShloMosaic
open Idealize.ShloMosaic.TcCoe
open Idealize.SL.Sem
open Idealize.ShloMosaic.ValueIdx
open Idealize.ShloMosaic.StackMember (dotGeneral_plain_apply)
open scoped BigOperators

abbrev Whole : Type := Fin 131072 → Fin 512 → ℝ

def IsWhole (x : S131072x512.Idx → EReal) (q : Whole) : Prop := ∀ i d, x (ix2 i d) = ((q i d : ℝ) : EReal)

/-- The scaled score of query row `i` against key row `j`. -/
def wscore (q k : Whole) (i j : Fin 131072) : ℝ := (∑ d : Fin 512, q i d * k j d) * (Real.sqrt 512)⁻¹

variable {x y z : S131072x512.Idx → EReal} {q k : Whole}

abbrev wide (x : FVec Ideal S131072x512 .bf16) : FVec Ideal S131072x512 .f32 := extf .f32 x bitsLt_bf16_f32

abbrev turned (y : FVec Ideal S131072x512 .bf16) : FVec Ideal S512x131072 .f32 := transpose S512x131072 [1, 0] (wide y) transposes_S131072x512_S512x131072_1_0

theorem sqrt_const (j : S_.Idx) : Host.sqrt (constant (F := Ideal) S_ .f32 0x44000000#32) j = ((Real.sqrt 512 : ℝ) : EReal) := by
  have h : Ideal.ofBits .f32 0x44000000#32 = ((512 : ℝ) : EReal) := by
    simp [Ideal.ofBits, Ideal.ieee, -EReal.coe_mul]; norm_num
  show Ideal.sqrt (Ideal.ofBits .f32 0x44000000#32) = _
  rw [h, Ideal.sqrt_coe, if_neg (by norm_num)]

theorem refScore_at (hx : IsWhole x q) (hy : IsWhole y k) (i j : Fin 131072) :
    refScore (F := Ideal) x y (ix2 i j) = ((wscore q k i j : ℝ) : EReal) := by
  unfold refScore
  rw [hostDivf_apply, broadcastInDim_scalar_apply, sqrt_const,
    Ideal.div_coe (Real.sqrt_ne_zero'.mpr (by norm_num))]
  have h := dotGeneral_plain_apply (m := 131072) (n := 131072) none (wide x)
      (turned y) i j
  refine (congrArg (· * _) h).trans ?_
  have h2 : ∀ d : Fin 512, (wide x : S131072x512.Idx → EReal) (ix2 i d)
      * (turned y : S512x131072.Idx → EReal) (ix2 d j)
      = ((q i d * k j d : ℝ) : EReal) := fun d => by
    rw [EReal.coe_mul]
    exact congrArg₂ (· * ·) (hx i d) ((transpose_ix2_apply (wide y) _ d j).trans (hy j d))
  rw [Finset.sum_congr rfl fun d _ => h2 d, sum_real, ← EReal.coe_mul, one_div]
  rfl

theorem stretch_at (w : S131072.Idx → EReal) (i j : Fin 131072) : stretch (F := Ideal) w (ix2 i j) = w (ix1 i) := by
  unfold stretch broadcastInDim
  refine congrArg w ?_
  funext a; apply Fin.ext
  fin_cases a; rfl

theorem rowmax_at {s : S131072x131072.Idx → EReal} {t : Fin 131072 → Fin 131072 → ℝ} (hs : ∀ i j, s (ix2 i j) = ((t i j : ℝ) : EReal)) (i : Fin 131072) :
    ∃ M : ℝ, (Host.reduce (FloatOps.maximumf (F := Ideal) (φ := .f32)) s (constant (F := Ideal) S_ .f32 0xFF800000#32) reducesTo_S131072x131072_S131072_d1 h_S_ : S131072.Idx → EReal) (ix1 i) = (M : EReal) := by
  have hr : S131072x131072.Reduces [1] S131072 := by decide
  obtain ⟨M, hM⟩ := fold_real (n := 131072) (by norm_num) (t i)
  refine ⟨M, ?_⟩
  rw [← hM]
  refine (Host.reduce_eq_fold_single (FloatOps.maximumf (F := Ideal) (φ := .f32)) s (constant (F := Ideal) S_ .f32 0xFF800000#32) reducesTo_S131072x131072_S131072_d1 hr h_S_ (ix1 i)).trans ?_
  have hf : (s ∘ hr.lift (ix1 i)) = fun c : Fin 131072 => ((t i c : ℝ) : EReal) := by
    funext c
    exact (congrArg s (lift_row hr i c)).trans (hs i c)
  have hb : (constant (F := Ideal) S_ .f32 0xFF800000#32 : S_.Idx → EReal) (Shape.Idx.first h_S_) = (⊥ : EReal) := ofBits_negInf
  exact congrArg₂ (fun b f => (Finset.univ : Finset (Fin 131072)).fold max b f) hb hf

theorem rowsum_at {s : S131072x131072.Idx → EReal} {t : Fin 131072 → Fin 131072 → ℝ} (hs : ∀ i j, s (ix2 i j) = ((t i j : ℝ) : EReal)) (i : Fin 131072) :
    (Host.reduceAdd (F := Ideal) (φ := .f32) s (constant S_ .f32 0x00000000#32) reducesTo_S131072x131072_S131072_d1 h_S_ : S131072.Idx → EReal) (ix1 i)
      = ((∑ j, t i j : ℝ) : EReal) := by
  have hr : S131072x131072.Reduces [1] S131072 := by decide
  rw [hostReduceAdd_apply, Ideal.hostReduceAdd_single _ hr, ← sum_real]
  have hb : (constant (F := Ideal) S_ .f32 0x00000000#32 : S_.Idx → EReal) (Shape.Idx.first h_S_) = (0 : EReal) := Ideal.ofBits_zero_f32
  rw [hb, zero_add]
  exact Finset.sum_congr rfl fun c _ => (congrArg s (lift_row hr i c)).trans (hs i c)

theorem refExp_at {s : S131072x131072.Idx → EReal} {t : Fin 131072 → Fin 131072 → ℝ} (hs : ∀ i j, s (ix2 i j) = ((t i j : ℝ) : EReal)) (i : Fin 131072) :
    ∃ M : ℝ, ∀ j, refExp (F := Ideal) s (ix2 i j) = ((Real.exp (t i j - M) : ℝ) : EReal) := by
  obtain ⟨M, hM⟩ := rowmax_at hs i
  refine ⟨M, fun j => ?_⟩
  unfold refExp
  have h : (subf (F := Ideal) (φ := .f32) s (stretch (Host.reduce FloatOps.maximumf s (constant S_ .f32 0xFF800000#32) reducesTo_S131072x131072_S131072_d1 h_S_)) : S131072x131072.Idx → EReal) (ix2 i j)
      = ((t i j - M : ℝ) : EReal) := by
    refine (congrArg₂ (· - ·) (hs i j) ((stretch_at _ i j).trans hM)).trans ?_
    exact (EReal.coe_sub _ _).symm
  refine (congrArg Ideal.exp h).trans ?_
  exact Ideal.exp_coe _

/-- The reference at row `i`, column `d`. -/
theorem refOut_at (hx : IsWhole x q) (hy : IsWhole y k) (i : Fin 131072) (d : Fin 512) :
    refOut (F := Ideal) x y z (ix2 i d)
      = (∑ j, ((Real.exp (wscore q k i j) : ℝ) : EReal) * z (ix2 j d)) * ((1 / ∑ j, Real.exp (wscore q k i j) : ℝ) : EReal) := by
  choose M hM using fun i => refExp_at (refScore_at hx hy) i
  have hpos : ∀ i, 0 < ∑ j, Real.exp (wscore q k i j - M i) := fun i =>
    Finset.sum_pos (fun j _ => Real.exp_pos _) ⟨0, Finset.mem_univ _⟩
  have hn : ∀ j, (refNorm (F := Ideal) (refExp (refScore x y)) : S131072x131072.Idx → EReal) (ix2 i j)
      = ((Real.exp (wscore q k i j - M i) * (1 / ∑ j, Real.exp (wscore q k i j - M i)) : ℝ) : EReal) := fun j => by
    unfold refNorm
    rw [hostDivf_apply, stretch_at, rowsum_at hM, hM i j, Ideal.div_coe (hpos i).ne', EReal.coe_mul]
  unfold refOut
  refine (dotGeneral_plain_apply (m := 131072) (n := 512) none (refNorm (F := Ideal) (refExp (refScore x y))) (wide z) i d).trans ?_
  have h2 : ∀ j : Fin 131072, (refNorm (F := Ideal) (refExp (refScore x y)) : S131072x131072.Idx → EReal) (ix2 i j)
      * (wide z : S131072x512.Idx → EReal) (ix2 j d)
      = ((Real.exp (wscore q k i j - M i) * (1 / ∑ j, Real.exp (wscore q k i j - M i)) : ℝ) : EReal) * z (ix2 j d) := fun j =>
    congrArg (fun a : EReal => a * z (ix2 j d)) (hn j)
  refine (Finset.sum_congr rfl fun j _ => h2 j).trans ?_
  have he : ∀ j, Real.exp (wscore q k i j - M i) = Real.exp (wscore q k i j) * Real.exp (-M i) := fun j => by
    rw [sub_eq_add_neg, Real.exp_add]
  have hs : ∑ j, Real.exp (wscore q k i j - M i) = (∑ j, Real.exp (wscore q k i j)) * Real.exp (-M i) := by
    rw [Finset.sum_mul]; exact Finset.sum_congr rfl fun j _ => he j
  have hp : (0 : ℝ) < ∑ j, Real.exp (wscore q k i j) := Finset.sum_pos (fun j _ => Real.exp_pos _) ⟨0, Finset.mem_univ _⟩
  have hm := Real.exp_pos (-M i)
  rw [scale_sum _ (one_div_pos.mpr hp).le]
  refine Finset.sum_congr rfl fun j _ => ?_
  rw [mul_right_comm, ← EReal.coe_mul, hs, he j]
  refine congrArg (fun a : ℝ => (a : EReal) * z (ix2 j d)) ?_
  field_simp

end Cert.WholeIdeal.Line

end
-- ==== Proof.Many.Whole.lean ====
/-
# The kernel computes the reference

The 32 devices' blocks make up the reference's arrays, and a device's hops visit each block once, so its sum over the keys
of the blocks is the reference's sum over all the keys, and the kernel's result is the device's block of the reference's.
-/
module

public import proofs.«01_k».proof.Proof.Many.Value
public import proofs.«01_k».proof.Proof.Whole
public import proofs.«01_k».proof.Proof.Many.RefValue
public import proofs.«01_k».proof.Proof.Gen.Pre_finite_KernelIdeal

@[expose] public section

noncomputable section

namespace Cert.RingIdeal.Ring

open Cert.RingIdeal Cert.RingIdeal.Gen
open Cert.WholeIdeal.Line (Whole IsWhole wscore refOut refOut_at)

open Idealize.ShloMosaic
open Idealize.ShloMosaic.TcCoe
open Idealize.SL.Sem
open Idealize.ShloMosaic.ValueIdx
open scoped BigOperators
open Cert.KernelIdeal.Ring (real_of_finite)

/-! ## Finite inputs are real numbers -/

def AllReal (x : S4096x512.Idx → EReal) : Prop := ∀ i, x i = (((x i).toReal : ℝ) : EReal)

/-! ## Blocks -/

/-- Row `r` of block `e`. -/
def rowAt (e : Dev nD) (r : Fin 4096) : Fin 131072 := ⟨e.val * 4096 + r.val, by have h1 : e.val < 32 := e.isLt; have h2 := r.isLt; omega⟩

theorem exists_rowAt (i : Fin 131072) : ∃ (e : Dev nD) (r : Fin 4096), i = rowAt e r := by
  have h := i.isLt
  refine ⟨⟨i.val / 4096, show _ < 32 by omega⟩, ⟨i.val % 4096, Nat.mod_lt _ (by norm_num)⟩, Fin.ext ?_⟩
  show i.val = i.val / 4096 * 4096 + i.val % 4096
  omega

theorem sum_rows {R : Type} [AddCommMonoid R] (f : Fin 131072 → R) : ∑ i, f i = ∑ e : Dev nD, ∑ r : Fin 4096, f (rowAt e r) := by
  rw [← Fintype.sum_prod_type', ← Equiv.sum_comp (finProdFinEquiv (m := 32) (n := 4096)) f]
  refine Finset.sum_congr rfl fun p _ => congrArg f (Fin.ext ?_)
  show p.2.val + 4096 * p.1.val = p.1.val * 4096 + p.2.val
  omega

theorem whose_val (c : Dev nD) : ∀ n, (whose c n).val = (c.val + 31 * n) % 32
  | 0 => (Nat.mod_eq_of_lt c.isLt).symm
  | n + 1 => by
    show ((whose c n).val + 31) % 32 = _
    rw [whose_val c n]; omega

/-- The hops visit every block once. -/
theorem sum_whose {R : Type} [AddCommMonoid R] (c : Dev nD) (f : Dev nD → R) : ∑ j ∈ Finset.range 32, f (whose c j) = ∑ e : Dev nD, f e := by
  have hi : Function.Injective fun j : Dev nD => whose c j.val := fun j j' h => by
    have h1 := whose_val c j.val
    rw [show whose c j.val = whose c j'.val from h, whose_val c j'.val] at h1
    have h2 : j.val < 32 := j.isLt
    have h3 : j'.val < 32 := j'.isLt
    exact Fin.ext (by omega)
  rw [Finset.sum_range]
  exact Equiv.sum_comp (Equiv.ofBijective _ (Finite.injective_iff_bijective.mp hi)) f

theorem block_at (x : (⟨2, ![131072, 512]⟩ : Shape).Idx → EReal) (c : Dev nD) (r : Fin 4096) (d : Fin 512) :
    (Layout.block ⟨2, ![4096, 512]⟩ ⟨2, ![131072, 512]⟩ 0 32 c x) (ix2 r d) = x (ix2 (rowAt c r) d) := by
  refine congrArg x ?_
  funext a; apply Fin.ext
  fin_cases a <;> rfl

/-- Block `c` of a whole matrix. -/
def cut (q : Whole) (c : Dev nD) : Mat := fun r d => q (rowAt c r) d

variable {m : (ℓ : Loc nD τ sig) → Buf (Elt Ideal) ℓ} {ρ : Dev nD → PrngReg}

/-- A device's result row is the reference's. -/
theorem result_whole {x y z : Cert.WholeIdeal.S131072x512.Idx → EReal} {q k : Whole} (hx : IsWhole x q) (hy : IsWhole y k)
    (hq : ∀ c : Dev nD, IsMat (qIn m ρ c) (cut q c)) (hk : ∀ c : Dev nD, IsMat (kIn m c) (cut k c)) (hz : ∀ (c : Dev nD) (r : Fin 4096) (d : Fin 512), vIn m c (ix2 r d) = z (ix2 (rowAt c r) d))
    (c : Dev nD) (r : Fin 4096) (d : Fin 512) :
    result m ρ c (ix2 r d : S4096x512.Idx) = refOut (F := Ideal) x y z (ix2 (rowAt c r) d) := by
  rw [result_at (hq c) hk r d, refOut_at hx hy (rowAt c r) d]
  refine congrArg₂ (fun (a : EReal) (b : ℝ) => a * ((1 / b : ℝ) : EReal)) ?_ ?_
  · rw [sum_rows]
    refine (sum_whose c fun e => ∑ t : Fin 4096, ((Real.exp (score (cut q c) (cut k e) r t) : ℝ) : EReal) * vIn m e (ix2 t d)).trans ?_
    refine Finset.sum_congr rfl fun e _ => Finset.sum_congr rfl fun t _ => ?_
    rw [hz e t d]; rfl
  · rw [sum_rows]
    exact sum_whose c fun e => ∑ t : Fin 4096, Real.exp (score (cut q c) (cut k e) r t)

/-- An array whose blocks are finite is a matrix of real numbers. -/
theorem whole_of_blocks {x : (⟨2, ![131072, 512]⟩ : Shape).Idx → EReal} {b : Dev nD → S4096x512.Idx → EReal}
    (hb : ∀ c : Dev nD, b c = Layout.block ⟨2, ![4096, 512]⟩ ⟨2, ![131072, 512]⟩ 0 32 c x)
    (hf : ∀ c : Dev nD, AllReal (b c)) :
    ∃ q : Whole, IsWhole x q ∧ ∀ c : Dev nD, IsMat (b c) (cut q c) := by
  have hm : ∀ (c : Dev nD) (r : Fin 4096) (d : Fin 512), b c (ix2 r d) = x (ix2 (rowAt c r) d) := fun c r d => by
    rw [hb c]; exact block_at x c r d
  refine ⟨fun i d => (x (ix2 i d)).toReal, fun i d => ?_, fun c r d => ?_⟩
  · obtain ⟨e, r, rfl⟩ := exists_rowAt i
    show x (ix2 (rowAt e r) d) = (((x (ix2 (rowAt e r) d)).toReal : ℝ) : EReal)
    rw [← hm e r d]; exact hf e _
  · show b c (ix2 r d) = (((x (ix2 (rowAt c r) d)).toReal : ℝ) : EReal)
    rw [← hm c r d]; exact hf c _

theorem algebraic : Cert.algebraic_RingIdeal_WholeIdeal_pre_finite_KernelIdeal := by
  intro m g m' g' hpre hargs
  have hf0 : ∀ c : Dev nD, AllReal (m ((c.tc : Thread nD τ).loc main_arg0)) :=
    fun c i => real_of_finite (congrFun (hpre c).1 i)
  have hf1 : ∀ c : Dev nD, AllReal (m ((c.tc : Thread nD τ).loc main_arg1)) :=
    fun c i => real_of_finite (congrFun (hpre c).2 i)
  obtain ⟨q, hx, hq⟩ := whole_of_blocks (fun c => (hargs c).1) hf0
  obtain ⟨k, hy, hk⟩ := whole_of_blocks (fun c => (hargs c).2.1) hf1
  refine ⟨refOut (F := Ideal) (m' (((0 : Dev Cert.WholeIdeal.nD).tc : Thread Cert.WholeIdeal.nD Cert.WholeIdeal.τ).loc Cert.WholeIdeal.main_arg0))
      (m' (((0 : Dev Cert.WholeIdeal.nD).tc : Thread Cert.WholeIdeal.nD Cert.WholeIdeal.τ).loc Cert.WholeIdeal.main_arg1))
      (m' (((0 : Dev Cert.WholeIdeal.nD).tc : Thread Cert.WholeIdeal.nD Cert.WholeIdeal.τ).loc Cert.WholeIdeal.main_arg2)),
    θ_run_mono (run_main m g) fun r h c => ⟨?_, h.1.kept c⟩,
    θ_run_mono (Cert.WholeIdeal.Line.run (F := Ideal) m' g') fun r h => h 0⟩
  refine ((h.1 c).1 (1 : Fin 2)).trans ?_
  refine finalA_out.trans ?_
  funext i
  obtain ⟨a, b, rfl⟩ : ∃ a b, i = ix2 a b := ⟨_, _, eq_ix2 i⟩
  refine (result_whole hx hy (fun c r d => (qIn_at r d).trans (hq c r d)) hk (fun c r d => (congrFun (hargs c).2.2 (ix2 r d)).trans (block_at _ c r d)) c a b).trans ?_
  exact (block_at _ c a b).symm

end Cert.RingIdeal.Ring

end
-- ==== Proof.lean ====
/-
# The certificate's claim

For the ring of two devices and for the ring of 32: frames of the kernel over machine floats and over the extended reals,
and of the reference; the named constant; and the value: a device's result is its block of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Ring
public import proofs.«01_k».proof.Proof.Gen.RingIdeal
public import proofs.«01_k».proof.Proof.Gen.WholeIdeal
public import proofs.«01_k».proof.Proof.Gen.Pre_finite_KernelIdeal
public import proofs.«01_k».proof.Proof.Gen.Pre_finite_ReferenceIdeal
public import proofs.«01_k».proof.Proof.Gen.Pre_finite_WholeIdeal
public import proofs.«01_k».proof.Proof.Kept
public import proofs.«01_k».proof.Proof.RefRun
public import proofs.«01_k».proof.Proof.Whole
public import proofs.«01_k».proof.Proof.Many.Kept
public import proofs.«01_k».proof.Proof.Many.RefRun
public import proofs.«01_k».proof.Proof.Many.Whole

@[expose] public section

noncomputable section

namespace Cert.Proof

open Idealize.ShloMosaic

theorem preserves : Cert.preserves_Kernel_KernelIdeal :=
  IdealRules.named_const.statement Cert.KernelIdeal.κ "s" .f32 0x3D3504F3#32 (((Real.sqrt 512)⁻¹ : ℝ) : EReal) rfl

theorem preserves_ring : Cert.preserves_Ring_RingIdeal :=
  IdealRules.named_const.statement Cert.RingIdeal.κ "s" .f32 0x3D3504F3#32 (((Real.sqrt 512)⁻¹ : ℝ) : EReal) rfl

theorem claim : Cert.Claim :=
  ⟨Cert.Kernel.Gen.facts, Cert.KernelIdeal.Gen.facts, Cert.ReferenceIdeal.Gen.facts, Cert.Ring.Gen.facts, Cert.RingIdeal.Gen.facts,
    Cert.WholeIdeal.Gen.facts, Cert.Pre_finite_KernelIdeal.Gen.facts, Cert.Pre_finite_ReferenceIdeal.Gen.facts,
    Cert.Pre_finite_WholeIdeal.Gen.facts, Cert.KernelIdeal.Ring.frame_bits, Cert.KernelIdeal.Ring.frame_ideal,
    Cert.KernelIdeal.Ring.frame_ideal_finite, Cert.ReferenceIdeal.Line.frame, Cert.ReferenceIdeal.Line.frame_finite,
    Cert.RingIdeal.Ring.frame_bits, Cert.RingIdeal.Ring.frame_ideal, Cert.RingIdeal.Ring.frame_ideal_finite,
    Cert.WholeIdeal.Line.frame, Cert.WholeIdeal.Line.frame_finite, preserves, Cert.KernelIdeal.Ring.algebraic, preserves_ring,
    Cert.RingIdeal.Ring.algebraic⟩

end Cert.Proof

end
